-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_routed [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_routed [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v742)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v742) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_routed [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_routed (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_routed (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x2048x3072 : Shape := ⟨3, ![16, 2048, 3072]⟩
abbrev S16x256x3072 : Shape := ⟨3, ![16, 256, 3072]⟩
abbrev S16x15x31 : Shape := ⟨3, ![16, 15, 31]⟩
abbrev S_ : Shape := ⟨0, ![]⟩

class Facts : Prop where
  bcast_S_S16x2048x3072 : S_.BroadcastsInDim S16x2048x3072 (![] : Fin 0 → Fin S16x2048x3072.rank)
  bcast_S_S16x256x3072 : S_.BroadcastsInDim S16x256x3072 (![] : Fin 0 → Fin S16x256x3072.rank)
  bcast_S_S16x15x31 : S_.BroadcastsInDim S16x15x31 (![] : Fin 0 → Fin S16x15x31.rank)

variable [Facts]

def fn {F : FTy → Type} [FloatOps F] (main_arg0 : FVec F S16x2048x3072 .bf16) (main_arg1 : FVec F S16x256x3072 .bf16) (main_arg2 : FVec F S16x15x31 .f32) : IVec S16x2048x3072 1 × IVec S16x256x3072 1 × IVec S16x15x31 1 :=
  let main_v0 : FVec F S16x2048x3072 .bf16 := Host.absf main_arg0
  let main_cst : FVec F S_ .bf16 := constant S_ .bf16 0x7F80#16
  let main_v1 : FVec F S16x2048x3072 .bf16 := broadcastInDim S16x2048x3072 ![] bcast_S_S16x2048x3072 main_cst
  let main_v2 : IVec S16x2048x3072 1 := cmpf .olt main_v0 main_v1
  let main_v3 : FVec F S16x256x3072 .bf16 := Host.absf main_arg1
  let main_cst_0 : FVec F S_ .bf16 := constant S_ .bf16 0x7F80#16
  let main_v4 : FVec F S16x256x3072 .bf16 := broadcastInDim S16x256x3072 ![] bcast_S_S16x256x3072 main_cst_0
  let main_v5 : IVec S16x256x3072 1 := cmpf .olt main_v3 main_v4
  let main_v6 : FVec F S16x15x31 .f32 := Host.absf main_arg2
  let main_cst_1 : FVec F S_ .f32 := constant S_ .f32 0x7F800000#32
  let main_v7 : FVec F S16x15x31 .f32 := broadcastInDim S16x15x31 ![] bcast_S_S16x15x31 main_cst_1
  let main_v8 : IVec S16x15x31 1 := cmpf .olt main_v6 main_v7
  (main_v2, main_v5, main_v8)
-- ==== Pre_routed.lean ====
abbrev S16x2048x1024 : Shape := ⟨3, ![16, 2048, 1024]⟩
abbrev S16x16x2048 : Shape := ⟨3, ![16, 16, 2048]⟩
abbrev S16x16x256 : Shape := ⟨3, ![16, 16, 256]⟩
abbrev S16x1024x2048 : Shape := ⟨3, ![16, 1024, 2048]⟩
abbrev S16x16x1x2048 : Shape := ⟨4, ![16, 16, 1, 2048]⟩
abbrev S256 : Shape := ⟨1, ![256]⟩
abbrev S256x1 : Shape := ⟨2, ![256, 1]⟩
abbrev S1x1x256x1 : Shape := ⟨4, ![1, 1, 256, 1]⟩
abbrev S16x16x256x2048 : Shape := ⟨4, ![16, 16, 256, 2048]⟩
abbrev S16x16x256x1 : Shape := ⟨4, ![16, 16, 256, 1]⟩
abbrev S2048 : Shape := ⟨1, ![2048]⟩
abbrev S1x1x1x2048 : Shape := ⟨4, ![1, 1, 1, 2048]⟩
abbrev S_ : Shape := ⟨0, ![]⟩

class Facts : Prop where
  bcast_S16x16x2048_S16x16x1x2048_0_1_3 : S16x16x2048.BroadcastsInDim S16x16x1x2048 (![0, 1, 3] : Fin 3 → Fin S16x16x1x2048.rank)
  bcast_S256_S256x1_0 : S256.BroadcastsInDim S256x1 (![0] : Fin 1 → Fin S256x1.rank)
  bcast_S256x1_S1x1x256x1_2_3 : S256x1.BroadcastsInDim S1x1x256x1 (![2, 3] : Fin 2 → Fin S1x1x256x1.rank)
  bcast_S16x16x1x2048_S16x16x256x2048_0_1_2_3 : S16x16x1x2048.BroadcastsInDim S16x16x256x2048 (![0, 1, 2, 3] : Fin 4 → Fin S16x16x256x2048.rank)
  bcast_S1x1x256x1_S16x16x256x2048_0_1_2_3 : S1x1x256x1.BroadcastsInDim S16x16x256x2048 (![0, 1, 2, 3] : Fin 4 → Fin S16x16x256x2048.rank)
  bcast_S16x16x256_S16x16x256x1_0_1_2 : S16x16x256.BroadcastsInDim S16x16x256x1 (![0, 1, 2] : Fin 3 → Fin S16x16x256x1.rank)
  bcast_S2048_S1x1x1x2048_3 : S2048.BroadcastsInDim S1x1x1x2048 (![3] : Fin 1 → Fin S1x1x1x2048.rank)
  bcast_S16x16x256x1_S16x16x256x2048_0_1_2_3 : S16x16x256x1.BroadcastsInDim S16x16x256x2048 (![0, 1, 2, 3] : Fin 4 → Fin S16x16x256x2048.rank)
  bcast_S1x1x1x2048_S16x16x256x2048_0_1_2_3 : S1x1x1x2048.BroadcastsInDim S16x16x256x2048 (![0, 1, 2, 3] : Fin 4 → Fin S16x16x256x2048.rank)
  bcast_S_S16x16x256 : S_.BroadcastsInDim S16x16x256 (![] : Fin 0 → Fin S16x16x256.rank)

variable [Facts]

def fn {F : FTy → Type} [FloatOps F] (main_arg0 : FVec F S16x2048x1024 .bf16) (main_arg1 : IVec S16x16x2048 32) (main_arg2 : FVec F S16x16x2048 .f32) (main_arg3 : IVec S16x16x256 32) (main_arg4 : FVec F S16x1024x2048 .f32) (main_arg5 : FVec F S16x1024x2048 .f32) (main_arg6 : FVec F S16x2048x1024 .f32) : IVec S16x16x256 1 × IVec S16x16x256 1 × IVec S16x16x256x2048 1 :=
  let main_v0 : IVec S16x16x1x2048 32 := broadcastInDim S16x16x1x2048 ![0, 1, 3] bcast_S16x16x2048_S16x16x1x2048_0_1_3 main_arg1
  let main_v1 : IVec S256 32 := iotaInDim S256 32 0
  let main_v2 : IVec S256x1 32 := broadcastInDim S256x1 ![0] bcast_S256_S256x1_0 main_v1
  let main_v3 : IVec S1x1x256x1 32 := broadcastInDim S1x1x256x1 ![2, 3] bcast_S256x1_S1x1x256x1_2_3 main_v2
  let main_v4 : IVec S16x16x256x2048 32 := broadcastInDim S16x16x256x2048 ![0, 1, 2, 3] bcast_S16x16x1x2048_S16x16x256x2048_0_1_2_3 main_v0
  let main_v5 : IVec S16x16x256x2048 32 := broadcastInDim S16x16x256x2048 ![0, 1, 2, 3] bcast_S1x1x256x1_S16x16x256x2048_0_1_2_3 main_v3
  let main_v6 : IVec S16x16x256x2048 1 := cmpi .eq main_v4 main_v5
  let main_v7 : IVec S16x16x256x1 32 := broadcastInDim S16x16x256x1 ![0, 1, 2] bcast_S16x16x256_S16x16x256x1_0_1_2 main_arg3
  let main_v8 : IVec S2048 32 := iotaInDim S2048 32 0
  let main_v9 : IVec S1x1x1x2048 32 := broadcastInDim S1x1x1x2048 ![3] bcast_S2048_S1x1x1x2048_3 main_v8
  let main_v10 : IVec S16x16x256x2048 32 := broadcastInDim S16x16x256x2048 ![0, 1, 2, 3] bcast_S16x16x256x1_S16x16x256x2048_0_1_2_3 main_v7
  let main_v11 : IVec S16x16x256x2048 32 := broadcastInDim S16x16x256x2048 ![0, 1, 2, 3] bcast_S1x1x1x2048_S16x16x256x2048_0_1_2_3 main_v9
  let main_v12 : IVec S16x16x256x2048 1 := cmpi .eq main_v10 main_v11
  let main_c : IVec S_ 32 := constantI S_ 32 0#32
  let main_v13 : IVec S16x16x256 32 := broadcastInDim S16x16x256 ![] bcast_S_S16x16x256 main_c
  let main_v14 : IVec S16x16x256 1 := cmpi .sge main_arg3 main_v13
  let main_c_0 : IVec S_ 32 := constantI S_ 32 2048#32
  let main_v15 : IVec S16x16x256 32 := broadcastInDim S16x16x256 ![] bcast_S_S16x16x256 main_c_0
  let main_v16 : IVec S16x16x256 1 := cmpi .slt main_arg3 main_v15
  let main_v17 : IVec S16x16x256x2048 1 := xori main_v6 main_v12
  let main_v18 : IVec S16x16x256x2048 1 := noti main_v17
  (main_v14, main_v16, main_v18)
-- ==== Kernel.lean ====
abbrev S16x2048x3072 : Shape := ⟨3, ![16, 2048, 3072]⟩
abbrev S16x256x3072 : Shape := ⟨3, ![16, 256, 3072]⟩
abbrev S16x15x31 : Shape := ⟨3, ![16, 15, 31]⟩
abbrev S_ : Shape := ⟨0, ![]⟩
abbrev S16x15x159 : Shape := ⟨3, ![16, 15, 159]⟩
abbrev S16x15x64 : Shape := ⟨3, ![16, 15, 64]⟩
abbrev S16x15x1x64 : Shape := ⟨4, ![16, 15, 1, 64]⟩
abbrev S16x15x16x64 : Shape := ⟨4, ![16, 15, 16, 64]⟩
abbrev S16x15x64x64 : Shape := ⟨4, ![16, 15, 64, 64]⟩
abbrev S4x64 : Shape := ⟨2, ![4, 64]⟩
abbrev S256 : Shape := ⟨1, ![256]⟩
abbrev S12x64 : Shape := ⟨2, ![12, 64]⟩
abbrev S768 : Shape := ⟨1, ![768]⟩
abbrev S1x768 : Shape := ⟨2, ![1, 768]⟩
abbrev S256x1 : Shape := ⟨2, ![256, 1]⟩
abbrev S256x768 : Shape := ⟨2, ![256, 768]⟩
abbrev S16x1x64x64 : Shape := ⟨4, ![16, 1, 64, 64]⟩
abbrev S16x64x64 : Shape := ⟨3, ![16, 64, 64]⟩
abbrev S16x64x1x64 : Shape := ⟨4, ![16, 64, 1, 64]⟩
abbrev S16x64x12x64 : Shape := ⟨4, ![16, 64, 12, 64]⟩
abbrev S16x1x64x12x64 : Shape := ⟨5, ![16, 1, 64, 12, 64]⟩
abbrev S16x4x64x12x64 : Shape := ⟨5, ![16, 4, 64, 12, 64]⟩
abbrev S16x256x768 : Shape := ⟨3, ![16, 256, 768]⟩
abbrev S1x256x768 : Shape := ⟨3, ![1, 256, 768]⟩
abbrev S1x16x256x768 : Shape := ⟨4, ![1, 16, 256, 768]⟩
abbrev S3x16x256x768 : Shape := ⟨4, ![3, 16, 256, 768]⟩
abbrev S3x8x2x256x768 : Shape := ⟨5, ![3, 8, 2, 256, 768]⟩
abbrev S16x2048x1024 : Shape := ⟨3, ![16, 2048, 1024]⟩
abbrev S1x256x128 : Shape := ⟨3, ![1, 256, 128]⟩
abbrev S1x2048x128 : Shape := ⟨3, ![1, 2048, 128]⟩
abbrev S3x1x2x256x768 : Shape := ⟨5, ![3, 1, 2, 256, 768]⟩
abbrev S256x128 : Shape := ⟨2, ![256, 128]⟩
abbrev S1x768x128 : Shape := ⟨3, ![1, 768, 128]⟩
abbrev S768x128 : Shape := ⟨2, ![768, 128]⟩
abbrev S1x1x1x256x768 : Shape := ⟨5, ![1, 1, 1, 256, 768]⟩
abbrev S256x256 : Shape := ⟨2, ![256, 256]⟩

abbrev nBuf : Space → Nat
  | .hbm => 820
  | .vmem => 14
  | .smem => 0
  | _ => 0

abbrev hbmTy0_0 (i : Nat) : BufTy := match i % 128 with
  | 0 => ⟨S16x2048x3072, .bf16⟩
  | 1 => ⟨S16x256x3072, .bf16⟩
  | 2 => ⟨S16x15x31, .f32⟩
  | 3 => ⟨S_, .i32⟩
  | 4 => ⟨S_, .f32⟩
  | 5 => ⟨S16x15x159, .f32⟩
  | 6 => ⟨S16x15x64, .f32⟩
  | 7 => ⟨S16x15x64, .f32⟩
  | 8 => ⟨S16x15x64, .f32⟩
  | 9 => ⟨S16x15x64, .f32⟩
  | 10 => ⟨S16x15x64, .f32⟩
  | 11 => ⟨S16x15x64, .f32⟩
  | 12 => ⟨S16x15x64, .f32⟩
  | 13 => ⟨S16x15x64, .f32⟩
  | 14 => ⟨S16x15x64, .f32⟩
  | 15 => ⟨S16x15x64, .f32⟩
  | 16 => ⟨S16x15x64, .f32⟩
  | 17 => ⟨S16x15x64, .f32⟩
  | 18 => ⟨S16x15x64, .f32⟩
  | 19 => ⟨S16x15x64, .f32⟩
  | 20 => ⟨S16x15x64, .f32⟩
  | 21 => ⟨S16x15x64, .f32⟩
  | 22 => ⟨S16x15x64, .f32⟩
  | 23 => ⟨S16x15x64, .f32⟩
  | 24 => ⟨S16x15x64, .f32⟩
  | 25 => ⟨S16x15x64, .f32⟩
  | 26 => ⟨S16x15x64, .f32⟩
  | 27 => ⟨S16x15x64, .f32⟩
  | 28 => ⟨S16x15x64, .f32⟩
  | 29 => ⟨S16x15x64, .f32⟩
  | 30 => ⟨S16x15x64, .f32⟩
  | 31 => ⟨S16x15x64, .f32⟩
  | 32 => ⟨S16x15x64, .f32⟩
  | 33 => ⟨S16x15x64, .f32⟩
  | 34 => ⟨S16x15x64, .f32⟩
  | 35 => ⟨S16x15x64, .f32⟩
  | 36 => ⟨S16x15x64, .f32⟩
  | 37 => ⟨S16x15x64, .f32⟩
  | 38 => ⟨S16x15x64, .f32⟩
  | 39 => ⟨S16x15x64, .f32⟩
  | 40 => ⟨S16x15x64, .f32⟩
  | 41 => ⟨S16x15x64, .f32⟩
  | 42 => ⟨S16x15x64, .f32⟩
  | 43 => ⟨S16x15x64, .f32⟩
  | 44 => ⟨S16x15x64, .f32⟩
  | 45 => ⟨S16x15x64, .f32⟩
  | 46 => ⟨S16x15x64, .f32⟩
  | 47 => ⟨S16x15x64, .f32⟩
  | 48 => ⟨S16x15x64, .f32⟩
  | 49 => ⟨S16x15x64, .f32⟩
  | 50 => ⟨S16x15x64, .f32⟩
  | 51 => ⟨S16x15x64, .f32⟩
  | 52 => ⟨S16x15x64, .f32⟩
  | 53 => ⟨S16x15x64, .f32⟩
  | 54 => ⟨S16x15x64, .f32⟩
  | 55 => ⟨S16x15x64, .f32⟩
  | 56 => ⟨S16x15x64, .f32⟩
  | 57 => ⟨S16x15x64, .f32⟩
  | 58 => ⟨S16x15x64, .f32⟩
  | 59 => ⟨S16x15x64, .f32⟩
  | 60 => ⟨S16x15x64, .f32⟩
  | 61 => ⟨S16x15x64, .f32⟩
  | 62 => ⟨S16x15x64, .f32⟩
  | 63 => ⟨S16x15x64, .f32⟩
  | 64 => ⟨S16x15x64, .f32⟩
  | 65 => ⟨S16x15x64, .f32⟩
  | 66 => ⟨S16x15x64, .f32⟩
  | 67 => ⟨S16x15x64, .f32⟩
  | 68 => ⟨S16x15x64, .f32⟩
  | 69 => ⟨S16x15x64, .f32⟩
  | 70 => ⟨S16x15x1x64, .f32⟩
  | 71 => ⟨S16x15x1x64, .f32⟩
  | 72 => ⟨S16x15x1x64, .f32⟩
  | 73 => ⟨S16x15x1x64, .f32⟩
  | 74 => ⟨S16x15x1x64, .f32⟩
  | 75 => ⟨S16x15x1x64, .f32⟩
  | 76 => ⟨S16x15x1x64, .f32⟩
  | 77 => ⟨S16x15x1x64, .f32⟩
  | 78 => ⟨S16x15x1x64, .f32⟩
  | 79 => ⟨S16x15x1x64, .f32⟩
  | 80 => ⟨S16x15x1x64, .f32⟩
  | 81 => ⟨S16x15x1x64, .f32⟩
  | 82 => ⟨S16x15x1x64, .f32⟩
  | 83 => ⟨S16x15x1x64, .f32⟩
  | 84 => ⟨S16x15x1x64, .f32⟩
  | 85 => ⟨S16x15x1x64, .f32⟩
  | 86 => ⟨S16x15x1x64, .f32⟩
  | 87 => ⟨S16x15x1x64, .f32⟩
  | 88 => ⟨S16x15x1x64, .f32⟩
  | 89 => ⟨S16x15x1x64, .f32⟩
  | 90 => ⟨S16x15x1x64, .f32⟩
  | 91 => ⟨S16x15x1x64, .f32⟩
  | 92 => ⟨S16x15x1x64, .f32⟩
  | 93 => ⟨S16x15x1x64, .f32⟩
  | 94 => ⟨S16x15x1x64, .f32⟩
  | 95 => ⟨S16x15x1x64, .f32⟩
  | 96 => ⟨S16x15x1x64, .f32⟩
  | 97 => ⟨S16x15x1x64, .f32⟩
  | 98 => ⟨S16x15x1x64, .f32⟩
  | 99 => ⟨S16x15x1x64, .f32⟩
  | 100 => ⟨S16x15x1x64, .f32⟩
  | 101 => ⟨S16x15x1x64, .f32⟩
  | 102 => ⟨S16x15x1x64, .f32⟩
  | 103 => ⟨S16x15x1x64, .f32⟩
  | 104 => ⟨S16x15x1x64, .f32⟩
  | 105 => ⟨S16x15x1x64, .f32⟩
  | 106 => ⟨S16x15x1x64, .f32⟩
  | 107 => ⟨S16x15x1x64, .f32⟩
  | 108 => ⟨S16x15x1x64, .f32⟩
  | 109 => ⟨S16x15x1x64, .f32⟩
  | 110 => ⟨S16x15x1x64, .f32⟩
  | 111 => ⟨S16x15x1x64, .f32⟩
  | 112 => ⟨S16x15x1x64, .f32⟩
  | 113 => ⟨S16x15x1x64, .f32⟩
  | 114 => ⟨S16x15x1x64, .f32⟩
  | 115 => ⟨S16x15x1x64, .f32⟩
  | 116 => ⟨S16x15x1x64, .f32⟩
  | 117 => ⟨S16x15x1x64, .f32⟩
  | 118 => ⟨S16x15x1x64, .f32⟩
  | 119 => ⟨S16x15x1x64, .f32⟩
  | 120 => ⟨S16x15x1x64, .f32⟩
  | 121 => ⟨S16x15x1x64, .f32⟩
  | 122 => ⟨S16x15x1x64, .f32⟩
  | 123 => ⟨S16x15x1x64, .f32⟩
  | 124 => ⟨S16x15x1x64, .f32⟩
  | 125 => ⟨S16x15x1x64, .f32⟩
  | 126 => ⟨S16x15x1x64, .f32⟩
  | 127 => ⟨S16x15x1x64, .f32⟩
  | _ => ⟨S16x2048x3072, .bf16⟩

abbrev hbmTy0_1 (i : Nat) : BufTy := match i % 128 with
  | 0 => ⟨S16x15x1x64, .f32⟩
  | 1 => ⟨S16x15x1x64, .f32⟩
  | 2 => ⟨S16x15x1x64, .f32⟩
  | 3 => ⟨S16x15x1x64, .f32⟩
  | 4 => ⟨S16x15x1x64, .f32⟩
  | 5 => ⟨S16x15x1x64, .f32⟩
  | 6 => ⟨S16x15x16x64, .f32⟩
  | 7 => ⟨S16x15x16x64, .f32⟩
  | 8 => ⟨S16x15x16x64, .f32⟩
  | 9 => ⟨S16x15x16x64, .f32⟩
  | 10 => ⟨S16x15x64x64, .f32⟩
  | 11 => ⟨S4x64, .i32⟩
  | 12 => ⟨S256, .i32⟩
  | 13 => ⟨S_, .i32⟩
  | 14 => ⟨S256, .i32⟩
  | 15 => ⟨S256, .i32⟩
  | 16 => ⟨S4x64, .i32⟩
  | 17 => ⟨S256, .i32⟩
  | 18 => ⟨S12x64, .i32⟩
  | 19 => ⟨S768, .i32⟩
  | 20 => ⟨S_, .i32⟩
  | 21 => ⟨S768, .i32⟩
  | 22 => ⟨S768, .i32⟩
  | 23 => ⟨S12x64, .i32⟩
  | 24 => ⟨S768, .i32⟩
  | 25 => ⟨S_, .i32⟩
  | 26 => ⟨S256, .i32⟩
  | 27 => ⟨S256, .i32⟩
  | 28 => ⟨S_, .i32⟩
  | 29 => ⟨S_, .i32⟩
  | 30 => ⟨S_, .i32⟩
  | 31 => ⟨S256, .i32⟩
  | 32 => ⟨S256, .i32⟩
  | 33 => ⟨S_, .i32⟩
  | 34 => ⟨S256, .i32⟩
  | 35 => ⟨S256, .i32⟩
  | 36 => ⟨S_, .i32⟩
  | 37 => ⟨S256, .i32⟩
  | 38 => ⟨S256, .i32⟩
  | 39 => ⟨S_, .i32⟩
  | 40 => ⟨S_, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S1x768, .i32⟩
  | 48 => ⟨S256x1, .i32⟩
  | 49 => ⟨S256x768, .i32⟩
  | 50 => ⟨S256x768, .i32⟩
  | 51 => ⟨S256x768, .i1⟩
  | 52 => ⟨S1x768, .i32⟩
  | 53 => ⟨S256x1, .i32⟩
  | 54 => ⟨S_, .i32⟩
  | 55 => ⟨S256x1, .i32⟩
  | 56 => ⟨S256x1, .i32⟩
  | 57 => ⟨S256x768, .i32⟩
  | 58 => ⟨S256x768, .i32⟩
  | 59 => ⟨S256x768, .i1⟩
  | 60 => ⟨S256x768, .i1⟩
  | 61 => ⟨S1x768, .i32⟩
  | 62 => ⟨S256x1, .i32⟩
  | 63 => ⟨S256x768, .i32⟩
  | 64 => ⟨S256x768, .i32⟩
  | 65 => ⟨S256x768, .i1⟩
  | 66 => ⟨S256x768, .i1⟩
  | 67 => ⟨S1x768, .i32⟩
  | 68 => ⟨S256x1, .i32⟩
  | 69 => ⟨S_, .i32⟩
  | 70 => ⟨S256x1, .i32⟩
  | 71 => ⟨S256x1, .i32⟩
  | 72 => ⟨S256x768, .i32⟩
  | 73 => ⟨S256x768, .i32⟩
  | 74 => ⟨S256x768, .i1⟩
  | 75 => ⟨S256x768, .i1⟩
  | 76 => ⟨S16x1x64x64, .f32⟩
  | 77 => ⟨S16x64x64, .f32⟩
  | 78 => ⟨S16x1x64x64, .f32⟩
  | 79 => ⟨S16x64x64, .f32⟩
  | 80 => ⟨S16x1x64x64, .f32⟩
  | 81 => ⟨S16x64x64, .f32⟩
  | 82 => ⟨S16x1x64x64, .f32⟩
  | 83 => ⟨S16x64x64, .f32⟩
  | 84 => ⟨S16x1x64x64, .f32⟩
  | 85 => ⟨S16x64x64, .f32⟩
  | 86 => ⟨S16x1x64x64, .f32⟩
  | 87 => ⟨S16x64x64, .f32⟩
  | 88 => ⟨S16x1x64x64, .f32⟩
  | 89 => ⟨S16x64x64, .f32⟩
  | 90 => ⟨S16x1x64x64, .f32⟩
  | 91 => ⟨S16x64x64, .f32⟩
  | 92 => ⟨S16x1x64x64, .f32⟩
  | 93 => ⟨S16x64x64, .f32⟩
  | 94 => ⟨S16x1x64x64, .f32⟩
  | 95 => ⟨S16x64x64, .f32⟩
  | 96 => ⟨S16x1x64x64, .f32⟩
  | 97 => ⟨S16x64x64, .f32⟩
  | 98 => ⟨S16x1x64x64, .f32⟩
  | 99 => ⟨S16x64x64, .f32⟩
  | 100 => ⟨S16x64x1x64, .f32⟩
  | 101 => ⟨S16x64x1x64, .f32⟩
  | 102 => ⟨S16x64x1x64, .f32⟩
  | 103 => ⟨S16x64x1x64, .f32⟩
  | 104 => ⟨S16x64x1x64, .f32⟩
  | 105 => ⟨S16x64x1x64, .f32⟩
  | 106 => ⟨S16x64x1x64, .f32⟩
  | 107 => ⟨S16x64x1x64, .f32⟩
  | 108 => ⟨S16x64x1x64, .f32⟩
  | 109 => ⟨S16x64x1x64, .f32⟩
  | 110 => ⟨S16x64x1x64, .f32⟩
  | 111 => ⟨S16x64x1x64, .f32⟩
  | 112 => ⟨S16x64x12x64, .f32⟩
  | 113 => ⟨S16x1x64x64, .f32⟩
  | 114 => ⟨S16x64x64, .f32⟩
  | 115 => ⟨S16x1x64x64, .f32⟩
  | 116 => ⟨S16x64x64, .f32⟩
  | 117 => ⟨S16x1x64x64, .f32⟩
  | 118 => ⟨S16x64x64, .f32⟩
  | 119 => ⟨S16x1x64x64, .f32⟩
  | 120 => ⟨S16x64x64, .f32⟩
  | 121 => ⟨S16x1x64x64, .f32⟩
  | 122 => ⟨S16x64x64, .f32⟩
  | 123 => ⟨S16x1x64x64, .f32⟩
  | 124 => ⟨S16x64x64, .f32⟩
  | 125 => ⟨S16x1x64x64, .f32⟩
  | 126 => ⟨S16x64x64, .f32⟩
  | 127 => ⟨S16x1x64x64, .f32⟩
  | _ => ⟨S16x2048x3072, .bf16⟩

abbrev hbmTy0_2 (i : Nat) : BufTy := match i % 128 with
  | 0 => ⟨S16x64x64, .f32⟩
  | 1 => ⟨S16x1x64x64, .f32⟩
  | 2 => ⟨S16x64x64, .f32⟩
  | 3 => ⟨S16x1x64x64, .f32⟩
  | 4 => ⟨S16x64x64, .f32⟩
  | 5 => ⟨S16x1x64x64, .f32⟩
  | 6 => ⟨S16x64x64, .f32⟩
  | 7 => ⟨S16x1x64x64, .f32⟩
  | 8 => ⟨S16x64x64, .f32⟩
  | 9 => ⟨S16x64x1x64, .f32⟩
  | 10 => ⟨S16x64x1x64, .f32⟩
  | 11 => ⟨S16x64x1x64, .f32⟩
  | 12 => ⟨S16x64x1x64, .f32⟩
  | 13 => ⟨S16x64x1x64, .f32⟩
  | 14 => ⟨S16x64x1x64, .f32⟩
  | 15 => ⟨S16x64x1x64, .f32⟩
  | 16 => ⟨S16x64x1x64, .f32⟩
  | 17 => ⟨S16x64x1x64, .f32⟩
  | 18 => ⟨S16x64x1x64, .f32⟩
  | 19 => ⟨S16x64x1x64, .f32⟩
  | 20 => ⟨S16x64x1x64, .f32⟩
  | 21 => ⟨S16x64x12x64, .f32⟩
  | 22 => ⟨S16x1x64x64, .f32⟩
  | 23 => ⟨S16x64x64, .f32⟩
  | 24 => ⟨S16x1x64x64, .f32⟩
  | 25 => ⟨S16x64x64, .f32⟩
  | 26 => ⟨S16x1x64x64, .f32⟩
  | 27 => ⟨S16x64x64, .f32⟩
  | 28 => ⟨S16x1x64x64, .f32⟩
  | 29 => ⟨S16x64x64, .f32⟩
  | 30 => ⟨S16x1x64x64, .f32⟩
  | 31 => ⟨S16x64x64, .f32⟩
  | 32 => ⟨S16x1x64x64, .f32⟩
  | 33 => ⟨S16x64x64, .f32⟩
  | 34 => ⟨S16x1x64x64, .f32⟩
  | 35 => ⟨S16x64x64, .f32⟩
  | 36 => ⟨S16x1x64x64, .f32⟩
  | 37 => ⟨S16x64x64, .f32⟩
  | 38 => ⟨S16x1x64x64, .f32⟩
  | 39 => ⟨S16x64x64, .f32⟩
  | 40 => ⟨S16x1x64x64, .f32⟩
  | 41 => ⟨S16x64x64, .f32⟩
  | 42 => ⟨S16x1x64x64, .f32⟩
  | 43 => ⟨S16x64x64, .f32⟩
  | 44 => ⟨S16x1x64x64, .f32⟩
  | 45 => ⟨S16x64x64, .f32⟩
  | 46 => ⟨S16x64x1x64, .f32⟩
  | 47 => ⟨S16x64x1x64, .f32⟩
  | 48 => ⟨S16x64x1x64, .f32⟩
  | 49 => ⟨S16x64x1x64, .f32⟩
  | 50 => ⟨S16x64x1x64, .f32⟩
  | 51 => ⟨S16x64x1x64, .f32⟩
  | 52 => ⟨S16x64x1x64, .f32⟩
  | 53 => ⟨S16x64x1x64, .f32⟩
  | 54 => ⟨S16x64x1x64, .f32⟩
  | 55 => ⟨S16x64x1x64, .f32⟩
  | 56 => ⟨S16x64x1x64, .f32⟩
  | 57 => ⟨S16x64x1x64, .f32⟩
  | 58 => ⟨S16x64x12x64, .f32⟩
  | 59 => ⟨S16x1x64x64, .f32⟩
  | 60 => ⟨S16x64x64, .f32⟩
  | 61 => ⟨S16x1x64x64, .f32⟩
  | 62 => ⟨S16x64x64, .f32⟩
  | 63 => ⟨S16x1x64x64, .f32⟩
  | 64 => ⟨S16x64x64, .f32⟩
  | 65 => ⟨S16x1x64x64, .f32⟩
  | 66 => ⟨S16x64x64, .f32⟩
  | 67 => ⟨S16x1x64x64, .f32⟩
  | 68 => ⟨S16x64x64, .f32⟩
  | 69 => ⟨S16x1x64x64, .f32⟩
  | 70 => ⟨S16x64x64, .f32⟩
  | 71 => ⟨S16x1x64x64, .f32⟩
  | 72 => ⟨S16x64x64, .f32⟩
  | 73 => ⟨S16x1x64x64, .f32⟩
  | 74 => ⟨S16x64x64, .f32⟩
  | 75 => ⟨S16x1x64x64, .f32⟩
  | 76 => ⟨S16x64x64, .f32⟩
  | 77 => ⟨S16x1x64x64, .f32⟩
  | 78 => ⟨S16x64x64, .f32⟩
  | 79 => ⟨S16x1x64x64, .f32⟩
  | 80 => ⟨S16x64x64, .f32⟩
  | 81 => ⟨S16x1x64x64, .f32⟩
  | 82 => ⟨S16x64x64, .f32⟩
  | 83 => ⟨S16x64x1x64, .f32⟩
  | 84 => ⟨S16x64x1x64, .f32⟩
  | 85 => ⟨S16x64x1x64, .f32⟩
  | 86 => ⟨S16x64x1x64, .f32⟩
  | 87 => ⟨S16x64x1x64, .f32⟩
  | 88 => ⟨S16x64x1x64, .f32⟩
  | 89 => ⟨S16x64x1x64, .f32⟩
  | 90 => ⟨S16x64x1x64, .f32⟩
  | 91 => ⟨S16x64x1x64, .f32⟩
  | 92 => ⟨S16x64x1x64, .f32⟩
  | 93 => ⟨S16x64x1x64, .f32⟩
  | 94 => ⟨S16x64x1x64, .f32⟩
  | 95 => ⟨S16x64x12x64, .f32⟩
  | 96 => ⟨S16x1x64x12x64, .f32⟩
  | 97 => ⟨S16x1x64x12x64, .f32⟩
  | 98 => ⟨S16x1x64x12x64, .f32⟩
  | 99 => ⟨S16x1x64x12x64, .f32⟩
  | 100 => ⟨S16x4x64x12x64, .f32⟩
  | 101 => ⟨S16x256x768, .f32⟩
  | 102 => ⟨S1x256x768, .i1⟩
  | 103 => ⟨S_, .f32⟩
  | 104 => ⟨S_, .f32⟩
  | 105 => ⟨S16x256x768, .i1⟩
  | 106 => ⟨S16x256x768, .f32⟩
  | 107 => ⟨S16x256x768, .f32⟩
  | 108 => ⟨S4x64, .i32⟩
  | 109 => ⟨S256, .i32⟩
  | 110 => ⟨S_, .i32⟩
  | 111 => ⟨S256, .i32⟩
  | 112 => ⟨S256, .i32⟩
  | 113 => ⟨S4x64, .i32⟩
  | 114 => ⟨S256, .i32⟩
  | 115 => ⟨S12x64, .i32⟩
  | 116 => ⟨S768, .i32⟩
  | 117 => ⟨S_, .i32⟩
  | 118 => ⟨S768, .i32⟩
  | 119 => ⟨S768, .i32⟩
  | 120 => ⟨S12x64, .i32⟩
  | 121 => ⟨S768, .i32⟩
  | 122 => ⟨S_, .i32⟩
  | 123 => ⟨S256, .i32⟩
  | 124 => ⟨S256, .i32⟩
  | 125 => ⟨S_, .i32⟩
  | 126 => ⟨S_, .i32⟩
  | 127 => ⟨S_, .i32⟩
  | _ => ⟨S16x2048x3072, .bf16⟩

abbrev hbmTy0_3 (i : Nat) : BufTy := match i % 128 with
  | 0 => ⟨S256, .i32⟩
  | 1 => ⟨S256, .i32⟩
  | 2 => ⟨S_, .i32⟩
  | 3 => ⟨S256, .i32⟩
  | 4 => ⟨S256, .i32⟩
  | 5 => ⟨S_, .i32⟩
  | 6 => ⟨S256, .i32⟩
  | 7 => ⟨S256, .i32⟩
  | 8 => ⟨S_, .i32⟩
  | 9 => ⟨S_, .i32⟩
  | 10 => ⟨S_, .i32⟩
  | 11 => ⟨S256, .i32⟩
  | 12 => ⟨S256, .i32⟩
  | 13 => ⟨S_, .i32⟩
  | 14 => ⟨S256, .i32⟩
  | 15 => ⟨S256, .i32⟩
  | 16 => ⟨S1x768, .i32⟩
  | 17 => ⟨S256x1, .i32⟩
  | 18 => ⟨S256x768, .i32⟩
  | 19 => ⟨S256x768, .i32⟩
  | 20 => ⟨S256x768, .i1⟩
  | 21 => ⟨S1x768, .i32⟩
  | 22 => ⟨S256x1, .i32⟩
  | 23 => ⟨S_, .i32⟩
  | 24 => ⟨S256x1, .i32⟩
  | 25 => ⟨S256x1, .i32⟩
  | 26 => ⟨S256x768, .i32⟩
  | 27 => ⟨S256x768, .i32⟩
  | 28 => ⟨S256x768, .i1⟩
  | 29 => ⟨S256x768, .i1⟩
  | 30 => ⟨S1x768, .i32⟩
  | 31 => ⟨S256x1, .i32⟩
  | 32 => ⟨S256x768, .i32⟩
  | 33 => ⟨S256x768, .i32⟩
  | 34 => ⟨S256x768, .i1⟩
  | 35 => ⟨S256x768, .i1⟩
  | 36 => ⟨S1x768, .i32⟩
  | 37 => ⟨S256x1, .i32⟩
  | 38 => ⟨S_, .i32⟩
  | 39 => ⟨S256x1, .i32⟩
  | 40 => ⟨S256x1, .i32⟩
  | 41 => ⟨S256x768, .i32⟩
  | 42 => ⟨S256x768, .i32⟩
  | 43 => ⟨S256x768, .i1⟩
  | 44 => ⟨S256x768, .i1⟩
  | 45 => ⟨S16x1x64x64, .f32⟩
  | 46 => ⟨S16x64x64, .f32⟩
  | 47 => ⟨S16x1x64x64, .f32⟩
  | 48 => ⟨S16x64x64, .f32⟩
  | 49 => ⟨S16x1x64x64, .f32⟩
  | 50 => ⟨S16x64x64, .f32⟩
  | 51 => ⟨S16x1x64x64, .f32⟩
  | 52 => ⟨S16x64x64, .f32⟩
  | 53 => ⟨S16x1x64x64, .f32⟩
  | 54 => ⟨S16x64x64, .f32⟩
  | 55 => ⟨S16x1x64x64, .f32⟩
  | 56 => ⟨S16x64x64, .f32⟩
  | 57 => ⟨S16x1x64x64, .f32⟩
  | 58 => ⟨S16x64x64, .f32⟩
  | 59 => ⟨S16x1x64x64, .f32⟩
  | 60 => ⟨S16x64x64, .f32⟩
  | 61 => ⟨S16x1x64x64, .f32⟩
  | 62 => ⟨S16x64x64, .f32⟩
  | 63 => ⟨S16x1x64x64, .f32⟩
  | 64 => ⟨S16x64x64, .f32⟩
  | 65 => ⟨S16x1x64x64, .f32⟩
  | 66 => ⟨S16x64x64, .f32⟩
  | 67 => ⟨S16x1x64x64, .f32⟩
  | 68 => ⟨S16x64x64, .f32⟩
  | 69 => ⟨S16x64x1x64, .f32⟩
  | 70 => ⟨S16x64x1x64, .f32⟩
  | 71 => ⟨S16x64x1x64, .f32⟩
  | 72 => ⟨S16x64x1x64, .f32⟩
  | 73 => ⟨S16x64x1x64, .f32⟩
  | 74 => ⟨S16x64x1x64, .f32⟩
  | 75 => ⟨S16x64x1x64, .f32⟩
  | 76 => ⟨S16x64x1x64, .f32⟩
  | 77 => ⟨S16x64x1x64, .f32⟩
  | 78 => ⟨S16x64x1x64, .f32⟩
  | 79 => ⟨S16x64x1x64, .f32⟩
  | 80 => ⟨S16x64x1x64, .f32⟩
  | 81 => ⟨S16x64x12x64, .f32⟩
  | 82 => ⟨S16x1x64x64, .f32⟩
  | 83 => ⟨S16x64x64, .f32⟩
  | 84 => ⟨S16x1x64x64, .f32⟩
  | 85 => ⟨S16x64x64, .f32⟩
  | 86 => ⟨S16x1x64x64, .f32⟩
  | 87 => ⟨S16x64x64, .f32⟩
  | 88 => ⟨S16x1x64x64, .f32⟩
  | 89 => ⟨S16x64x64, .f32⟩
  | 90 => ⟨S16x1x64x64, .f32⟩
  | 91 => ⟨S16x64x64, .f32⟩
  | 92 => ⟨S16x1x64x64, .f32⟩
  | 93 => ⟨S16x64x64, .f32⟩
  | 94 => ⟨S16x1x64x64, .f32⟩
  | 95 => ⟨S16x64x64, .f32⟩
  | 96 => ⟨S16x1x64x64, .f32⟩
  | 97 => ⟨S16x64x64, .f32⟩
  | 98 => ⟨S16x1x64x64, .f32⟩
  | 99 => ⟨S16x64x64, .f32⟩
  | 100 => ⟨S16x1x64x64, .f32⟩
  | 101 => ⟨S16x64x64, .f32⟩
  | 102 => ⟨S16x1x64x64, .f32⟩
  | 103 => ⟨S16x64x64, .f32⟩
  | 104 => ⟨S16x1x64x64, .f32⟩
  | 105 => ⟨S16x64x64, .f32⟩
  | 106 => ⟨S16x64x1x64, .f32⟩
  | 107 => ⟨S16x64x1x64, .f32⟩
  | 108 => ⟨S16x64x1x64, .f32⟩
  | 109 => ⟨S16x64x1x64, .f32⟩
  | 110 => ⟨S16x64x1x64, .f32⟩
  | 111 => ⟨S16x64x1x64, .f32⟩
  | 112 => ⟨S16x64x1x64, .f32⟩
  | 113 => ⟨S16x64x1x64, .f32⟩
  | 114 => ⟨S16x64x1x64, .f32⟩
  | 115 => ⟨S16x64x1x64, .f32⟩
  | 116 => ⟨S16x64x1x64, .f32⟩
  | 117 => ⟨S16x64x1x64, .f32⟩
  | 118 => ⟨S16x64x12x64, .f32⟩
  | 119 => ⟨S16x1x64x64, .f32⟩
  | 120 => ⟨S16x64x64, .f32⟩
  | 121 => ⟨S16x1x64x64, .f32⟩
  | 122 => ⟨S16x64x64, .f32⟩
  | 123 => ⟨S16x1x64x64, .f32⟩
  | 124 => ⟨S16x64x64, .f32⟩
  | 125 => ⟨S16x1x64x64, .f32⟩
  | 126 => ⟨S16x64x64, .f32⟩
  | 127 => ⟨S16x1x64x64, .f32⟩
  | _ => ⟨S16x2048x3072, .bf16⟩

abbrev hbmTy0_4 (i : Nat) : BufTy := match i % 128 with
  | 0 => ⟨S16x64x64, .f32⟩
  | 1 => ⟨S16x1x64x64, .f32⟩
  | 2 => ⟨S16x64x64, .f32⟩
  | 3 => ⟨S16x1x64x64, .f32⟩
  | 4 => ⟨S16x64x64, .f32⟩
  | 5 => ⟨S16x1x64x64, .f32⟩
  | 6 => ⟨S16x64x64, .f32⟩
  | 7 => ⟨S16x1x64x64, .f32⟩
  | 8 => ⟨S16x64x64, .f32⟩
  | 9 => ⟨S16x1x64x64, .f32⟩
  | 10 => ⟨S16x64x64, .f32⟩
  | 11 => ⟨S16x1x64x64, .f32⟩
  | 12 => ⟨S16x64x64, .f32⟩
  | 13 => ⟨S16x1x64x64, .f32⟩
  | 14 => ⟨S16x64x64, .f32⟩
  | 15 => ⟨S16x64x1x64, .f32⟩
  | 16 => ⟨S16x64x1x64, .f32⟩
  | 17 => ⟨S16x64x1x64, .f32⟩
  | 18 => ⟨S16x64x1x64, .f32⟩
  | 19 => ⟨S16x64x1x64, .f32⟩
  | 20 => ⟨S16x64x1x64, .f32⟩
  | 21 => ⟨S16x64x1x64, .f32⟩
  | 22 => ⟨S16x64x1x64, .f32⟩
  | 23 => ⟨S16x64x1x64, .f32⟩
  | 24 => ⟨S16x64x1x64, .f32⟩
  | 25 => ⟨S16x64x1x64, .f32⟩
  | 26 => ⟨S16x64x1x64, .f32⟩
  | 27 => ⟨S16x64x12x64, .f32⟩
  | 28 => ⟨S16x1x64x64, .f32⟩
  | 29 => ⟨S16x64x64, .f32⟩
  | 30 => ⟨S16x1x64x64, .f32⟩
  | 31 => ⟨S16x64x64, .f32⟩
  | 32 => ⟨S16x1x64x64, .f32⟩
  | 33 => ⟨S16x64x64, .f32⟩
  | 34 => ⟨S16x1x64x64, .f32⟩
  | 35 => ⟨S16x64x64, .f32⟩
  | 36 => ⟨S16x1x64x64, .f32⟩
  | 37 => ⟨S16x64x64, .f32⟩
  | 38 => ⟨S16x1x64x64, .f32⟩
  | 39 => ⟨S16x64x64, .f32⟩
  | 40 => ⟨S16x1x64x64, .f32⟩
  | 41 => ⟨S16x64x64, .f32⟩
  | 42 => ⟨S16x1x64x64, .f32⟩
  | 43 => ⟨S16x64x64, .f32⟩
  | 44 => ⟨S16x1x64x64, .f32⟩
  | 45 => ⟨S16x64x64, .f32⟩
  | 46 => ⟨S16x1x64x64, .f32⟩
  | 47 => ⟨S16x64x64, .f32⟩
  | 48 => ⟨S16x1x64x64, .f32⟩
  | 49 => ⟨S16x64x64, .f32⟩
  | 50 => ⟨S16x1x64x64, .f32⟩
  | 51 => ⟨S16x64x64, .f32⟩
  | 52 => ⟨S16x64x1x64, .f32⟩
  | 53 => ⟨S16x64x1x64, .f32⟩
  | 54 => ⟨S16x64x1x64, .f32⟩
  | 55 => ⟨S16x64x1x64, .f32⟩
  | 56 => ⟨S16x64x1x64, .f32⟩
  | 57 => ⟨S16x64x1x64, .f32⟩
  | 58 => ⟨S16x64x1x64, .f32⟩
  | 59 => ⟨S16x64x1x64, .f32⟩
  | 60 => ⟨S16x64x1x64, .f32⟩
  | 61 => ⟨S16x64x1x64, .f32⟩
  | 62 => ⟨S16x64x1x64, .f32⟩
  | 63 => ⟨S16x64x1x64, .f32⟩
  | 64 => ⟨S16x64x12x64, .f32⟩
  | 65 => ⟨S16x1x64x12x64, .f32⟩
  | 66 => ⟨S16x1x64x12x64, .f32⟩
  | 67 => ⟨S16x1x64x12x64, .f32⟩
  | 68 => ⟨S16x1x64x12x64, .f32⟩
  | 69 => ⟨S16x4x64x12x64, .f32⟩
  | 70 => ⟨S16x256x768, .f32⟩
  | 71 => ⟨S1x256x768, .i1⟩
  | 72 => ⟨S_, .f32⟩
  | 73 => ⟨S_, .f32⟩
  | 74 => ⟨S16x256x768, .i1⟩
  | 75 => ⟨S16x256x768, .f32⟩
  | 76 => ⟨S16x256x768, .f32⟩
  | 77 => ⟨S4x64, .i32⟩
  | 78 => ⟨S256, .i32⟩
  | 79 => ⟨S_, .i32⟩
  | 80 => ⟨S256, .i32⟩
  | 81 => ⟨S256, .i32⟩
  | 82 => ⟨S4x64, .i32⟩
  | 83 => ⟨S256, .i32⟩
  | 84 => ⟨S12x64, .i32⟩
  | 85 => ⟨S768, .i32⟩
  | 86 => ⟨S_, .i32⟩
  | 87 => ⟨S768, .i32⟩
  | 88 => ⟨S768, .i32⟩
  | 89 => ⟨S12x64, .i32⟩
  | 90 => ⟨S768, .i32⟩
  | 91 => ⟨S_, .i32⟩
  | 92 => ⟨S256, .i32⟩
  | 93 => ⟨S256, .i32⟩
  | 94 => ⟨S_, .i32⟩
  | 95 => ⟨S_, .i32⟩
  | 96 => ⟨S_, .i32⟩
  | 97 => ⟨S256, .i32⟩
  | 98 => ⟨S256, .i32⟩
  | 99 => ⟨S_, .i32⟩
  | 100 => ⟨S256, .i32⟩
  | 101 => ⟨S256, .i32⟩
  | 102 => ⟨S_, .i32⟩
  | 103 => ⟨S256, .i32⟩
  | 104 => ⟨S256, .i32⟩
  | 105 => ⟨S_, .i32⟩
  | 106 => ⟨S_, .i32⟩
  | 107 => ⟨S_, .i32⟩
  | 108 => ⟨S256, .i32⟩
  | 109 => ⟨S256, .i32⟩
  | 110 => ⟨S_, .i32⟩
  | 111 => ⟨S256, .i32⟩
  | 112 => ⟨S256, .i32⟩
  | 113 => ⟨S1x768, .i32⟩
  | 114 => ⟨S256x1, .i32⟩
  | 115 => ⟨S256x768, .i32⟩
  | 116 => ⟨S256x768, .i32⟩
  | 117 => ⟨S256x768, .i1⟩
  | 118 => ⟨S1x768, .i32⟩
  | 119 => ⟨S256x1, .i32⟩
  | 120 => ⟨S_, .i32⟩
  | 121 => ⟨S256x1, .i32⟩
  | 122 => ⟨S256x1, .i32⟩
  | 123 => ⟨S256x768, .i32⟩
  | 124 => ⟨S256x768, .i32⟩
  | 125 => ⟨S256x768, .i1⟩
  | 126 => ⟨S256x768, .i1⟩
  | 127 => ⟨S1x768, .i32⟩
  | _ => ⟨S16x2048x3072, .bf16⟩

abbrev hbmTy0_5 (i : Nat) : BufTy := match i % 128 with
  | 0 => ⟨S256x1, .i32⟩
  | 1 => ⟨S256x768, .i32⟩
  | 2 => ⟨S256x768, .i32⟩
  | 3 => ⟨S256x768, .i1⟩
  | 4 => ⟨S256x768, .i1⟩
  | 5 => ⟨S1x768, .i32⟩
  | 6 => ⟨S256x1, .i32⟩
  | 7 => ⟨S_, .i32⟩
  | 8 => ⟨S256x1, .i32⟩
  | 9 => ⟨S256x1, .i32⟩
  | 10 => ⟨S256x768, .i32⟩
  | 11 => ⟨S256x768, .i32⟩
  | 12 => ⟨S256x768, .i1⟩
  | 13 => ⟨S256x768, .i1⟩
  | 14 => ⟨S16x1x64x64, .f32⟩
  | 15 => ⟨S16x64x64, .f32⟩
  | 16 => ⟨S16x1x64x64, .f32⟩
  | 17 => ⟨S16x64x64, .f32⟩
  | 18 => ⟨S16x1x64x64, .f32⟩
  | 19 => ⟨S16x64x64, .f32⟩
  | 20 => ⟨S16x1x64x64, .f32⟩
  | 21 => ⟨S16x64x64, .f32⟩
  | 22 => ⟨S16x1x64x64, .f32⟩
  | 23 => ⟨S16x64x64, .f32⟩
  | 24 => ⟨S16x1x64x64, .f32⟩
  | 25 => ⟨S16x64x64, .f32⟩
  | 26 => ⟨S16x1x64x64, .f32⟩
  | 27 => ⟨S16x64x64, .f32⟩
  | 28 => ⟨S16x1x64x64, .f32⟩
  | 29 => ⟨S16x64x64, .f32⟩
  | 30 => ⟨S16x1x64x64, .f32⟩
  | 31 => ⟨S16x64x64, .f32⟩
  | 32 => ⟨S16x1x64x64, .f32⟩
  | 33 => ⟨S16x64x64, .f32⟩
  | 34 => ⟨S16x1x64x64, .f32⟩
  | 35 => ⟨S16x64x64, .f32⟩
  | 36 => ⟨S16x1x64x64, .f32⟩
  | 37 => ⟨S16x64x64, .f32⟩
  | 38 => ⟨S16x64x1x64, .f32⟩
  | 39 => ⟨S16x64x1x64, .f32⟩
  | 40 => ⟨S16x64x1x64, .f32⟩
  | 41 => ⟨S16x64x1x64, .f32⟩
  | 42 => ⟨S16x64x1x64, .f32⟩
  | 43 => ⟨S16x64x1x64, .f32⟩
  | 44 => ⟨S16x64x1x64, .f32⟩
  | 45 => ⟨S16x64x1x64, .f32⟩
  | 46 => ⟨S16x64x1x64, .f32⟩
  | 47 => ⟨S16x64x1x64, .f32⟩
  | 48 => ⟨S16x64x1x64, .f32⟩
  | 49 => ⟨S16x64x1x64, .f32⟩
  | 50 => ⟨S16x64x12x64, .f32⟩
  | 51 => ⟨S16x1x64x64, .f32⟩
  | 52 => ⟨S16x64x64, .f32⟩
  | 53 => ⟨S16x1x64x64, .f32⟩
  | 54 => ⟨S16x64x64, .f32⟩
  | 55 => ⟨S16x1x64x64, .f32⟩
  | 56 => ⟨S16x64x64, .f32⟩
  | 57 => ⟨S16x1x64x64, .f32⟩
  | 58 => ⟨S16x64x64, .f32⟩
  | 59 => ⟨S16x1x64x64, .f32⟩
  | 60 => ⟨S16x64x64, .f32⟩
  | 61 => ⟨S16x1x64x64, .f32⟩
  | 62 => ⟨S16x64x64, .f32⟩
  | 63 => ⟨S16x1x64x64, .f32⟩
  | 64 => ⟨S16x64x64, .f32⟩
  | 65 => ⟨S16x1x64x64, .f32⟩
  | 66 => ⟨S16x64x64, .f32⟩
  | 67 => ⟨S16x1x64x64, .f32⟩
  | 68 => ⟨S16x64x64, .f32⟩
  | 69 => ⟨S16x1x64x64, .f32⟩
  | 70 => ⟨S16x64x64, .f32⟩
  | 71 => ⟨S16x1x64x64, .f32⟩
  | 72 => ⟨S16x64x64, .f32⟩
  | 73 => ⟨S16x1x64x64, .f32⟩
  | 74 => ⟨S16x64x64, .f32⟩
  | 75 => ⟨S16x64x1x64, .f32⟩
  | 76 => ⟨S16x64x1x64, .f32⟩
  | 77 => ⟨S16x64x1x64, .f32⟩
  | 78 => ⟨S16x64x1x64, .f32⟩
  | 79 => ⟨S16x64x1x64, .f32⟩
  | 80 => ⟨S16x64x1x64, .f32⟩
  | 81 => ⟨S16x64x1x64, .f32⟩
  | 82 => ⟨S16x64x1x64, .f32⟩
  | 83 => ⟨S16x64x1x64, .f32⟩
  | 84 => ⟨S16x64x1x64, .f32⟩
  | 85 => ⟨S16x64x1x64, .f32⟩
  | 86 => ⟨S16x64x1x64, .f32⟩
  | 87 => ⟨S16x64x12x64, .f32⟩
  | 88 => ⟨S16x1x64x64, .f32⟩
  | 89 => ⟨S16x64x64, .f32⟩
  | 90 => ⟨S16x1x64x64, .f32⟩
  | 91 => ⟨S16x64x64, .f32⟩
  | 92 => ⟨S16x1x64x64, .f32⟩
  | 93 => ⟨S16x64x64, .f32⟩
  | 94 => ⟨S16x1x64x64, .f32⟩
  | 95 => ⟨S16x64x64, .f32⟩
  | 96 => ⟨S16x1x64x64, .f32⟩
  | 97 => ⟨S16x64x64, .f32⟩
  | 98 => ⟨S16x1x64x64, .f32⟩
  | 99 => ⟨S16x64x64, .f32⟩
  | 100 => ⟨S16x1x64x64, .f32⟩
  | 101 => ⟨S16x64x64, .f32⟩
  | 102 => ⟨S16x1x64x64, .f32⟩
  | 103 => ⟨S16x64x64, .f32⟩
  | 104 => ⟨S16x1x64x64, .f32⟩
  | 105 => ⟨S16x64x64, .f32⟩
  | 106 => ⟨S16x1x64x64, .f32⟩
  | 107 => ⟨S16x64x64, .f32⟩
  | 108 => ⟨S16x1x64x64, .f32⟩
  | 109 => ⟨S16x64x64, .f32⟩
  | 110 => ⟨S16x1x64x64, .f32⟩
  | 111 => ⟨S16x64x64, .f32⟩
  | 112 => ⟨S16x64x1x64, .f32⟩
  | 113 => ⟨S16x64x1x64, .f32⟩
  | 114 => ⟨S16x64x1x64, .f32⟩
  | 115 => ⟨S16x64x1x64, .f32⟩
  | 116 => ⟨S16x64x1x64, .f32⟩
  | 117 => ⟨S16x64x1x64, .f32⟩
  | 118 => ⟨S16x64x1x64, .f32⟩
  | 119 => ⟨S16x64x1x64, .f32⟩
  | 120 => ⟨S16x64x1x64, .f32⟩
  | 121 => ⟨S16x64x1x64, .f32⟩
  | 122 => ⟨S16x64x1x64, .f32⟩
  | 123 => ⟨S16x64x1x64, .f32⟩
  | 124 => ⟨S16x64x12x64, .f32⟩
  | 125 => ⟨S16x1x64x64, .f32⟩
  | 126 => ⟨S16x64x64, .f32⟩
  | 127 => ⟨S16x1x64x64, .f32⟩
  | _ => ⟨S16x2048x3072, .bf16⟩

abbrev hbmTy0_6 (i : Nat) : BufTy := match i % 128 with
  | 0 => ⟨S16x64x64, .f32⟩
  | 1 => ⟨S16x1x64x64, .f32⟩
  | 2 => ⟨S16x64x64, .f32⟩
  | 3 => ⟨S16x1x64x64, .f32⟩
  | 4 => ⟨S16x64x64, .f32⟩
  | 5 => ⟨S16x1x64x64, .f32⟩
  | 6 => ⟨S16x64x64, .f32⟩
  | 7 => ⟨S16x1x64x64, .f32⟩
  | 8 => ⟨S16x64x64, .f32⟩
  | 9 => ⟨S16x1x64x64, .f32⟩
  | 10 => ⟨S16x64x64, .f32⟩
  | 11 => ⟨S16x1x64x64, .f32⟩
  | 12 => ⟨S16x64x64, .f32⟩
  | 13 => ⟨S16x1x64x64, .f32⟩
  | 14 => ⟨S16x64x64, .f32⟩
  | 15 => ⟨S16x1x64x64, .f32⟩
  | 16 => ⟨S16x64x64, .f32⟩
  | 17 => ⟨S16x1x64x64, .f32⟩
  | 18 => ⟨S16x64x64, .f32⟩
  | 19 => ⟨S16x1x64x64, .f32⟩
  | 20 => ⟨S16x64x64, .f32⟩
  | 21 => ⟨S16x64x1x64, .f32⟩
  | 22 => ⟨S16x64x1x64, .f32⟩
  | 23 => ⟨S16x64x1x64, .f32⟩
  | 24 => ⟨S16x64x1x64, .f32⟩
  | 25 => ⟨S16x64x1x64, .f32⟩
  | 26 => ⟨S16x64x1x64, .f32⟩
  | 27 => ⟨S16x64x1x64, .f32⟩
  | 28 => ⟨S16x64x1x64, .f32⟩
  | 29 => ⟨S16x64x1x64, .f32⟩
  | 30 => ⟨S16x64x1x64, .f32⟩
  | 31 => ⟨S16x64x1x64, .f32⟩
  | 32 => ⟨S16x64x1x64, .f32⟩
  | 33 => ⟨S16x64x12x64, .f32⟩
  | 34 => ⟨S16x1x64x12x64, .f32⟩
  | 35 => ⟨S16x1x64x12x64, .f32⟩
  | 36 => ⟨S16x1x64x12x64, .f32⟩
  | 37 => ⟨S16x1x64x12x64, .f32⟩
  | 38 => ⟨S16x4x64x12x64, .f32⟩
  | 39 => ⟨S16x256x768, .f32⟩
  | 40 => ⟨S1x256x768, .i1⟩
  | 41 => ⟨S_, .f32⟩
  | 42 => ⟨S_, .f32⟩
  | 43 => ⟨S16x256x768, .i1⟩
  | 44 => ⟨S16x256x768, .f32⟩
  | 45 => ⟨S16x256x768, .f32⟩
  | 46 => ⟨S1x16x256x768, .f32⟩
  | 47 => ⟨S1x16x256x768, .f32⟩
  | 48 => ⟨S1x16x256x768, .f32⟩
  | 49 => ⟨S3x16x256x768, .f32⟩
  | 50 => ⟨S3x8x2x256x768, .f32⟩
  | 51 => ⟨S16x2048x1024, .bf16⟩
  | _ => ⟨S16x2048x3072, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x2048x3072, .bf16⟩

abbrev bufTy : (tb : Table) → Fin (tcTables nBuf tb) → BufTy
  | .hbm, ⟨i, _⟩ => hbmTy i
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S3x1x2x256x768, .f32⟩
  | .local _ .vmem, ⟨11, _⟩ => ⟨S3x1x2x256x768, .f32⟩
  | .local _ .vmem, ⟨12, _⟩ => ⟨S1x256x128, .bf16⟩
  | .local _ .vmem, ⟨13, _⟩ => ⟨S1x256x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_c_0 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_c_1 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_c_2 : Ref sig .tc := ⟨.hbm, 153, rfl⟩
abbrev main_v146 : Ref sig .tc := ⟨.hbm, 154, rfl⟩
abbrev main_v147 : Ref sig .tc := ⟨.hbm, 155, rfl⟩
abbrev main_c_3 : Ref sig .tc := ⟨.hbm, 156, rfl⟩
abbrev main_c_4 : Ref sig .tc := ⟨.hbm, 157, rfl⟩
abbrev main_call1_v0 : Ref sig .tc := ⟨.hbm, 158, rfl⟩
abbrev main_call1_v1 : Ref sig .tc := ⟨.hbm, 159, rfl⟩
abbrev main_call1_v2 : Ref sig .tc := ⟨.hbm, 160, rfl⟩
abbrev main_call1_v3 : Ref sig .tc := ⟨.hbm, 161, rfl⟩
abbrev main_call1_v4 : Ref sig .tc := ⟨.hbm, 162, rfl⟩
abbrev main_v148 : Ref sig .tc := ⟨.hbm, 163, rfl⟩
abbrev main_c_5 : Ref sig .tc := ⟨.hbm, 164, rfl⟩
abbrev main_v149 : Ref sig .tc := ⟨.hbm, 165, rfl⟩
abbrev main_v150 : Ref sig .tc := ⟨.hbm, 166, rfl⟩
abbrev main_c_6 : Ref sig .tc := ⟨.hbm, 167, rfl⟩
abbrev main_c_7 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_c_8 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_c_9 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_cst : Ref sig .tc := ⟨.hbm, 359, rfl⟩
abbrev main_call3_v0 : Ref sig .tc := ⟨.hbm, 360, rfl⟩
abbrev main_call3_v1 : Ref sig .tc := ⟨.hbm, 361, rfl⟩
abbrev main_call3_v2 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_c_10 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_c_11 : Ref sig .tc := ⟨.hbm, 373, rfl⟩
abbrev main_v343 : Ref sig .tc := ⟨.hbm, 374, rfl⟩
abbrev main_v344 : Ref sig .tc := ⟨.hbm, 375, rfl⟩
abbrev main_v345 : Ref sig .tc := ⟨.hbm, 376, rfl⟩
abbrev main_v346 : Ref sig .tc := ⟨.hbm, 377, rfl⟩
abbrev main_c_12 : Ref sig .tc := ⟨.hbm, 378, rfl⟩
abbrev main_v347 : Ref sig .tc := ⟨.hbm, 379, rfl⟩
abbrev main_v348 : Ref sig .tc := ⟨.hbm, 380, rfl⟩
abbrev main_c_13 : Ref sig .tc := ⟨.hbm, 381, rfl⟩
abbrev main_c_14 : Ref sig .tc := ⟨.hbm, 382, rfl⟩
abbrev main_call4_v0 : Ref sig .tc := ⟨.hbm, 383, rfl⟩
abbrev main_call4_v1 : Ref sig .tc := ⟨.hbm, 384, rfl⟩
abbrev main_call4_v2 : Ref sig .tc := ⟨.hbm, 385, rfl⟩
abbrev main_call4_v3 : Ref sig .tc := ⟨.hbm, 386, rfl⟩
abbrev main_call4_v4 : Ref sig .tc := ⟨.hbm, 387, rfl⟩
abbrev main_v349 : Ref sig .tc := ⟨.hbm, 388, rfl⟩
abbrev main_c_15 : Ref sig .tc := ⟨.hbm, 389, rfl⟩
abbrev main_v350 : Ref sig .tc := ⟨.hbm, 390, rfl⟩
abbrev main_v351 : Ref sig .tc := ⟨.hbm, 391, rfl⟩
abbrev main_c_16 : Ref sig .tc := ⟨.hbm, 392, rfl⟩
abbrev main_c_17 : Ref sig .tc := ⟨.hbm, 393, rfl⟩
abbrev main_call5_v0 : Ref sig .tc := ⟨.hbm, 394, rfl⟩
abbrev main_call5_v1 : Ref sig .tc := ⟨.hbm, 395, rfl⟩
abbrev main_call5_v2 : Ref sig .tc := ⟨.hbm, 396, rfl⟩
abbrev main_call5_v3 : Ref sig .tc := ⟨.hbm, 397, rfl⟩
abbrev main_call5_v4 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_c_18 : Ref sig .tc := ⟨.hbm, 407, rfl⟩
abbrev main_v360 : Ref sig .tc := ⟨.hbm, 408, rfl⟩
abbrev main_v361 : Ref sig .tc := ⟨.hbm, 409, rfl⟩
abbrev main_v362 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_v366 : Ref sig .tc := ⟨.hbm, 414, rfl⟩
abbrev main_v367 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_c_19 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_v397 : Ref sig .tc := ⟨.hbm, 446, rfl⟩
abbrev main_v398 : Ref sig .tc := ⟨.hbm, 447, rfl⟩
abbrev main_v399 : Ref sig .tc := ⟨.hbm, 448, rfl⟩
abbrev main_v400 : Ref sig .tc := ⟨.hbm, 449, rfl⟩
abbrev main_v401 : Ref sig .tc := ⟨.hbm, 450, rfl⟩
abbrev main_v402 : Ref sig .tc := ⟨.hbm, 451, rfl⟩
abbrev main_v403 : Ref sig .tc := ⟨.hbm, 452, rfl⟩
abbrev main_v404 : Ref sig .tc := ⟨.hbm, 453, rfl⟩
abbrev main_v405 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_v409 : Ref sig .tc := ⟨.hbm, 458, rfl⟩
abbrev main_v410 : Ref sig .tc := ⟨.hbm, 459, rfl⟩
abbrev main_v411 : Ref sig .tc := ⟨.hbm, 460, rfl⟩
abbrev main_v412 : Ref sig .tc := ⟨.hbm, 461, rfl⟩
abbrev main_v413 : Ref sig .tc := ⟨.hbm, 462, rfl⟩
abbrev main_v414 : Ref sig .tc := ⟨.hbm, 463, rfl⟩
abbrev main_v415 : Ref sig .tc := ⟨.hbm, 464, rfl⟩
abbrev main_v416 : Ref sig .tc := ⟨.hbm, 465, rfl⟩
abbrev main_v417 : Ref sig .tc := ⟨.hbm, 466, rfl⟩
abbrev main_v418 : Ref sig .tc := ⟨.hbm, 467, rfl⟩
abbrev main_v419 : Ref sig .tc := ⟨.hbm, 468, rfl⟩
abbrev main_v420 : Ref sig .tc := ⟨.hbm, 469, rfl⟩
abbrev main_v421 : Ref sig .tc := ⟨.hbm, 470, rfl⟩
abbrev main_v422 : Ref sig .tc := ⟨.hbm, 471, rfl⟩
abbrev main_v423 : Ref sig .tc := ⟨.hbm, 472, rfl⟩
abbrev main_v424 : Ref sig .tc := ⟨.hbm, 473, rfl⟩
abbrev main_v425 : Ref sig .tc := ⟨.hbm, 474, rfl⟩
abbrev main_v426 : Ref sig .tc := ⟨.hbm, 475, rfl⟩
abbrev main_v427 : Ref sig .tc := ⟨.hbm, 476, rfl⟩
abbrev main_v428 : Ref sig .tc := ⟨.hbm, 477, rfl⟩
abbrev main_v429 : Ref sig .tc := ⟨.hbm, 478, rfl⟩
abbrev main_v430 : Ref sig .tc := ⟨.hbm, 479, rfl⟩
abbrev main_v431 : Ref sig .tc := ⟨.hbm, 480, rfl⟩
abbrev main_v432 : Ref sig .tc := ⟨.hbm, 481, rfl⟩
abbrev main_v433 : Ref sig .tc := ⟨.hbm, 482, rfl⟩
abbrev main_v434 : Ref sig .tc := ⟨.hbm, 483, rfl⟩
abbrev main_v435 : Ref sig .tc := ⟨.hbm, 484, rfl⟩
abbrev main_v436 : Ref sig .tc := ⟨.hbm, 485, rfl⟩
abbrev main_v437 : Ref sig .tc := ⟨.hbm, 486, rfl⟩
abbrev main_v438 : Ref sig .tc := ⟨.hbm, 487, rfl⟩
abbrev main_v439 : Ref sig .tc := ⟨.hbm, 488, rfl⟩
abbrev main_v440 : Ref sig .tc := ⟨.hbm, 489, rfl⟩
abbrev main_v441 : Ref sig .tc := ⟨.hbm, 490, rfl⟩
abbrev main_v442 : Ref sig .tc := ⟨.hbm, 491, rfl⟩
abbrev main_v443 : Ref sig .tc := ⟨.hbm, 492, rfl⟩
abbrev main_v444 : Ref sig .tc := ⟨.hbm, 493, rfl⟩
abbrev main_v445 : Ref sig .tc := ⟨.hbm, 494, rfl⟩
abbrev main_v446 : Ref sig .tc := ⟨.hbm, 495, rfl⟩
abbrev main_v447 : Ref sig .tc := ⟨.hbm, 496, rfl⟩
abbrev main_v448 : Ref sig .tc := ⟨.hbm, 497, rfl⟩
abbrev main_v449 : Ref sig .tc := ⟨.hbm, 498, rfl⟩
abbrev main_v450 : Ref sig .tc := ⟨.hbm, 499, rfl⟩
abbrev main_v451 : Ref sig .tc := ⟨.hbm, 500, rfl⟩
abbrev main_v452 : Ref sig .tc := ⟨.hbm, 501, rfl⟩
abbrev main_v453 : Ref sig .tc := ⟨.hbm, 502, rfl⟩
abbrev main_v454 : Ref sig .tc := ⟨.hbm, 503, rfl⟩
abbrev main_v455 : Ref sig .tc := ⟨.hbm, 504, rfl⟩
abbrev main_v456 : Ref sig .tc := ⟨.hbm, 505, rfl⟩
abbrev main_v457 : Ref sig .tc := ⟨.hbm, 506, rfl⟩
abbrev main_v458 : Ref sig .tc := ⟨.hbm, 507, rfl⟩
abbrev main_v459 : Ref sig .tc := ⟨.hbm, 508, rfl⟩
abbrev main_v460 : Ref sig .tc := ⟨.hbm, 509, rfl⟩
abbrev main_v461 : Ref sig .tc := ⟨.hbm, 510, rfl⟩
abbrev main_v462 : Ref sig .tc := ⟨.hbm, 511, rfl⟩
abbrev main_v463 : Ref sig .tc := ⟨.hbm, 512, rfl⟩
abbrev main_v464 : Ref sig .tc := ⟨.hbm, 513, rfl⟩
abbrev main_v465 : Ref sig .tc := ⟨.hbm, 514, rfl⟩
abbrev main_v466 : Ref sig .tc := ⟨.hbm, 515, rfl⟩
abbrev main_v467 : Ref sig .tc := ⟨.hbm, 516, rfl⟩
abbrev main_v468 : Ref sig .tc := ⟨.hbm, 517, rfl⟩
abbrev main_v469 : Ref sig .tc := ⟨.hbm, 518, rfl⟩
abbrev main_v470 : Ref sig .tc := ⟨.hbm, 519, rfl⟩
abbrev main_v471 : Ref sig .tc := ⟨.hbm, 520, rfl⟩
abbrev main_v472 : Ref sig .tc := ⟨.hbm, 521, rfl⟩
abbrev main_v473 : Ref sig .tc := ⟨.hbm, 522, rfl⟩
abbrev main_v474 : Ref sig .tc := ⟨.hbm, 523, rfl⟩
abbrev main_v475 : Ref sig .tc := ⟨.hbm, 524, rfl⟩
abbrev main_v476 : Ref sig .tc := ⟨.hbm, 525, rfl⟩
abbrev main_v477 : Ref sig .tc := ⟨.hbm, 526, rfl⟩
abbrev main_v478 : Ref sig .tc := ⟨.hbm, 527, rfl⟩
abbrev main_v479 : Ref sig .tc := ⟨.hbm, 528, rfl⟩
abbrev main_v480 : Ref sig .tc := ⟨.hbm, 529, rfl⟩
abbrev main_v481 : Ref sig .tc := ⟨.hbm, 530, rfl⟩
abbrev main_v482 : Ref sig .tc := ⟨.hbm, 531, rfl⟩
abbrev main_v483 : Ref sig .tc := ⟨.hbm, 532, rfl⟩
abbrev main_v484 : Ref sig .tc := ⟨.hbm, 533, rfl⟩
abbrev main_v485 : Ref sig .tc := ⟨.hbm, 534, rfl⟩
abbrev main_v486 : Ref sig .tc := ⟨.hbm, 535, rfl⟩
abbrev main_v487 : Ref sig .tc := ⟨.hbm, 536, rfl⟩
abbrev main_v488 : Ref sig .tc := ⟨.hbm, 537, rfl⟩
abbrev main_v489 : Ref sig .tc := ⟨.hbm, 538, rfl⟩
abbrev main_v490 : Ref sig .tc := ⟨.hbm, 539, rfl⟩
abbrev main_v491 : Ref sig .tc := ⟨.hbm, 540, rfl⟩
abbrev main_v492 : Ref sig .tc := ⟨.hbm, 541, rfl⟩
abbrev main_v493 : Ref sig .tc := ⟨.hbm, 542, rfl⟩
abbrev main_v494 : Ref sig .tc := ⟨.hbm, 543, rfl⟩
abbrev main_v495 : Ref sig .tc := ⟨.hbm, 544, rfl⟩
abbrev main_v496 : Ref sig .tc := ⟨.hbm, 545, rfl⟩
abbrev main_v497 : Ref sig .tc := ⟨.hbm, 546, rfl⟩
abbrev main_v498 : Ref sig .tc := ⟨.hbm, 547, rfl⟩
abbrev main_v499 : Ref sig .tc := ⟨.hbm, 548, rfl⟩
abbrev main_v500 : Ref sig .tc := ⟨.hbm, 549, rfl⟩
abbrev main_v501 : Ref sig .tc := ⟨.hbm, 550, rfl⟩
abbrev main_v502 : Ref sig .tc := ⟨.hbm, 551, rfl⟩
abbrev main_v503 : Ref sig .tc := ⟨.hbm, 552, rfl⟩
abbrev main_v504 : Ref sig .tc := ⟨.hbm, 553, rfl⟩
abbrev main_v505 : Ref sig .tc := ⟨.hbm, 554, rfl⟩
abbrev main_v506 : Ref sig .tc := ⟨.hbm, 555, rfl⟩
abbrev main_v507 : Ref sig .tc := ⟨.hbm, 556, rfl⟩
abbrev main_v508 : Ref sig .tc := ⟨.hbm, 557, rfl⟩
abbrev main_v509 : Ref sig .tc := ⟨.hbm, 558, rfl⟩
abbrev main_v510 : Ref sig .tc := ⟨.hbm, 559, rfl⟩
abbrev main_v511 : Ref sig .tc := ⟨.hbm, 560, rfl⟩
abbrev main_v512 : Ref sig .tc := ⟨.hbm, 561, rfl⟩
abbrev main_v513 : Ref sig .tc := ⟨.hbm, 562, rfl⟩
abbrev main_v514 : Ref sig .tc := ⟨.hbm, 563, rfl⟩
abbrev main_v515 : Ref sig .tc := ⟨.hbm, 564, rfl⟩
abbrev main_v516 : Ref sig .tc := ⟨.hbm, 565, rfl⟩
abbrev main_v517 : Ref sig .tc := ⟨.hbm, 566, rfl⟩
abbrev main_v518 : Ref sig .tc := ⟨.hbm, 567, rfl⟩
abbrev main_v519 : Ref sig .tc := ⟨.hbm, 568, rfl⟩
abbrev main_v520 : Ref sig .tc := ⟨.hbm, 569, rfl⟩
abbrev main_v521 : Ref sig .tc := ⟨.hbm, 570, rfl⟩
abbrev main_v522 : Ref sig .tc := ⟨.hbm, 571, rfl⟩
abbrev main_v523 : Ref sig .tc := ⟨.hbm, 572, rfl⟩
abbrev main_v524 : Ref sig .tc := ⟨.hbm, 573, rfl⟩
abbrev main_v525 : Ref sig .tc := ⟨.hbm, 574, rfl⟩
abbrev main_v526 : Ref sig .tc := ⟨.hbm, 575, rfl⟩
abbrev main_v527 : Ref sig .tc := ⟨.hbm, 576, rfl⟩
abbrev main_v528 : Ref sig .tc := ⟨.hbm, 577, rfl⟩
abbrev main_v529 : Ref sig .tc := ⟨.hbm, 578, rfl⟩
abbrev main_v530 : Ref sig .tc := ⟨.hbm, 579, rfl⟩
abbrev main_v531 : Ref sig .tc := ⟨.hbm, 580, rfl⟩
abbrev main_v532 : Ref sig .tc := ⟨.hbm, 581, rfl⟩
abbrev main_v533 : Ref sig .tc := ⟨.hbm, 582, rfl⟩
abbrev main_v534 : Ref sig .tc := ⟨.hbm, 583, rfl⟩
abbrev main_cst_20 : Ref sig .tc := ⟨.hbm, 584, rfl⟩
abbrev main_call6_v0 : Ref sig .tc := ⟨.hbm, 585, rfl⟩
abbrev main_call6_v1 : Ref sig .tc := ⟨.hbm, 586, rfl⟩
abbrev main_call6_v2 : Ref sig .tc := ⟨.hbm, 587, rfl⟩
abbrev main_v535 : Ref sig .tc := ⟨.hbm, 588, rfl⟩
abbrev main_v536 : Ref sig .tc := ⟨.hbm, 589, rfl⟩
abbrev main_v537 : Ref sig .tc := ⟨.hbm, 590, rfl⟩
abbrev main_c_21 : Ref sig .tc := ⟨.hbm, 591, rfl⟩
abbrev main_v538 : Ref sig .tc := ⟨.hbm, 592, rfl⟩
abbrev main_v539 : Ref sig .tc := ⟨.hbm, 593, rfl⟩
abbrev main_v540 : Ref sig .tc := ⟨.hbm, 594, rfl⟩
abbrev main_v541 : Ref sig .tc := ⟨.hbm, 595, rfl⟩
abbrev main_v542 : Ref sig .tc := ⟨.hbm, 596, rfl⟩
abbrev main_v543 : Ref sig .tc := ⟨.hbm, 597, rfl⟩
abbrev main_c_22 : Ref sig .tc := ⟨.hbm, 598, rfl⟩
abbrev main_v544 : Ref sig .tc := ⟨.hbm, 599, rfl⟩
abbrev main_v545 : Ref sig .tc := ⟨.hbm, 600, rfl⟩
abbrev main_v546 : Ref sig .tc := ⟨.hbm, 601, rfl⟩
abbrev main_v547 : Ref sig .tc := ⟨.hbm, 602, rfl⟩
abbrev main_c_23 : Ref sig .tc := ⟨.hbm, 603, rfl⟩
abbrev main_v548 : Ref sig .tc := ⟨.hbm, 604, rfl⟩
abbrev main_v549 : Ref sig .tc := ⟨.hbm, 605, rfl⟩
abbrev main_c_24 : Ref sig .tc := ⟨.hbm, 606, rfl⟩
abbrev main_c_25 : Ref sig .tc := ⟨.hbm, 607, rfl⟩
abbrev main_call7_v0 : Ref sig .tc := ⟨.hbm, 608, rfl⟩
abbrev main_call7_v1 : Ref sig .tc := ⟨.hbm, 609, rfl⟩
abbrev main_call7_v2 : Ref sig .tc := ⟨.hbm, 610, rfl⟩
abbrev main_call7_v3 : Ref sig .tc := ⟨.hbm, 611, rfl⟩
abbrev main_call7_v4 : Ref sig .tc := ⟨.hbm, 612, rfl⟩
abbrev main_v550 : Ref sig .tc := ⟨.hbm, 613, rfl⟩
abbrev main_c_26 : Ref sig .tc := ⟨.hbm, 614, rfl⟩
abbrev main_v551 : Ref sig .tc := ⟨.hbm, 615, rfl⟩
abbrev main_v552 : Ref sig .tc := ⟨.hbm, 616, rfl⟩
abbrev main_c_27 : Ref sig .tc := ⟨.hbm, 617, rfl⟩
abbrev main_c_28 : Ref sig .tc := ⟨.hbm, 618, rfl⟩
abbrev main_call8_v0 : Ref sig .tc := ⟨.hbm, 619, rfl⟩
abbrev main_call8_v1 : Ref sig .tc := ⟨.hbm, 620, rfl⟩
abbrev main_call8_v2 : Ref sig .tc := ⟨.hbm, 621, rfl⟩
abbrev main_call8_v3 : Ref sig .tc := ⟨.hbm, 622, rfl⟩
abbrev main_call8_v4 : Ref sig .tc := ⟨.hbm, 623, rfl⟩
abbrev main_v553 : Ref sig .tc := ⟨.hbm, 624, rfl⟩
abbrev main_v554 : Ref sig .tc := ⟨.hbm, 625, rfl⟩
abbrev main_v555 : Ref sig .tc := ⟨.hbm, 626, rfl⟩
abbrev main_v556 : Ref sig .tc := ⟨.hbm, 627, rfl⟩
abbrev main_v557 : Ref sig .tc := ⟨.hbm, 628, rfl⟩
abbrev main_v558 : Ref sig .tc := ⟨.hbm, 629, rfl⟩
abbrev main_v559 : Ref sig .tc := ⟨.hbm, 630, rfl⟩
abbrev main_v560 : Ref sig .tc := ⟨.hbm, 631, rfl⟩
abbrev main_c_29 : Ref sig .tc := ⟨.hbm, 632, rfl⟩
abbrev main_v561 : Ref sig .tc := ⟨.hbm, 633, rfl⟩
abbrev main_v562 : Ref sig .tc := ⟨.hbm, 634, rfl⟩
abbrev main_v563 : Ref sig .tc := ⟨.hbm, 635, rfl⟩
abbrev main_v564 : Ref sig .tc := ⟨.hbm, 636, rfl⟩
abbrev main_v565 : Ref sig .tc := ⟨.hbm, 637, rfl⟩
abbrev main_v566 : Ref sig .tc := ⟨.hbm, 638, rfl⟩
abbrev main_v567 : Ref sig .tc := ⟨.hbm, 639, rfl⟩
abbrev main_v568 : Ref sig .tc := ⟨.hbm, 640, rfl⟩
abbrev main_v569 : Ref sig .tc := ⟨.hbm, 641, rfl⟩
abbrev main_v570 : Ref sig .tc := ⟨.hbm, 642, rfl⟩
abbrev main_v571 : Ref sig .tc := ⟨.hbm, 643, rfl⟩
abbrev main_v572 : Ref sig .tc := ⟨.hbm, 644, rfl⟩
abbrev main_v573 : Ref sig .tc := ⟨.hbm, 645, rfl⟩
abbrev main_v574 : Ref sig .tc := ⟨.hbm, 646, rfl⟩
abbrev main_c_30 : Ref sig .tc := ⟨.hbm, 647, rfl⟩
abbrev main_v575 : Ref sig .tc := ⟨.hbm, 648, rfl⟩
abbrev main_v576 : Ref sig .tc := ⟨.hbm, 649, rfl⟩
abbrev main_v577 : Ref sig .tc := ⟨.hbm, 650, rfl⟩
abbrev main_v578 : Ref sig .tc := ⟨.hbm, 651, rfl⟩
abbrev main_v579 : Ref sig .tc := ⟨.hbm, 652, rfl⟩
abbrev main_v580 : Ref sig .tc := ⟨.hbm, 653, rfl⟩
abbrev main_v581 : Ref sig .tc := ⟨.hbm, 654, rfl⟩
abbrev main_v582 : Ref sig .tc := ⟨.hbm, 655, rfl⟩
abbrev main_v583 : Ref sig .tc := ⟨.hbm, 656, rfl⟩
abbrev main_v584 : Ref sig .tc := ⟨.hbm, 657, rfl⟩
abbrev main_v585 : Ref sig .tc := ⟨.hbm, 658, rfl⟩
abbrev main_v586 : Ref sig .tc := ⟨.hbm, 659, rfl⟩
abbrev main_v587 : Ref sig .tc := ⟨.hbm, 660, rfl⟩
abbrev main_v588 : Ref sig .tc := ⟨.hbm, 661, rfl⟩
abbrev main_v589 : Ref sig .tc := ⟨.hbm, 662, rfl⟩
abbrev main_v590 : Ref sig .tc := ⟨.hbm, 663, rfl⟩
abbrev main_v591 : Ref sig .tc := ⟨.hbm, 664, rfl⟩
abbrev main_v592 : Ref sig .tc := ⟨.hbm, 665, rfl⟩
abbrev main_v593 : Ref sig .tc := ⟨.hbm, 666, rfl⟩
abbrev main_v594 : Ref sig .tc := ⟨.hbm, 667, rfl⟩
abbrev main_v595 : Ref sig .tc := ⟨.hbm, 668, rfl⟩
abbrev main_v596 : Ref sig .tc := ⟨.hbm, 669, rfl⟩
abbrev main_v597 : Ref sig .tc := ⟨.hbm, 670, rfl⟩
abbrev main_v598 : Ref sig .tc := ⟨.hbm, 671, rfl⟩
abbrev main_v599 : Ref sig .tc := ⟨.hbm, 672, rfl⟩
abbrev main_v600 : Ref sig .tc := ⟨.hbm, 673, rfl⟩
abbrev main_v601 : Ref sig .tc := ⟨.hbm, 674, rfl⟩
abbrev main_v602 : Ref sig .tc := ⟨.hbm, 675, rfl⟩
abbrev main_v603 : Ref sig .tc := ⟨.hbm, 676, rfl⟩
abbrev main_v604 : Ref sig .tc := ⟨.hbm, 677, rfl⟩
abbrev main_v605 : Ref sig .tc := ⟨.hbm, 678, rfl⟩
abbrev main_v606 : Ref sig .tc := ⟨.hbm, 679, rfl⟩
abbrev main_v607 : Ref sig .tc := ⟨.hbm, 680, rfl⟩
abbrev main_v608 : Ref sig .tc := ⟨.hbm, 681, rfl⟩
abbrev main_v609 : Ref sig .tc := ⟨.hbm, 682, rfl⟩
abbrev main_v610 : Ref sig .tc := ⟨.hbm, 683, rfl⟩
abbrev main_v611 : Ref sig .tc := ⟨.hbm, 684, rfl⟩
abbrev main_v612 : Ref sig .tc := ⟨.hbm, 685, rfl⟩
abbrev main_v613 : Ref sig .tc := ⟨.hbm, 686, rfl⟩
abbrev main_v614 : Ref sig .tc := ⟨.hbm, 687, rfl⟩
abbrev main_v615 : Ref sig .tc := ⟨.hbm, 688, rfl⟩
abbrev main_v616 : Ref sig .tc := ⟨.hbm, 689, rfl⟩
abbrev main_v617 : Ref sig .tc := ⟨.hbm, 690, rfl⟩
abbrev main_v618 : Ref sig .tc := ⟨.hbm, 691, rfl⟩
abbrev main_v619 : Ref sig .tc := ⟨.hbm, 692, rfl⟩
abbrev main_v620 : Ref sig .tc := ⟨.hbm, 693, rfl⟩
abbrev main_v621 : Ref sig .tc := ⟨.hbm, 694, rfl⟩
abbrev main_v622 : Ref sig .tc := ⟨.hbm, 695, rfl⟩
abbrev main_v623 : Ref sig .tc := ⟨.hbm, 696, rfl⟩
abbrev main_v624 : Ref sig .tc := ⟨.hbm, 697, rfl⟩
abbrev main_v625 : Ref sig .tc := ⟨.hbm, 698, rfl⟩
abbrev main_v626 : Ref sig .tc := ⟨.hbm, 699, rfl⟩
abbrev main_v627 : Ref sig .tc := ⟨.hbm, 700, rfl⟩
abbrev main_v628 : Ref sig .tc := ⟨.hbm, 701, rfl⟩
abbrev main_v629 : Ref sig .tc := ⟨.hbm, 702, rfl⟩
abbrev main_v630 : Ref sig .tc := ⟨.hbm, 703, rfl⟩
abbrev main_v631 : Ref sig .tc := ⟨.hbm, 704, rfl⟩
abbrev main_v632 : Ref sig .tc := ⟨.hbm, 705, rfl⟩
abbrev main_v633 : Ref sig .tc := ⟨.hbm, 706, rfl⟩
abbrev main_v634 : Ref sig .tc := ⟨.hbm, 707, rfl⟩
abbrev main_v635 : Ref sig .tc := ⟨.hbm, 708, rfl⟩
abbrev main_v636 : Ref sig .tc := ⟨.hbm, 709, rfl⟩
abbrev main_v637 : Ref sig .tc := ⟨.hbm, 710, rfl⟩
abbrev main_v638 : Ref sig .tc := ⟨.hbm, 711, rfl⟩
abbrev main_v639 : Ref sig .tc := ⟨.hbm, 712, rfl⟩
abbrev main_v640 : Ref sig .tc := ⟨.hbm, 713, rfl⟩
abbrev main_v641 : Ref sig .tc := ⟨.hbm, 714, rfl⟩
abbrev main_v642 : Ref sig .tc := ⟨.hbm, 715, rfl⟩
abbrev main_v643 : Ref sig .tc := ⟨.hbm, 716, rfl⟩
abbrev main_v644 : Ref sig .tc := ⟨.hbm, 717, rfl⟩
abbrev main_v645 : Ref sig .tc := ⟨.hbm, 718, rfl⟩
abbrev main_v646 : Ref sig .tc := ⟨.hbm, 719, rfl⟩
abbrev main_v647 : Ref sig .tc := ⟨.hbm, 720, rfl⟩
abbrev main_v648 : Ref sig .tc := ⟨.hbm, 721, rfl⟩
abbrev main_v649 : Ref sig .tc := ⟨.hbm, 722, rfl⟩
abbrev main_v650 : Ref sig .tc := ⟨.hbm, 723, rfl⟩
abbrev main_v651 : Ref sig .tc := ⟨.hbm, 724, rfl⟩
abbrev main_v652 : Ref sig .tc := ⟨.hbm, 725, rfl⟩
abbrev main_v653 : Ref sig .tc := ⟨.hbm, 726, rfl⟩
abbrev main_v654 : Ref sig .tc := ⟨.hbm, 727, rfl⟩
abbrev main_v655 : Ref sig .tc := ⟨.hbm, 728, rfl⟩
abbrev main_v656 : Ref sig .tc := ⟨.hbm, 729, rfl⟩
abbrev main_v657 : Ref sig .tc := ⟨.hbm, 730, rfl⟩
abbrev main_v658 : Ref sig .tc := ⟨.hbm, 731, rfl⟩
abbrev main_v659 : Ref sig .tc := ⟨.hbm, 732, rfl⟩
abbrev main_v660 : Ref sig .tc := ⟨.hbm, 733, rfl⟩
abbrev main_v661 : Ref sig .tc := ⟨.hbm, 734, rfl⟩
abbrev main_v662 : Ref sig .tc := ⟨.hbm, 735, rfl⟩
abbrev main_v663 : Ref sig .tc := ⟨.hbm, 736, rfl⟩
abbrev main_v664 : Ref sig .tc := ⟨.hbm, 737, rfl⟩
abbrev main_v665 : Ref sig .tc := ⟨.hbm, 738, rfl⟩
abbrev main_v666 : Ref sig .tc := ⟨.hbm, 739, rfl⟩
abbrev main_v667 : Ref sig .tc := ⟨.hbm, 740, rfl⟩
abbrev main_v668 : Ref sig .tc := ⟨.hbm, 741, rfl⟩
abbrev main_v669 : Ref sig .tc := ⟨.hbm, 742, rfl⟩
abbrev main_v670 : Ref sig .tc := ⟨.hbm, 743, rfl⟩
abbrev main_v671 : Ref sig .tc := ⟨.hbm, 744, rfl⟩
abbrev main_v672 : Ref sig .tc := ⟨.hbm, 745, rfl⟩
abbrev main_v673 : Ref sig .tc := ⟨.hbm, 746, rfl⟩
abbrev main_v674 : Ref sig .tc := ⟨.hbm, 747, rfl⟩
abbrev main_v675 : Ref sig .tc := ⟨.hbm, 748, rfl⟩
abbrev main_v676 : Ref sig .tc := ⟨.hbm, 749, rfl⟩
abbrev main_v677 : Ref sig .tc := ⟨.hbm, 750, rfl⟩
abbrev main_v678 : Ref sig .tc := ⟨.hbm, 751, rfl⟩
abbrev main_v679 : Ref sig .tc := ⟨.hbm, 752, rfl⟩
abbrev main_v680 : Ref sig .tc := ⟨.hbm, 753, rfl⟩
abbrev main_v681 : Ref sig .tc := ⟨.hbm, 754, rfl⟩
abbrev main_v682 : Ref sig .tc := ⟨.hbm, 755, rfl⟩
abbrev main_v683 : Ref sig .tc := ⟨.hbm, 756, rfl⟩
abbrev main_v684 : Ref sig .tc := ⟨.hbm, 757, rfl⟩
abbrev main_v685 : Ref sig .tc := ⟨.hbm, 758, rfl⟩
abbrev main_v686 : Ref sig .tc := ⟨.hbm, 759, rfl⟩
abbrev main_v687 : Ref sig .tc := ⟨.hbm, 760, rfl⟩
abbrev main_v688 : Ref sig .tc := ⟨.hbm, 761, rfl⟩
abbrev main_v689 : Ref sig .tc := ⟨.hbm, 762, rfl⟩
abbrev main_v690 : Ref sig .tc := ⟨.hbm, 763, rfl⟩
abbrev main_v691 : Ref sig .tc := ⟨.hbm, 764, rfl⟩
abbrev main_v692 : Ref sig .tc := ⟨.hbm, 765, rfl⟩
abbrev main_v693 : Ref sig .tc := ⟨.hbm, 766, rfl⟩
abbrev main_v694 : Ref sig .tc := ⟨.hbm, 767, rfl⟩
abbrev main_v695 : Ref sig .tc := ⟨.hbm, 768, rfl⟩
abbrev main_v696 : Ref sig .tc := ⟨.hbm, 769, rfl⟩
abbrev main_v697 : Ref sig .tc := ⟨.hbm, 770, rfl⟩
abbrev main_v698 : Ref sig .tc := ⟨.hbm, 771, rfl⟩
abbrev main_v699 : Ref sig .tc := ⟨.hbm, 772, rfl⟩
abbrev main_v700 : Ref sig .tc := ⟨.hbm, 773, rfl⟩
abbrev main_v701 : Ref sig .tc := ⟨.hbm, 774, rfl⟩
abbrev main_v702 : Ref sig .tc := ⟨.hbm, 775, rfl⟩
abbrev main_v703 : Ref sig .tc := ⟨.hbm, 776, rfl⟩
abbrev main_v704 : Ref sig .tc := ⟨.hbm, 777, rfl⟩
abbrev main_v705 : Ref sig .tc := ⟨.hbm, 778, rfl⟩
abbrev main_v706 : Ref sig .tc := ⟨.hbm, 779, rfl⟩
abbrev main_v707 : Ref sig .tc := ⟨.hbm, 780, rfl⟩
abbrev main_v708 : Ref sig .tc := ⟨.hbm, 781, rfl⟩
abbrev main_v709 : Ref sig .tc := ⟨.hbm, 782, rfl⟩
abbrev main_v710 : Ref sig .tc := ⟨.hbm, 783, rfl⟩
abbrev main_v711 : Ref sig .tc := ⟨.hbm, 784, rfl⟩
abbrev main_v712 : Ref sig .tc := ⟨.hbm, 785, rfl⟩
abbrev main_v713 : Ref sig .tc := ⟨.hbm, 786, rfl⟩
abbrev main_v714 : Ref sig .tc := ⟨.hbm, 787, rfl⟩
abbrev main_v715 : Ref sig .tc := ⟨.hbm, 788, rfl⟩
abbrev main_v716 : Ref sig .tc := ⟨.hbm, 789, rfl⟩
abbrev main_v717 : Ref sig .tc := ⟨.hbm, 790, rfl⟩
abbrev main_v718 : Ref sig .tc := ⟨.hbm, 791, rfl⟩
abbrev main_v719 : Ref sig .tc := ⟨.hbm, 792, rfl⟩
abbrev main_v720 : Ref sig .tc := ⟨.hbm, 793, rfl⟩
abbrev main_v721 : Ref sig .tc := ⟨.hbm, 794, rfl⟩
abbrev main_v722 : Ref sig .tc := ⟨.hbm, 795, rfl⟩
abbrev main_v723 : Ref sig .tc := ⟨.hbm, 796, rfl⟩
abbrev main_v724 : Ref sig .tc := ⟨.hbm, 797, rfl⟩
abbrev main_v725 : Ref sig .tc := ⟨.hbm, 798, rfl⟩
abbrev main_v726 : Ref sig .tc := ⟨.hbm, 799, rfl⟩
abbrev main_v727 : Ref sig .tc := ⟨.hbm, 800, rfl⟩
abbrev main_v728 : Ref sig .tc := ⟨.hbm, 801, rfl⟩
abbrev main_v729 : Ref sig .tc := ⟨.hbm, 802, rfl⟩
abbrev main_v730 : Ref sig .tc := ⟨.hbm, 803, rfl⟩
abbrev main_v731 : Ref sig .tc := ⟨.hbm, 804, rfl⟩
abbrev main_v732 : Ref sig .tc := ⟨.hbm, 805, rfl⟩
abbrev main_v733 : Ref sig .tc := ⟨.hbm, 806, rfl⟩
abbrev main_v734 : Ref sig .tc := ⟨.hbm, 807, rfl⟩
abbrev main_v735 : Ref sig .tc := ⟨.hbm, 808, rfl⟩
abbrev main_cst_31 : Ref sig .tc := ⟨.hbm, 809, rfl⟩
abbrev main_call9_v0 : Ref sig .tc := ⟨.hbm, 810, rfl⟩
abbrev main_call9_v1 : Ref sig .tc := ⟨.hbm, 811, rfl⟩
abbrev main_call9_v2 : Ref sig .tc := ⟨.hbm, 812, rfl⟩
abbrev main_v736 : Ref sig .tc := ⟨.hbm, 813, rfl⟩
abbrev main_v737 : Ref sig .tc := ⟨.hbm, 814, rfl⟩
abbrev main_v738 : Ref sig .tc := ⟨.hbm, 815, rfl⟩
abbrev main_v739 : Ref sig .tc := ⟨.hbm, 816, rfl⟩
abbrev main_v740 : Ref sig .tc := ⟨.hbm, 817, rfl⟩
abbrev main_v741 : Ref sig .tc := ⟨.hbm, 818, rfl⟩
abbrev main_v742 : Ref sig .tc := ⟨.hbm, 819, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 16, 8], ![false, false, false]⟩

def k0_mult1 (i : grid0.Coords) : BitVec 32 :=
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 3 → Nat :=
  let c0_5 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v14 : Index := Scalar.indexCast v5
  let c0_6 : Index := 0#32
  ![0, v14.toNat, 0]
def k0_off2 (i : grid0.Coords) : Fin 5 → Nat :=
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v35 : Index := Scalar.indexCast v9
  let c0_20 : Index := 0#32
  let c0_21 : Index := 0#32
  let c0_22 : Index := 0#32
  let c0_23 : Index := 0#32
  ![v35.toNat, 0, 0, 0, 0]
def k0_off3 (i : grid0.Coords) : Fin 5 → Nat :=
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v73 : Index := Scalar.indexCast v9
  let c0_34 : Index := 0#32
  let c1 : Index := 1#32
  let c0_35 : Index := 0#32
  let c0_36 : Index := 0#32
  ![v73.toNat, 0, 1, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S3x1x2x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16x2048x3072 : Shape := ⟨3, ![16, 2048, 3072]⟩
abbrev S16x256x3072 : Shape := ⟨3, ![16, 256, 3072]⟩
abbrev S16x15x31 : Shape := ⟨3, ![16, 15, 31]⟩
abbrev S16x2048x3x16x64 : Shape := ⟨5, ![16, 2048, 3, 16, 64]⟩
abbrev S16x256x3x16x64 : Shape := ⟨5, ![16, 256, 3, 16, 64]⟩
abbrev S16x2048x1x16x64 : Shape := ⟨5, ![16, 2048, 1, 16, 64]⟩
abbrev S16x2048x16x64 : Shape := ⟨4, ![16, 2048, 16, 64]⟩
abbrev S_ : Shape := ⟨0, ![]⟩
abbrev S16x256x1x16x64 : Shape := ⟨5, ![16, 256, 1, 16, 64]⟩
abbrev S16x256x16x64 : Shape := ⟨4, ![16, 256, 16, 64]⟩
abbrev S32x64 : Shape := ⟨2, ![32, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x2 : Shape := ⟨3, ![2048, 2048, 2]⟩
abbrev S16x2048x2048 : Shape := ⟨3, ![16, 2048, 2048]⟩
abbrev S16x16x2048x2048 : Shape := ⟨4, ![16, 16, 2048, 2048]⟩
abbrev S1x16x2048x2048 : Shape := ⟨4, ![1, 16, 2048, 2048]⟩
abbrev S16x16x2048x256 : Shape := ⟨4, ![16, 16, 2048, 256]⟩
abbrev S16x16x2048x2304 : Shape := ⟨4, ![16, 16, 2048, 2304]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048x1024 : Shape := ⟨3, ![16, 2048, 1024]⟩

abbrev nBuf : Space → Nat
  | .hbm => 157
  | .vmem => 0
  | .smem => 0
  | _ => 0

abbrev hbmTy0_0 (i : Nat) : BufTy := match i % 128 with
  | 0 => ⟨S16x2048x3072, .bf16⟩
  | 1 => ⟨S16x256x3072, .bf16⟩
  | 2 => ⟨S16x15x31, .f32⟩
  | 3 => ⟨S16x2048x3072, .f32⟩
  | 4 => ⟨S16x2048x3x16x64, .f32⟩
  | 5 => ⟨S16x256x3072, .f32⟩
  | 6 => ⟨S16x256x3x16x64, .f32⟩
  | 7 => ⟨S16x2048x1x16x64, .f32⟩
  | 8 => ⟨S16x2048x16x64, .f32⟩
  | 9 => ⟨S_, .f32⟩
  | 10 => ⟨S16x2048x16x64, .f32⟩
  | 11 => ⟨S16x2048x16x64, .f32⟩
  | 12 => ⟨S16x2048x1x16x64, .f32⟩
  | 13 => ⟨S16x2048x16x64, .f32⟩
  | 14 => ⟨S16x2048x1x16x64, .f32⟩
  | 15 => ⟨S16x2048x16x64, .f32⟩
  | 16 => ⟨S16x256x1x16x64, .f32⟩
  | 17 => ⟨S16x256x16x64, .f32⟩
  | 18 => ⟨S16x256x1x16x64, .f32⟩
  | 19 => ⟨S16x256x16x64, .f32⟩
  | 20 => ⟨S32x64, .i32⟩
  | 21 => ⟨S2048, .i32⟩
  | 22 => ⟨S32x64, .i32⟩
  | 23 => ⟨S2048, .i32⟩
  | 24 => ⟨S_, .i32⟩
  | 25 => ⟨S2048, .i32⟩
  | 26 => ⟨S2048, .i32⟩
  | 27 => ⟨S_, .i32⟩
  | 28 => ⟨S_, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S2048x1, .i32⟩
  | 36 => ⟨S_, .i32⟩
  | 37 => ⟨S2048, .i32⟩
  | 38 => ⟨S2048, .i32⟩
  | 39 => ⟨S_, .i32⟩
  | 40 => ⟨S_, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S2048x1, .i32⟩
  | 48 => ⟨S1x2048, .i32⟩
  | 49 => ⟨S2048x2048, .i32⟩
  | 50 => ⟨S2048x2048, .i32⟩
  | 51 => ⟨S2048x2048, .i1⟩
  | 52 => ⟨S1x2048, .i32⟩
  | 53 => ⟨S_, .i32⟩
  | 54 => ⟨S2048x1, .i32⟩
  | 55 => ⟨S2048x1, .i32⟩
  | 56 => ⟨S2048x2048, .i32⟩
  | 57 => ⟨S2048x2048, .i32⟩
  | 58 => ⟨S2048x2048, .i1⟩
  | 59 => ⟨S2048x2048, .i1⟩
  | 60 => ⟨S1x2048, .i32⟩
  | 61 => ⟨S2048x2048, .i32⟩
  | 62 => ⟨S2048x2048, .i32⟩
  | 63 => ⟨S2048x2048, .i1⟩
  | 64 => ⟨S2048x2048, .i1⟩
  | 65 => ⟨S1x2048, .i32⟩
  | 66 => ⟨S_, .i32⟩
  | 67 => ⟨S2048x1, .i32⟩
  | 68 => ⟨S2048x1, .i32⟩
  | 69 => ⟨S2048x2048, .i32⟩
  | 70 => ⟨S2048x2048, .i32⟩
  | 71 => ⟨S2048x2048, .i1⟩
  | 72 => ⟨S2048x2048, .i1⟩
  | 73 => ⟨S1x2048, .i32⟩
  | 74 => ⟨S2048x1, .i32⟩
  | 75 => ⟨S2048x2048, .i32⟩
  | 76 => ⟨S2048x2048, .i32⟩
  | 77 => ⟨S2048x2048, .i32⟩
  | 78 => ⟨S_, .i32⟩
  | 79 => ⟨S2048x2048, .i32⟩
  | 80 => ⟨S2048x2048, .i32⟩
  | 81 => ⟨S_, .i32⟩
  | 82 => ⟨S_, .i32⟩
  | 83 => ⟨S_, .i32⟩
  | 84 => ⟨S2048x2048, .i32⟩
  | 85 => ⟨S2048x2048, .i32⟩
  | 86 => ⟨S_, .i32⟩
  | 87 => ⟨S2048x2048, .i32⟩
  | 88 => ⟨S2048x2048, .i32⟩
  | 89 => ⟨S1x2048, .i32⟩
  | 90 => ⟨S2048x1, .i32⟩
  | 91 => ⟨S2048x2048, .i32⟩
  | 92 => ⟨S2048x2048, .i32⟩
  | 93 => ⟨S2048x2048, .i32⟩
  | 94 => ⟨S_, .i32⟩
  | 95 => ⟨S2048x2048, .i32⟩
  | 96 => ⟨S2048x2048, .i32⟩
  | 97 => ⟨S_, .i32⟩
  | 98 => ⟨S_, .i32⟩
  | 99 => ⟨S_, .i32⟩
  | 100 => ⟨S2048x2048, .i32⟩
  | 101 => ⟨S2048x2048, .i32⟩
  | 102 => ⟨S_, .i32⟩
  | 103 => ⟨S2048x2048, .i32⟩
  | 104 => ⟨S2048x2048, .i32⟩
  | 105 => ⟨S_, .i32⟩
  | 106 => ⟨S2048x2048, .i32⟩
  | 107 => ⟨S2048x2048, .i1⟩
  | 108 => ⟨S_, .i32⟩
  | 109 => ⟨S2048x2048, .i32⟩
  | 110 => ⟨S2048x2048, .i32⟩
  | 111 => ⟨S2048x2048, .i32⟩
  | 112 => ⟨S_, .i32⟩
  | 113 => ⟨S2048x2048, .i32⟩
  | 114 => ⟨S2048x2048, .i1⟩
  | 115 => ⟨S_, .i32⟩
  | 116 => ⟨S2048x2048, .i32⟩
  | 117 => ⟨S2048x2048, .i32⟩
  | 118 => ⟨S2048x2048, .i32⟩
  | 119 => ⟨S2048x2048x1, .i32⟩
  | 120 => ⟨S2048x2048x1, .i32⟩
  | 121 => ⟨S2048x2048x2, .i32⟩
  | 122 => ⟨S16x2048x2048, .f32⟩
  | 123 => ⟨S16x16x2048x2048, .f32⟩
  | 124 => ⟨S1x16x2048x2048, .f32⟩
  | 125 => ⟨S16x16x2048x2048, .f32⟩
  | 126 => ⟨S16x16x2048x2048, .f32⟩
  | 127 => ⟨S_, .f32⟩
  | _ => ⟨S16x2048x3072, .bf16⟩

abbrev hbmTy0_1 (i : Nat) : BufTy := match i % 128 with
  | 0 => ⟨S_, .f32⟩
  | 1 => ⟨S16x16x2048x2048, .i1⟩
  | 2 => ⟨S16x16x2048x2048, .f32⟩
  | 3 => ⟨S16x16x2048x2048, .f32⟩
  | 4 => ⟨S16x16x2048x256, .f32⟩
  | 5 => ⟨S16x16x2048x2304, .f32⟩
  | 6 => ⟨S_, .f32⟩
  | 7 => ⟨S16x16x2048, .f32⟩
  | 8 => ⟨S_, .f32⟩
  | 9 => ⟨S16x16x2048, .f32⟩
  | 10 => ⟨S16x16x2048, .f32⟩
  | 11 => ⟨S16x16x2048x1, .f32⟩
  | 12 => ⟨S16x16x2048x2304, .f32⟩
  | 13 => ⟨S16x16x2048x2304, .f32⟩
  | 14 => ⟨S16x16x2048x2304, .f32⟩
  | 15 => ⟨S_, .f32⟩
  | 16 => ⟨S16x16x2048, .f32⟩
  | 17 => ⟨S16x16x2048x1, .f32⟩
  | 18 => ⟨S16x16x2048x2304, .f32⟩
  | 19 => ⟨S16x16x2048x2304, .f32⟩
  | 20 => ⟨S16x16x2048x2048, .f32⟩
  | 21 => ⟨S16x16x64x2048, .f32⟩
  | 22 => ⟨S16x2048x16x64, .f32⟩
  | 23 => ⟨S16x16x2048x256, .f32⟩
  | 24 => ⟨S16x16x64x2048, .f32⟩
  | 25 => ⟨S16x2048x16x64, .f32⟩
  | 26 => ⟨S16x2048x16x64, .f32⟩
  | 27 => ⟨S16x2048x1024, .f32⟩
  | 28 => ⟨S16x2048x1024, .bf16⟩
  | _ => ⟨S16x2048x3072, .bf16⟩

abbrev hbmTy (i : Nat) : BufTy := match i / 128 with
  | 0 => hbmTy0_0 i
  | 1 => hbmTy0_1 i
  | _ => ⟨S16x2048x3072, .bf16⟩

abbrev bufTy : (tb : Table) → Fin (tcTables nBuf tb) → BufTy
  | .hbm, ⟨i, _⟩ => hbmTy i
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_c_9 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_10 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_c_12 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v66 : Ref sig .tc := ⟨.hbm, 104, rfl⟩
abbrev main_c_13 : Ref sig .tc := ⟨.hbm, 105, rfl⟩
abbrev main_v67 : Ref sig .tc := ⟨.hbm, 106, rfl⟩
abbrev main_v68 : Ref sig .tc := ⟨.hbm, 107, rfl⟩
abbrev main_c_14 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_15 : Ref sig .tc := ⟨.hbm, 112, rfl⟩
abbrev main_v72 : Ref sig .tc := ⟨.hbm, 113, rfl⟩
abbrev main_v73 : Ref sig .tc := ⟨.hbm, 114, rfl⟩
abbrev main_c_16 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_17 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_18 : Ref sig .tc := ⟨.hbm, 134, rfl⟩
abbrev main_v88 : Ref sig .tc := ⟨.hbm, 135, rfl⟩
abbrev main_cst_19 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_20 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x16x2048 : Shape := ⟨3, ![16, 16, 2048]⟩
abbrev S16x16x256 : Shape := ⟨3, ![16, 16, 256]⟩
abbrev S16x1024x2048 : Shape := ⟨3, ![16, 1024, 2048]⟩
abbrev S16x16x1x2048 : Shape := ⟨4, ![16, 16, 1, 2048]⟩
abbrev S16x16x256x1024 : Shape := ⟨4, ![16, 16, 256, 1024]⟩
abbrev S2x2048x1024 : Shape := ⟨3, ![2, 2048, 1024]⟩
abbrev S2x1x1x2048 : Shape := ⟨4, ![2, 1, 1, 2048]⟩
abbrev S1x1024x2048 : Shape := ⟨3, ![1, 1024, 2048]⟩
abbrev S1x2048x1024 : Shape := ⟨3, ![1, 2048, 1024]⟩
abbrev S2x1x256x1024 : Shape := ⟨4, ![2, 1, 256, 1024]⟩
abbrev S256x2048 : Shape := ⟨2, ![256, 2048]⟩
abbrev S1x1x1x2048 : Shape := ⟨4, ![1, 1, 1, 2048]⟩
abbrev S1x2048 : Shape := ⟨2, ![1, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S512x1024 : Shape := ⟨2, ![512, 1024]⟩
abbrev S1024x2048 : Shape := ⟨2, ![1024, 2048]⟩
abbrev S512x2048 : Shape := ⟨2, ![512, 2048]⟩
abbrev S1x1x256x1024 : Shape := ⟨4, ![1, 1, 256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16x2048x1024, .bf16⟩
  | .hbm, ⟨1, _⟩ => ⟨S16x16x2048, .i32⟩
  | .hbm, ⟨2, _⟩ => ⟨S16x16x2048, .f32⟩
  | .hbm, ⟨3, _⟩ => ⟨S16x16x256, .i32⟩
  | .hbm, ⟨4, _⟩ => ⟨S16x1024x2048, .f32⟩
  | .hbm, ⟨5, _⟩ => ⟨S16x1024x2048, .f32⟩
  | .hbm, ⟨6, _⟩ => ⟨S16x2048x1024, .f32⟩
  | .hbm, ⟨7, _⟩ => ⟨S16x1024x2048, .bf16⟩
  | .hbm, ⟨8, _⟩ => ⟨S16x1024x2048, .bf16⟩
  | .hbm, ⟨9, _⟩ => ⟨S16x2048x1024, .bf16⟩
  | .hbm, ⟨10, _⟩ => ⟨S16x16x1x2048, .i32⟩
  | .hbm, ⟨11, _⟩ => ⟨S16x16x1x2048, .f32⟩
  | .hbm, ⟨12, _⟩ => ⟨S16x16x256x1024, .bf16⟩
  | .local _ .vmem, ⟨0, _⟩ => ⟨S2x2048x1024, .bf16⟩
  | .local _ .vmem, ⟨1, _⟩ => ⟨S2x2048x1024, .bf16⟩
  | .local _ .vmem, ⟨2, _⟩ => ⟨S2x1x1x2048, .i32⟩
  | .local _ .vmem, ⟨3, _⟩ => ⟨S2x1x1x2048, .i32⟩
  | .local _ .vmem, ⟨4, _⟩ => ⟨S2x1x1x2048, .f32⟩
  | .local _ .vmem, ⟨5, _⟩ => ⟨S2x1x1x2048, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .bf16⟩
  | .local _ .vmem, ⟨9, _⟩ => ⟨S2x1x256x1024, .bf16⟩
  | .local _ .vmem, ⟨10, _⟩ => ⟨S2x1x256x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2x1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16x2048x1024 : Shape := ⟨3, ![16, 2048, 1024]⟩
abbrev S16x16x2048 : Shape := ⟨3, ![16, 16, 2048]⟩
abbrev S16x16x256 : Shape := ⟨3, ![16, 16, 256]⟩
abbrev S16x1024x2048 : Shape := ⟨3, ![16, 1024, 2048]⟩
abbrev S_ : Shape := ⟨0, ![]⟩
abbrev S16x16x256x1 : Shape := ⟨4, ![16, 16, 256, 1]⟩
abbrev S16x16x256x1024 : Shape := ⟨4, ![16, 16, 256, 1024]⟩
abbrev S16x2048x16x256 : Shape := ⟨4, ![16, 2048, 16, 256]⟩
abbrev S16x16x256x2048 : Shape := ⟨4, ![16, 16, 256, 2048]⟩
abbrev S16x1024x16x256 : Shape := ⟨4, ![16, 1024, 16, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x16x2048, .i32⟩
  | .hbm, ⟨2, _⟩ => ⟨S16x16x2048, .f32⟩
  | .hbm, ⟨3, _⟩ => ⟨S16x16x256, .i32⟩
  | .hbm, ⟨4, _⟩ => ⟨S16x1024x2048, .f32⟩
  | .hbm, ⟨5, _⟩ => ⟨S16x1024x2048, .f32⟩
  | .hbm, ⟨6, _⟩ => ⟨S16x2048x1024, .f32⟩
  | .hbm, ⟨7, _⟩ => ⟨S_, .i32⟩
  | .hbm, ⟨8, _⟩ => ⟨S16x16x256, .i32⟩
  | .hbm, ⟨9, _⟩ => ⟨S16x16x256, .i1⟩
  | .hbm, ⟨10, _⟩ => ⟨S_, .i32⟩
  | .hbm, ⟨11, _⟩ => ⟨S16x16x256, .i32⟩
  | .hbm, ⟨12, _⟩ => ⟨S16x16x256, .i32⟩
  | .hbm, ⟨13, _⟩ => ⟨S16x16x256, .i32⟩
  | .hbm, ⟨14, _⟩ => ⟨S16x16x256x1, .i32⟩
  | .hbm, ⟨15, _⟩ => ⟨S16x16x256, .f32⟩
  | .hbm, ⟨16, _⟩ => ⟨S16x2048x1024, .f32⟩
  | .hbm, ⟨17, _⟩ => ⟨S_, .i32⟩
  | .hbm, ⟨18, _⟩ => ⟨S16x16x256, .i32⟩
  | .hbm, ⟨19, _⟩ => ⟨S16x16x256, .i1⟩
  | .hbm, ⟨20, _⟩ => ⟨S_, .i32⟩
  | .hbm, ⟨21, _⟩ => ⟨S16x16x256, .i32⟩
  | .hbm, ⟨22, _⟩ => ⟨S16x16x256, .i32⟩
  | .hbm, ⟨23, _⟩ => ⟨S16x16x256, .i32⟩
  | .hbm, ⟨24, _⟩ => ⟨S16x16x256x1, .i32⟩
  | .hbm, ⟨25, _⟩ => ⟨S16x16x256x1024, .f32⟩
  | .hbm, ⟨26, _⟩ => ⟨S16x2048x16x256, .f32⟩
  | .hbm, ⟨27, _⟩ => ⟨S16x16x256x2048, .f32⟩
  | .hbm, ⟨28, _⟩ => ⟨S16x16x256x2048, .f32⟩
  | .hbm, ⟨29, _⟩ => ⟨S16x16x256x2048, .f32⟩
  | .hbm, ⟨30, _⟩ => ⟨S_, .f32⟩
  | .hbm, ⟨31, _⟩ => ⟨S16x16x256x2048, .f32⟩
  | .hbm, ⟨32, _⟩ => ⟨S16x16x256x2048, .f32⟩
  | .hbm, ⟨33, _⟩ => ⟨S_, .f32⟩
  | .hbm, ⟨34, _⟩ => ⟨S16x16x256x2048, .f32⟩
  | .hbm, ⟨35, _⟩ => ⟨S16x16x256x2048, .f32⟩
  | .hbm, ⟨36, _⟩ => ⟨S16x16x256x2048, .f32⟩
  | .hbm, ⟨37, _⟩ => ⟨S16x2048x16x256, .f32⟩
  | .hbm, ⟨38, _⟩ => ⟨S16x16x256x2048, .f32⟩
  | .hbm, ⟨39, _⟩ => ⟨S16x16x256x2048, .f32⟩
  | .hbm, ⟨40, _⟩ => ⟨S16x1024x16x256, .f32⟩
  | .hbm, ⟨41, _⟩ => ⟨S16x16x256x1024, .f32⟩
  | .hbm, ⟨42, _⟩ => ⟨S16x16x256x1, .f32⟩
  | .hbm, ⟨43, _⟩ => ⟨S16x16x256x1024, .f32⟩
  | .hbm, ⟨44, _⟩ => ⟨S16x16x256x1024, .f32⟩
  | .hbm, ⟨45, _⟩ => ⟨S16x16x256x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x1x1024 : Shape := ⟨3, ![16, 1, 1024]⟩
abbrev S1024x2048 : Shape := ⟨2, ![1024, 2048]⟩
abbrev S2048 : Shape := ⟨1, ![2048]⟩
abbrev S1x2048 : Shape := ⟨2, ![1, 2048]⟩
abbrev S1x512x1024 : Shape := ⟨3, ![1, 512, 1024]⟩
abbrev S1x1x1024 : Shape := ⟨3, ![1, 1, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x2048, .f32⟩
  | .hbm, ⟨4, _⟩ => ⟨S2048, .f32⟩
  | .hbm, ⟨5, _⟩ => ⟨S1024x2048, .bf16⟩
  | .hbm, ⟨6, _⟩ => ⟨S1x2048, .f32⟩
  | .hbm, ⟨7, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![1, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S16x2048x1024 : Shape := ⟨3, ![16, 2048, 1024]⟩
abbrev S16x1x1024 : Shape := ⟨3, ![16, 1, 1024]⟩
abbrev S1024x2048 : Shape := ⟨2, ![1024, 2048]⟩
abbrev S2048 : Shape := ⟨1, ![2048]⟩
abbrev S_ : Shape := ⟨0, ![]⟩
abbrev S16x2048x2048 : Shape := ⟨3, ![16, 2048, 2048]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x2048, .f32⟩
  | .hbm, ⟨4, _⟩ => ⟨S2048, .f32⟩
  | .hbm, ⟨5, _⟩ => ⟨S_, .f32⟩
  | .hbm, ⟨6, _⟩ => ⟨S16x1x1024, .f32⟩
  | .hbm, ⟨7, _⟩ => ⟨S16x1x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S16x2048x2048, .f32⟩
  | .hbm, ⟨13, _⟩ => ⟨S1x1x2048, .f32⟩
  | .hbm, ⟨14, _⟩ => ⟨S16x2048x2048, .f32⟩
  | .hbm, ⟨15, _⟩ => ⟨S16x2048x2048, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x1x1024 : Shape := ⟨3, ![16, 1, 1024]⟩
abbrev S1024x3072 : Shape := ⟨2, ![1024, 3072]⟩
abbrev S16x2048x3072 : Shape := ⟨3, ![16, 2048, 3072]⟩
abbrev S1x512x1024 : Shape := ⟨3, ![1, 512, 1024]⟩
abbrev S1x1x1024 : Shape := ⟨3, ![1, 1, 1024]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x3072, .f32⟩
  | .hbm, ⟨4, _⟩ => ⟨S1024x3072, .bf16⟩
  | .hbm, ⟨5, _⟩ => ⟨S16x2048x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x512x1024, .bf16⟩
  | .local _ .vmem, ⟨9, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S16x2048x1024 : Shape := ⟨3, ![16, 2048, 1024]⟩
abbrev S16x1x1024 : Shape := ⟨3, ![16, 1, 1024]⟩
abbrev S1024x3072 : Shape := ⟨2, ![1024, 3072]⟩
abbrev S_ : Shape := ⟨0, ![]⟩
abbrev S16x2048x3072 : Shape := ⟨3, ![16, 2048, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x3072, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x3072, .f32⟩
  | .hbm, ⟨12, _⟩ => ⟨S16x2048x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.BitsFrameRunA.lean ====
/- The run of one point of `Cert.Kernel`, over `BitsFrameRuns`. -/
module

public import proofs.«01_k».proof.Proof.BitsFrameRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S3x1x2x256x768 .f32) (harg8 : arg8.IsWhole) (arg9 : Memref sig .tc .vmem S1x256x128 .bf16) (harg9 : arg9.IsWhole)
    (x0 : Vec F S1x256x128 .bf16) (x1 : Vec F S1x2048x128 .bf16) (x2 : Vec F S1x2048x128 .bf16) (x3 : Vec F S1x256x128 .bf16) (x4 : Vec F S1x256x128 .bf16) (x5 : Vec F S3x1x2x256x768 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)) -∗ K ⟨⟩))
          ⊢ wp frame (wpE (defs₀ (F := F)) Variants.none c none) E (cc0_na_attn i arg3 harg3 arg4 harg4 arg5 harg5 arg6 harg6 arg7 harg7 arg8 harg8 arg9 harg9) K := by
    intro E K
    simp only [cc0_na_attn_eq_skeleton]; unfold cc0_na_attn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _, _; isplitr; swap; · iexact H6
    ipureintro; rfl

end Cert.Kernel.Hand

end
-- ==== Proof.BitsFrame.lean ====
/- The frame of `Cert.Kernel`, over `BitsFrameRunA`. -/
module

public import proofs.«01_k».proof.Proof.BitsFrameRunA
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.IdealWrites.lean ====
/- The host operations before the call of `Cert.KernelIdeal` write the buffers 3 to 818, each stretch a run of consecutive
   numbers: a buffer outside a stretch's run is as it was before the stretch. -/
module

public import proofs.«01_k».proof.Proof.Gen.KernelIdeal.Launch

@[expose] public section

set_option maxRecDepth 16384

noncomputable section

namespace Cert.KernelIdeal.Hand

open Idealize.ShloMosaic Idealize.ShloMosaic.TcCoe Cert.KernelIdeal.Gen

variable {F : FTy → Type} [FloatOps F]

/-- A buffer's number. -/
abbrev num (b : Ref sig .tc) : Nat := b.idx.val

/-- The operation writes one buffer, whose number lies in the range. -/
def Wr (lo hi : Nat) (op : HloOp τ sig (Elt F)) : Prop := ∃ r : Ref sig .tc, op.writes = {Proc.devRef .tc r} ∧ lo ≤ num r ∧ num r < hi

theorem Wr.mono {lo hi lo' hi' : Nat} {op : HloOp τ sig (Elt F)} (h : Wr lo hi op) (h1 : lo' ≤ lo) (h2 : hi ≤ hi') : Wr lo' hi' op :=
  let ⟨r, hr, a, b⟩ := h
  ⟨r, hr, le_trans h1 a, lt_of_lt_of_le b h2⟩

theorem after_skip {lo hi : Nat} (L : List (HloOp τ sig (Elt F))) (h : L.Forall (Wr lo hi)) (X : Valuation τ sig (Elt F)) (b : Ref sig .tc)
    (hb : num b < lo ∨ hi ≤ num b) : StableHlo.after L X (Proc.devRef .tc b) = X (Proc.devRef .tc b) := by
  refine StableHlo.after_of_forall_not_mem _ _ fun op hop hm => ?_
  obtain ⟨r, hr, h1, h2⟩ := List.forall_iff_forall_mem.mp h op hop
  rw [hr, Finset.mem_singleton] at hm
  have e : b = r := Proc.devRef_injective _ hm
  subst e
  omega

theorem hostOps0_writes : (hostOps0 : List (HloOp τ sig (Elt F))).Forall (Wr 3 4) :=
  ⟨main_c, rfl, by decide, by decide⟩
theorem hostOps0_1_writes : (hostOps0_1 : List (HloOp τ sig (Elt F))).Forall (Wr 4 6) :=
  ⟨⟨main_call0_v0, rfl, by decide, by decide⟩, ⟨main_v0, rfl, by decide, by decide⟩⟩
theorem hostOps0_2_writes : (hostOps0_2 : List (HloOp τ sig (Elt F))).Forall (Wr 6 158) :=
  ⟨⟨main_v1, rfl, by decide, by decide⟩, ⟨main_v2, rfl, by decide, by decide⟩, ⟨main_v3, rfl, by decide, by decide⟩, ⟨main_v4, rfl, by decide, by decide⟩, ⟨main_v5, rfl, by decide, by decide⟩, ⟨main_v6, rfl, by decide, by decide⟩, ⟨main_v7, rfl, by decide, by decide⟩, ⟨main_v8, rfl, by decide, by decide⟩, ⟨main_v9, rfl, by decide, by decide⟩, ⟨main_v10, rfl, by decide, by decide⟩, ⟨main_v11, rfl, by decide, by decide⟩, ⟨main_v12, rfl, by decide, by decide⟩, ⟨main_v13, rfl, by decide, by decide⟩, ⟨main_v14, rfl, by decide, by decide⟩, ⟨main_v15, rfl, by decide, by decide⟩, ⟨main_v16, rfl, by decide, by decide⟩, ⟨main_v17, rfl, by decide, by decide⟩, ⟨main_v18, rfl, by decide, by decide⟩, ⟨main_v19, rfl, by decide, by decide⟩, ⟨main_v20, rfl, by decide, by decide⟩, ⟨main_v21, rfl, by decide, by decide⟩, ⟨main_v22, rfl, by decide, by decide⟩, ⟨main_v23, rfl, by decide, by decide⟩, ⟨main_v24, rfl, by decide, by decide⟩, ⟨main_v25, rfl, by decide, by decide⟩, ⟨main_v26, rfl, by decide, by decide⟩, ⟨main_v27, rfl, by decide, by decide⟩, ⟨main_v28, rfl, by decide, by decide⟩, ⟨main_v29, rfl, by decide, by decide⟩, ⟨main_v30, rfl, by decide, by decide⟩, ⟨main_v31, rfl, by decide, by decide⟩, ⟨main_v32, rfl, by decide, by decide⟩, ⟨main_v33, rfl, by decide, by decide⟩, ⟨main_v34, rfl, by decide, by decide⟩, ⟨main_v35, rfl, by decide, by decide⟩, ⟨main_v36, rfl, by decide, by decide⟩, ⟨main_v37, rfl, by decide, by decide⟩, ⟨main_v38, rfl, by decide, by decide⟩, ⟨main_v39, rfl, by decide, by decide⟩, ⟨main_v40, rfl, by decide, by decide⟩, ⟨main_v41, rfl, by decide, by decide⟩, ⟨main_v42, rfl, by decide, by decide⟩, ⟨main_v43, rfl, by decide, by decide⟩, ⟨main_v44, rfl, by decide, by decide⟩, ⟨main_v45, rfl, by decide, by decide⟩, ⟨main_v46, rfl, by decide, by decide⟩, ⟨main_v47, rfl, by decide, by decide⟩, ⟨main_v48, rfl, by decide, by decide⟩, ⟨main_v49, rfl, by decide, by decide⟩, ⟨main_v50, rfl, by decide, by decide⟩, ⟨main_v51, rfl, by decide, by decide⟩, ⟨main_v52, rfl, by decide, by decide⟩, ⟨main_v53, rfl, by decide, by decide⟩, ⟨main_v54, rfl, by decide, by decide⟩, ⟨main_v55, rfl, by decide, by decide⟩, ⟨main_v56, rfl, by decide, by decide⟩, ⟨main_v57, rfl, by decide, by decide⟩, ⟨main_v58, rfl, by decide, by decide⟩, ⟨main_v59, rfl, by decide, by decide⟩, ⟨main_v60, rfl, by decide, by decide⟩, ⟨main_v61, rfl, by decide, by decide⟩, ⟨main_v62, rfl, by decide, by decide⟩, ⟨main_v63, rfl, by decide, by decide⟩, ⟨main_v64, rfl, by decide, by decide⟩, ⟨main_v65, rfl, by decide, by decide⟩, ⟨main_v66, rfl, by decide, by decide⟩, ⟨main_v67, rfl, by decide, by decide⟩, ⟨main_v68, rfl, by decide, by decide⟩, ⟨main_v69, rfl, by decide, by decide⟩, ⟨main_v70, rfl, by decide, by decide⟩, ⟨main_v71, rfl, by decide, by decide⟩, ⟨main_v72, rfl, by decide, by decide⟩, ⟨main_v73, rfl, by decide, by decide⟩, ⟨main_v74, rfl, by decide, by decide⟩, ⟨main_v75, rfl, by decide, by decide⟩, ⟨main_v76, rfl, by decide, by decide⟩, ⟨main_v77, rfl, by decide, by decide⟩, ⟨main_v78, rfl, by decide, by decide⟩, ⟨main_v79, rfl, by decide, by decide⟩, ⟨main_v80, rfl, by decide, by decide⟩, ⟨main_v81, rfl, by decide, by decide⟩, ⟨main_v82, rfl, by decide, by decide⟩, ⟨main_v83, rfl, by decide, by decide⟩, ⟨main_v84, rfl, by decide, by decide⟩, ⟨main_v85, rfl, by decide, by decide⟩, ⟨main_v86, rfl, by decide, by decide⟩, ⟨main_v87, rfl, by decide, by decide⟩, ⟨main_v88, rfl, by decide, by decide⟩, ⟨main_v89, rfl, by decide, by decide⟩, ⟨main_v90, rfl, by decide, by decide⟩, ⟨main_v91, rfl, by decide, by decide⟩, ⟨main_v92, rfl, by decide, by decide⟩, ⟨main_v93, rfl, by decide, by decide⟩, ⟨main_v94, rfl, by decide, by decide⟩, ⟨main_v95, rfl, by decide, by decide⟩, ⟨main_v96, rfl, by decide, by decide⟩, ⟨main_v97, rfl, by decide, by decide⟩, ⟨main_v98, rfl, by decide, by decide⟩, ⟨main_v99, rfl, by decide, by decide⟩, ⟨main_v100, rfl, by decide, by decide⟩, ⟨main_v101, rfl, by decide, by decide⟩, ⟨main_v102, rfl, by decide, by decide⟩, ⟨main_v103, rfl, by decide, by decide⟩, ⟨main_v104, rfl, by decide, by decide⟩, ⟨main_v105, rfl, by decide, by decide⟩, ⟨main_v106, rfl, by decide, by decide⟩, ⟨main_v107, rfl, by decide, by decide⟩, ⟨main_v108, rfl, by decide, by decide⟩, ⟨main_v109, rfl, by decide, by decide⟩, ⟨main_v110, rfl, by decide, by decide⟩, ⟨main_v111, rfl, by decide, by decide⟩, ⟨main_v112, rfl, by decide, by decide⟩, ⟨main_v113, rfl, by decide, by decide⟩, ⟨main_v114, rfl, by decide, by decide⟩, ⟨main_v115, rfl, by decide, by decide⟩, ⟨main_v116, rfl, by decide, by decide⟩, ⟨main_v117, rfl, by decide, by decide⟩, ⟨main_v118, rfl, by decide, by decide⟩, ⟨main_v119, rfl, by decide, by decide⟩, ⟨main_v120, rfl, by decide, by decide⟩, ⟨main_v121, rfl, by decide, by decide⟩, ⟨main_v122, rfl, by decide, by decide⟩, ⟨main_v123, rfl, by decide, by decide⟩, ⟨main_v124, rfl, by decide, by decide⟩, ⟨main_v125, rfl, by decide, by decide⟩, ⟨main_v126, rfl, by decide, by decide⟩, ⟨main_v127, rfl, by decide, by decide⟩, ⟨main_v128, rfl, by decide, by decide⟩, ⟨main_v129, rfl, by decide, by decide⟩, ⟨main_v130, rfl, by decide, by decide⟩, ⟨main_v131, rfl, by decide, by decide⟩, ⟨main_v132, rfl, by decide, by decide⟩, ⟨main_v133, rfl, by decide, by decide⟩, ⟨main_v134, rfl, by decide, by decide⟩, ⟨main_v135, rfl, by decide, by decide⟩, ⟨main_c_0, rfl, by decide, by decide⟩, ⟨main_v136, rfl, by decide, by decide⟩, ⟨main_v137, rfl, by decide, by decide⟩, ⟨main_v138, rfl, by decide, by decide⟩, ⟨main_v139, rfl, by decide, by decide⟩, ⟨main_v140, rfl, by decide, by decide⟩, ⟨main_v141, rfl, by decide, by decide⟩, ⟨main_c_1, rfl, by decide, by decide⟩, ⟨main_v142, rfl, by decide, by decide⟩, ⟨main_v143, rfl, by decide, by decide⟩, ⟨main_v144, rfl, by decide, by decide⟩, ⟨main_v145, rfl, by decide, by decide⟩, ⟨main_c_2, rfl, by decide, by decide⟩, ⟨main_v146, rfl, by decide, by decide⟩, ⟨main_v147, rfl, by decide, by decide⟩, ⟨main_c_3, rfl, by decide, by decide⟩, ⟨main_c_4, rfl, by decide, by decide⟩⟩
theorem hostOps0_3_writes : (hostOps0_3 : List (HloOp τ sig (Elt F))).Forall (Wr 158 164) :=
  ⟨⟨main_call1_v0, rfl, by decide, by decide⟩, ⟨main_call1_v1, rfl, by decide, by decide⟩, ⟨main_call1_v2, rfl, by decide, by decide⟩, ⟨main_call1_v3, rfl, by decide, by decide⟩, ⟨main_call1_v4, rfl, by decide, by decide⟩, ⟨main_v148, rfl, by decide, by decide⟩⟩
theorem hostOps0_4_writes : (hostOps0_4 : List (HloOp τ sig (Elt F))).Forall (Wr 164 169) :=
  ⟨⟨main_c_5, rfl, by decide, by decide⟩, ⟨main_v149, rfl, by decide, by decide⟩, ⟨main_v150, rfl, by decide, by decide⟩, ⟨main_c_6, rfl, by decide, by decide⟩, ⟨main_c_7, rfl, by decide, by decide⟩⟩
theorem hostOps0_5_writes : (hostOps0_5 : List (HloOp τ sig (Elt F))).Forall (Wr 169 175) :=
  ⟨⟨main_call2_v0, rfl, by decide, by decide⟩, ⟨main_call2_v1, rfl, by decide, by decide⟩, ⟨main_call2_v2, rfl, by decide, by decide⟩, ⟨main_call2_v3, rfl, by decide, by decide⟩, ⟨main_call2_v4, rfl, by decide, by decide⟩, ⟨main_v151, rfl, by decide, by decide⟩⟩
theorem hostOps0_6_writes : (hostOps0_6 : List (HloOp τ sig (Elt F))).Forall (Wr 175 360) :=
  ⟨⟨main_v152, rfl, by decide, by decide⟩, ⟨main_v153, rfl, by decide, by decide⟩, ⟨main_v154, rfl, by decide, by decide⟩, ⟨main_v155, rfl, by decide, by decide⟩, ⟨main_v156, rfl, by decide, by decide⟩, ⟨main_v157, rfl, by decide, by decide⟩, ⟨main_v158, rfl, by decide, by decide⟩, ⟨main_c_8, rfl, by decide, by decide⟩, ⟨main_v159, rfl, by decide, by decide⟩, ⟨main_v160, rfl, by decide, by decide⟩, ⟨main_v161, rfl, by decide, by decide⟩, ⟨main_v162, rfl, by decide, by decide⟩, ⟨main_v163, rfl, by decide, by decide⟩, ⟨main_v164, rfl, by decide, by decide⟩, ⟨main_v165, rfl, by decide, by decide⟩, ⟨main_v166, rfl, by decide, by decide⟩, ⟨main_v167, rfl, by decide, by decide⟩, ⟨main_v168, rfl, by decide, by decide⟩, ⟨main_v169, rfl, by decide, by decide⟩, ⟨main_v170, rfl, by decide, by decide⟩, ⟨main_v171, rfl, by decide, by decide⟩, ⟨main_v172, rfl, by decide, by decide⟩, ⟨main_c_9, rfl, by decide, by decide⟩, ⟨main_v173, rfl, by decide, by decide⟩, ⟨main_v174, rfl, by decide, by decide⟩, ⟨main_v175, rfl, by decide, by decide⟩, ⟨main_v176, rfl, by decide, by decide⟩, ⟨main_v177, rfl, by decide, by decide⟩, ⟨main_v178, rfl, by decide, by decide⟩, ⟨main_v179, rfl, by decide, by decide⟩, ⟨main_v180, rfl, by decide, by decide⟩, ⟨main_v181, rfl, by decide, by decide⟩, ⟨main_v182, rfl, by decide, by decide⟩, ⟨main_v183, rfl, by decide, by decide⟩, ⟨main_v184, rfl, by decide, by decide⟩, ⟨main_v185, rfl, by decide, by decide⟩, ⟨main_v186, rfl, by decide, by decide⟩, ⟨main_v187, rfl, by decide, by decide⟩, ⟨main_v188, rfl, by decide, by decide⟩, ⟨main_v189, rfl, by decide, by decide⟩, ⟨main_v190, rfl, by decide, by decide⟩, ⟨main_v191, rfl, by decide, by decide⟩, ⟨main_v192, rfl, by decide, by decide⟩, ⟨main_v193, rfl, by decide, by decide⟩, ⟨main_v194, rfl, by decide, by decide⟩, ⟨main_v195, rfl, by decide, by decide⟩, ⟨main_v196, rfl, by decide, by decide⟩, ⟨main_v197, rfl, by decide, by decide⟩, ⟨main_v198, rfl, by decide, by decide⟩, ⟨main_v199, rfl, by decide, by decide⟩, ⟨main_v200, rfl, by decide, by decide⟩, ⟨main_v201, rfl, by decide, by decide⟩, ⟨main_v202, rfl, by decide, by decide⟩, ⟨main_v203, rfl, by decide, by decide⟩, ⟨main_v204, rfl, by decide, by decide⟩, ⟨main_v205, rfl, by decide, by decide⟩, ⟨main_v206, rfl, by decide, by decide⟩, ⟨main_v207, rfl, by decide, by decide⟩, ⟨main_v208, rfl, by decide, by decide⟩, ⟨main_v209, rfl, by decide, by decide⟩, ⟨main_v210, rfl, by decide, by decide⟩, ⟨main_v211, rfl, by decide, by decide⟩, ⟨main_v212, rfl, by decide, by decide⟩, ⟨main_v213, rfl, by decide, by decide⟩, ⟨main_v214, rfl, by decide, by decide⟩, ⟨main_v215, rfl, by decide, by decide⟩, ⟨main_v216, rfl, by decide, by decide⟩, ⟨main_v217, rfl, by decide, by decide⟩, ⟨main_v218, rfl, by decide, by decide⟩, ⟨main_v219, rfl, by decide, by decide⟩, ⟨main_v220, rfl, by decide, by decide⟩, ⟨main_v221, rfl, by decide, by decide⟩, ⟨main_v222, rfl, by decide, by decide⟩, ⟨main_v223, rfl, by decide, by decide⟩, ⟨main_v224, rfl, by decide, by decide⟩, ⟨main_v225, rfl, by decide, by decide⟩, ⟨main_v226, rfl, by decide, by decide⟩, ⟨main_v227, rfl, by decide, by decide⟩, ⟨main_v228, rfl, by decide, by decide⟩, ⟨main_v229, rfl, by decide, by decide⟩, ⟨main_v230, rfl, by decide, by decide⟩, ⟨main_v231, rfl, by decide, by decide⟩, ⟨main_v232, rfl, by decide, by decide⟩, ⟨main_v233, rfl, by decide, by decide⟩, ⟨main_v234, rfl, by decide, by decide⟩, ⟨main_v235, rfl, by decide, by decide⟩, ⟨main_v236, rfl, by decide, by decide⟩, ⟨main_v237, rfl, by decide, by decide⟩, ⟨main_v238, rfl, by decide, by decide⟩, ⟨main_v239, rfl, by decide, by decide⟩, ⟨main_v240, rfl, by decide, by decide⟩, ⟨main_v241, rfl, by decide, by decide⟩, ⟨main_v242, rfl, by decide, by decide⟩, ⟨main_v243, rfl, by decide, by decide⟩, ⟨main_v244, rfl, by decide, by decide⟩, ⟨main_v245, rfl, by decide, by decide⟩, ⟨main_v246, rfl, by decide, by decide⟩, ⟨main_v247, rfl, by decide, by decide⟩, ⟨main_v248, rfl, by decide, by decide⟩, ⟨main_v249, rfl, by decide, by decide⟩, ⟨main_v250, rfl, by decide, by decide⟩, ⟨main_v251, rfl, by decide, by decide⟩, ⟨main_v252, rfl, by decide, by decide⟩, ⟨main_v253, rfl, by decide, by decide⟩, ⟨main_v254, rfl, by decide, by decide⟩, ⟨main_v255, rfl, by decide, by decide⟩, ⟨main_v256, rfl, by decide, by decide⟩, ⟨main_v257, rfl, by decide, by decide⟩, ⟨main_v258, rfl, by decide, by decide⟩, ⟨main_v259, rfl, by decide, by decide⟩, ⟨main_v260, rfl, by decide, by decide⟩, ⟨main_v261, rfl, by decide, by decide⟩, ⟨main_v262, rfl, by decide, by decide⟩, ⟨main_v263, rfl, by decide, by decide⟩, ⟨main_v264, rfl, by decide, by decide⟩, ⟨main_v265, rfl, by decide, by decide⟩, ⟨main_v266, rfl, by decide, by decide⟩, ⟨main_v267, rfl, by decide, by decide⟩, ⟨main_v268, rfl, by decide, by decide⟩, ⟨main_v269, rfl, by decide, by decide⟩, ⟨main_v270, rfl, by decide, by decide⟩, ⟨main_v271, rfl, by decide, by decide⟩, ⟨main_v272, rfl, by decide, by decide⟩, ⟨main_v273, rfl, by decide, by decide⟩, ⟨main_v274, rfl, by decide, by decide⟩, ⟨main_v275, rfl, by decide, by decide⟩, ⟨main_v276, rfl, by decide, by decide⟩, ⟨main_v277, rfl, by decide, by decide⟩, ⟨main_v278, rfl, by decide, by decide⟩, ⟨main_v279, rfl, by decide, by decide⟩, ⟨main_v280, rfl, by decide, by decide⟩, ⟨main_v281, rfl, by decide, by decide⟩, ⟨main_v282, rfl, by decide, by decide⟩, ⟨main_v283, rfl, by decide, by decide⟩, ⟨main_v284, rfl, by decide, by decide⟩, ⟨main_v285, rfl, by decide, by decide⟩, ⟨main_v286, rfl, by decide, by decide⟩, ⟨main_v287, rfl, by decide, by decide⟩, ⟨main_v288, rfl, by decide, by decide⟩, ⟨main_v289, rfl, by decide, by decide⟩, ⟨main_v290, rfl, by decide, by decide⟩, ⟨main_v291, rfl, by decide, by decide⟩, ⟨main_v292, rfl, by decide, by decide⟩, ⟨main_v293, rfl, by decide, by decide⟩, ⟨main_v294, rfl, by decide, by decide⟩, ⟨main_v295, rfl, by decide, by decide⟩, ⟨main_v296, rfl, by decide, by decide⟩, ⟨main_v297, rfl, by decide, by decide⟩, ⟨main_v298, rfl, by decide, by decide⟩, ⟨main_v299, rfl, by decide, by decide⟩, ⟨main_v300, rfl, by decide, by decide⟩, ⟨main_v301, rfl, by decide, by decide⟩, ⟨main_v302, rfl, by decide, by decide⟩, ⟨main_v303, rfl, by decide, by decide⟩, ⟨main_v304, rfl, by decide, by decide⟩, ⟨main_v305, rfl, by decide, by decide⟩, ⟨main_v306, rfl, by decide, by decide⟩, ⟨main_v307, rfl, by decide, by decide⟩, ⟨main_v308, rfl, by decide, by decide⟩, ⟨main_v309, rfl, by decide, by decide⟩, ⟨main_v310, rfl, by decide, by decide⟩, ⟨main_v311, rfl, by decide, by decide⟩, ⟨main_v312, rfl, by decide, by decide⟩, ⟨main_v313, rfl, by decide, by decide⟩, ⟨main_v314, rfl, by decide, by decide⟩, ⟨main_v315, rfl, by decide, by decide⟩, ⟨main_v316, rfl, by decide, by decide⟩, ⟨main_v317, rfl, by decide, by decide⟩, ⟨main_v318, rfl, by decide, by decide⟩, ⟨main_v319, rfl, by decide, by decide⟩, ⟨main_v320, rfl, by decide, by decide⟩, ⟨main_v321, rfl, by decide, by decide⟩, ⟨main_v322, rfl, by decide, by decide⟩, ⟨main_v323, rfl, by decide, by decide⟩, ⟨main_v324, rfl, by decide, by decide⟩, ⟨main_v325, rfl, by decide, by decide⟩, ⟨main_v326, rfl, by decide, by decide⟩, ⟨main_v327, rfl, by decide, by decide⟩, ⟨main_v328, rfl, by decide, by decide⟩, ⟨main_v329, rfl, by decide, by decide⟩, ⟨main_v330, rfl, by decide, by decide⟩, ⟨main_v331, rfl, by decide, by decide⟩, ⟨main_v332, rfl, by decide, by decide⟩, ⟨main_v333, rfl, by decide, by decide⟩, ⟨main_cst, rfl, by decide, by decide⟩⟩
theorem hostOps0_7_writes : (hostOps0_7 : List (HloOp τ sig (Elt F))).Forall (Wr 360 364) :=
  ⟨⟨main_call3_v0, rfl, by decide, by decide⟩, ⟨main_call3_v1, rfl, by decide, by decide⟩, ⟨main_call3_v2, rfl, by decide, by decide⟩, ⟨main_v334, rfl, by decide, by decide⟩⟩
theorem hostOps0_8_writes : (hostOps0_8 : List (HloOp τ sig (Elt F))).Forall (Wr 364 383) :=
  ⟨⟨main_v335, rfl, by decide, by decide⟩, ⟨main_v336, rfl, by decide, by decide⟩, ⟨main_c_10, rfl, by decide, by decide⟩, ⟨main_v337, rfl, by decide, by decide⟩, ⟨main_v338, rfl, by decide, by decide⟩, ⟨main_v339, rfl, by decide, by decide⟩, ⟨main_v340, rfl, by decide, by decide⟩, ⟨main_v341, rfl, by decide, by decide⟩, ⟨main_v342, rfl, by decide, by decide⟩, ⟨main_c_11, rfl, by decide, by decide⟩, ⟨main_v343, rfl, by decide, by decide⟩, ⟨main_v344, rfl, by decide, by decide⟩, ⟨main_v345, rfl, by decide, by decide⟩, ⟨main_v346, rfl, by decide, by decide⟩, ⟨main_c_12, rfl, by decide, by decide⟩, ⟨main_v347, rfl, by decide, by decide⟩, ⟨main_v348, rfl, by decide, by decide⟩, ⟨main_c_13, rfl, by decide, by decide⟩, ⟨main_c_14, rfl, by decide, by decide⟩⟩
theorem hostOps0_9_writes : (hostOps0_9 : List (HloOp τ sig (Elt F))).Forall (Wr 383 389) :=
  ⟨⟨main_call4_v0, rfl, by decide, by decide⟩, ⟨main_call4_v1, rfl, by decide, by decide⟩, ⟨main_call4_v2, rfl, by decide, by decide⟩, ⟨main_call4_v3, rfl, by decide, by decide⟩, ⟨main_call4_v4, rfl, by decide, by decide⟩, ⟨main_v349, rfl, by decide, by decide⟩⟩
theorem hostOps0_10_writes : (hostOps0_10 : List (HloOp τ sig (Elt F))).Forall (Wr 389 394) :=
  ⟨⟨main_c_15, rfl, by decide, by decide⟩, ⟨main_v350, rfl, by decide, by decide⟩, ⟨main_v351, rfl, by decide, by decide⟩, ⟨main_c_16, rfl, by decide, by decide⟩, ⟨main_c_17, rfl, by decide, by decide⟩⟩
theorem hostOps0_11_writes : (hostOps0_11 : List (HloOp τ sig (Elt F))).Forall (Wr 394 400) :=
  ⟨⟨main_call5_v0, rfl, by decide, by decide⟩, ⟨main_call5_v1, rfl, by decide, by decide⟩, ⟨main_call5_v2, rfl, by decide, by decide⟩, ⟨main_call5_v3, rfl, by decide, by decide⟩, ⟨main_call5_v4, rfl, by decide, by decide⟩, ⟨main_v352, rfl, by decide, by decide⟩⟩
theorem hostOps0_12_writes : (hostOps0_12 : List (HloOp τ sig (Elt F))).Forall (Wr 400 585) :=
  ⟨⟨main_v353, rfl, by decide, by decide⟩, ⟨main_v354, rfl, by decide, by decide⟩, ⟨main_v355, rfl, by decide, by decide⟩, ⟨main_v356, rfl, by decide, by decide⟩, ⟨main_v357, rfl, by decide, by decide⟩, ⟨main_v358, rfl, by decide, by decide⟩, ⟨main_v359, rfl, by decide, by decide⟩, ⟨main_c_18, rfl, by decide, by decide⟩, ⟨main_v360, rfl, by decide, by decide⟩, ⟨main_v361, rfl, by decide, by decide⟩, ⟨main_v362, rfl, by decide, by decide⟩, ⟨main_v363, rfl, by decide, by decide⟩, ⟨main_v364, rfl, by decide, by decide⟩, ⟨main_v365, rfl, by decide, by decide⟩, ⟨main_v366, rfl, by decide, by decide⟩, ⟨main_v367, rfl, by decide, by decide⟩, ⟨main_v368, rfl, by decide, by decide⟩, ⟨main_v369, rfl, by decide, by decide⟩, ⟨main_v370, rfl, by decide, by decide⟩, ⟨main_v371, rfl, by decide, by decide⟩, ⟨main_v372, rfl, by decide, by decide⟩, ⟨main_v373, rfl, by decide, by decide⟩, ⟨main_c_19, rfl, by decide, by decide⟩, ⟨main_v374, rfl, by decide, by decide⟩, ⟨main_v375, rfl, by decide, by decide⟩, ⟨main_v376, rfl, by decide, by decide⟩, ⟨main_v377, rfl, by decide, by decide⟩, ⟨main_v378, rfl, by decide, by decide⟩, ⟨main_v379, rfl, by decide, by decide⟩, ⟨main_v380, rfl, by decide, by decide⟩, ⟨main_v381, rfl, by decide, by decide⟩, ⟨main_v382, rfl, by decide, by decide⟩, ⟨main_v383, rfl, by decide, by decide⟩, ⟨main_v384, rfl, by decide, by decide⟩, ⟨main_v385, rfl, by decide, by decide⟩, ⟨main_v386, rfl, by decide, by decide⟩, ⟨main_v387, rfl, by decide, by decide⟩, ⟨main_v388, rfl, by decide, by decide⟩, ⟨main_v389, rfl, by decide, by decide⟩, ⟨main_v390, rfl, by decide, by decide⟩, ⟨main_v391, rfl, by decide, by decide⟩, ⟨main_v392, rfl, by decide, by decide⟩, ⟨main_v393, rfl, by decide, by decide⟩, ⟨main_v394, rfl, by decide, by decide⟩, ⟨main_v395, rfl, by decide, by decide⟩, ⟨main_v396, rfl, by decide, by decide⟩, ⟨main_v397, rfl, by decide, by decide⟩, ⟨main_v398, rfl, by decide, by decide⟩, ⟨main_v399, rfl, by decide, by decide⟩, ⟨main_v400, rfl, by decide, by decide⟩, ⟨main_v401, rfl, by decide, by decide⟩, ⟨main_v402, rfl, by decide, by decide⟩, ⟨main_v403, rfl, by decide, by decide⟩, ⟨main_v404, rfl, by decide, by decide⟩, ⟨main_v405, rfl, by decide, by decide⟩, ⟨main_v406, rfl, by decide, by decide⟩, ⟨main_v407, rfl, by decide, by decide⟩, ⟨main_v408, rfl, by decide, by decide⟩, ⟨main_v409, rfl, by decide, by decide⟩, ⟨main_v410, rfl, by decide, by decide⟩, ⟨main_v411, rfl, by decide, by decide⟩, ⟨main_v412, rfl, by decide, by decide⟩, ⟨main_v413, rfl, by decide, by decide⟩, ⟨main_v414, rfl, by decide, by decide⟩, ⟨main_v415, rfl, by decide, by decide⟩, ⟨main_v416, rfl, by decide, by decide⟩, ⟨main_v417, rfl, by decide, by decide⟩, ⟨main_v418, rfl, by decide, by decide⟩, ⟨main_v419, rfl, by decide, by decide⟩, ⟨main_v420, rfl, by decide, by decide⟩, ⟨main_v421, rfl, by decide, by decide⟩, ⟨main_v422, rfl, by decide, by decide⟩, ⟨main_v423, rfl, by decide, by decide⟩, ⟨main_v424, rfl, by decide, by decide⟩, ⟨main_v425, rfl, by decide, by decide⟩, ⟨main_v426, rfl, by decide, by decide⟩, ⟨main_v427, rfl, by decide, by decide⟩, ⟨main_v428, rfl, by decide, by decide⟩, ⟨main_v429, rfl, by decide, by decide⟩, ⟨main_v430, rfl, by decide, by decide⟩, ⟨main_v431, rfl, by decide, by decide⟩, ⟨main_v432, rfl, by decide, by decide⟩, ⟨main_v433, rfl, by decide, by decide⟩, ⟨main_v434, rfl, by decide, by decide⟩, ⟨main_v435, rfl, by decide, by decide⟩, ⟨main_v436, rfl, by decide, by decide⟩, ⟨main_v437, rfl, by decide, by decide⟩, ⟨main_v438, rfl, by decide, by decide⟩, ⟨main_v439, rfl, by decide, by decide⟩, ⟨main_v440, rfl, by decide, by decide⟩, ⟨main_v441, rfl, by decide, by decide⟩, ⟨main_v442, rfl, by decide, by decide⟩, ⟨main_v443, rfl, by decide, by decide⟩, ⟨main_v444, rfl, by decide, by decide⟩, ⟨main_v445, rfl, by decide, by decide⟩, ⟨main_v446, rfl, by decide, by decide⟩, ⟨main_v447, rfl, by decide, by decide⟩, ⟨main_v448, rfl, by decide, by decide⟩, ⟨main_v449, rfl, by decide, by decide⟩, ⟨main_v450, rfl, by decide, by decide⟩, ⟨main_v451, rfl, by decide, by decide⟩, ⟨main_v452, rfl, by decide, by decide⟩, ⟨main_v453, rfl, by decide, by decide⟩, ⟨main_v454, rfl, by decide, by decide⟩, ⟨main_v455, rfl, by decide, by decide⟩, ⟨main_v456, rfl, by decide, by decide⟩, ⟨main_v457, rfl, by decide, by decide⟩, ⟨main_v458, rfl, by decide, by decide⟩, ⟨main_v459, rfl, by decide, by decide⟩, ⟨main_v460, rfl, by decide, by decide⟩, ⟨main_v461, rfl, by decide, by decide⟩, ⟨main_v462, rfl, by decide, by decide⟩, ⟨main_v463, rfl, by decide, by decide⟩, ⟨main_v464, rfl, by decide, by decide⟩, ⟨main_v465, rfl, by decide, by decide⟩, ⟨main_v466, rfl, by decide, by decide⟩, ⟨main_v467, rfl, by decide, by decide⟩, ⟨main_v468, rfl, by decide, by decide⟩, ⟨main_v469, rfl, by decide, by decide⟩, ⟨main_v470, rfl, by decide, by decide⟩, ⟨main_v471, rfl, by decide, by decide⟩, ⟨main_v472, rfl, by decide, by decide⟩, ⟨main_v473, rfl, by decide, by decide⟩, ⟨main_v474, rfl, by decide, by decide⟩, ⟨main_v475, rfl, by decide, by decide⟩, ⟨main_v476, rfl, by decide, by decide⟩, ⟨main_v477, rfl, by decide, by decide⟩, ⟨main_v478, rfl, by decide, by decide⟩, ⟨main_v479, rfl, by decide, by decide⟩, ⟨main_v480, rfl, by decide, by decide⟩, ⟨main_v481, rfl, by decide, by decide⟩, ⟨main_v482, rfl, by decide, by decide⟩, ⟨main_v483, rfl, by decide, by decide⟩, ⟨main_v484, rfl, by decide, by decide⟩, ⟨main_v485, rfl, by decide, by decide⟩, ⟨main_v486, rfl, by decide, by decide⟩, ⟨main_v487, rfl, by decide, by decide⟩, ⟨main_v488, rfl, by decide, by decide⟩, ⟨main_v489, rfl, by decide, by decide⟩, ⟨main_v490, rfl, by decide, by decide⟩, ⟨main_v491, rfl, by decide, by decide⟩, ⟨main_v492, rfl, by decide, by decide⟩, ⟨main_v493, rfl, by decide, by decide⟩, ⟨main_v494, rfl, by decide, by decide⟩, ⟨main_v495, rfl, by decide, by decide⟩, ⟨main_v496, rfl, by decide, by decide⟩, ⟨main_v497, rfl, by decide, by decide⟩, ⟨main_v498, rfl, by decide, by decide⟩, ⟨main_v499, rfl, by decide, by decide⟩, ⟨main_v500, rfl, by decide, by decide⟩, ⟨main_v501, rfl, by decide, by decide⟩, ⟨main_v502, rfl, by decide, by decide⟩, ⟨main_v503, rfl, by decide, by decide⟩, ⟨main_v504, rfl, by decide, by decide⟩, ⟨main_v505, rfl, by decide, by decide⟩, ⟨main_v506, rfl, by decide, by decide⟩, ⟨main_v507, rfl, by decide, by decide⟩, ⟨main_v508, rfl, by decide, by decide⟩, ⟨main_v509, rfl, by decide, by decide⟩, ⟨main_v510, rfl, by decide, by decide⟩, ⟨main_v511, rfl, by decide, by decide⟩, ⟨main_v512, rfl, by decide, by decide⟩, ⟨main_v513, rfl, by decide, by decide⟩, ⟨main_v514, rfl, by decide, by decide⟩, ⟨main_v515, rfl, by decide, by decide⟩, ⟨main_v516, rfl, by decide, by decide⟩, ⟨main_v517, rfl, by decide, by decide⟩, ⟨main_v518, rfl, by decide, by decide⟩, ⟨main_v519, rfl, by decide, by decide⟩, ⟨main_v520, rfl, by decide, by decide⟩, ⟨main_v521, rfl, by decide, by decide⟩, ⟨main_v522, rfl, by decide, by decide⟩, ⟨main_v523, rfl, by decide, by decide⟩, ⟨main_v524, rfl, by decide, by decide⟩, ⟨main_v525, rfl, by decide, by decide⟩, ⟨main_v526, rfl, by decide, by decide⟩, ⟨main_v527, rfl, by decide, by decide⟩, ⟨main_v528, rfl, by decide, by decide⟩, ⟨main_v529, rfl, by decide, by decide⟩, ⟨main_v530, rfl, by decide, by decide⟩, ⟨main_v531, rfl, by decide, by decide⟩, ⟨main_v532, rfl, by decide, by decide⟩, ⟨main_v533, rfl, by decide, by decide⟩, ⟨main_v534, rfl, by decide, by decide⟩, ⟨main_cst_20, rfl, by decide, by decide⟩⟩
theorem hostOps0_13_writes : (hostOps0_13 : List (HloOp τ sig (Elt F))).Forall (Wr 585 589) :=
  ⟨⟨main_call6_v0, rfl, by decide, by decide⟩, ⟨main_call6_v1, rfl, by decide, by decide⟩, ⟨main_call6_v2, rfl, by decide, by decide⟩, ⟨main_v535, rfl, by decide, by decide⟩⟩
theorem hostOps0_14_writes : (hostOps0_14 : List (HloOp τ sig (Elt F))).Forall (Wr 589 608) :=
  ⟨⟨main_v536, rfl, by decide, by decide⟩, ⟨main_v537, rfl, by decide, by decide⟩, ⟨main_c_21, rfl, by decide, by decide⟩, ⟨main_v538, rfl, by decide, by decide⟩, ⟨main_v539, rfl, by decide, by decide⟩, ⟨main_v540, rfl, by decide, by decide⟩, ⟨main_v541, rfl, by decide, by decide⟩, ⟨main_v542, rfl, by decide, by decide⟩, ⟨main_v543, rfl, by decide, by decide⟩, ⟨main_c_22, rfl, by decide, by decide⟩, ⟨main_v544, rfl, by decide, by decide⟩, ⟨main_v545, rfl, by decide, by decide⟩, ⟨main_v546, rfl, by decide, by decide⟩, ⟨main_v547, rfl, by decide, by decide⟩, ⟨main_c_23, rfl, by decide, by decide⟩, ⟨main_v548, rfl, by decide, by decide⟩, ⟨main_v549, rfl, by decide, by decide⟩, ⟨main_c_24, rfl, by decide, by decide⟩, ⟨main_c_25, rfl, by decide, by decide⟩⟩
theorem hostOps0_15_writes : (hostOps0_15 : List (HloOp τ sig (Elt F))).Forall (Wr 608 614) :=
  ⟨⟨main_call7_v0, rfl, by decide, by decide⟩, ⟨main_call7_v1, rfl, by decide, by decide⟩, ⟨main_call7_v2, rfl, by decide, by decide⟩, ⟨main_call7_v3, rfl, by decide, by decide⟩, ⟨main_call7_v4, rfl, by decide, by decide⟩, ⟨main_v550, rfl, by decide, by decide⟩⟩
theorem hostOps0_16_writes : (hostOps0_16 : List (HloOp τ sig (Elt F))).Forall (Wr 614 619) :=
  ⟨⟨main_c_26, rfl, by decide, by decide⟩, ⟨main_v551, rfl, by decide, by decide⟩, ⟨main_v552, rfl, by decide, by decide⟩, ⟨main_c_27, rfl, by decide, by decide⟩, ⟨main_c_28, rfl, by decide, by decide⟩⟩
theorem hostOps0_17_writes : (hostOps0_17 : List (HloOp τ sig (Elt F))).Forall (Wr 619 625) :=
  ⟨⟨main_call8_v0, rfl, by decide, by decide⟩, ⟨main_call8_v1, rfl, by decide, by decide⟩, ⟨main_call8_v2, rfl, by decide, by decide⟩, ⟨main_call8_v3, rfl, by decide, by decide⟩, ⟨main_call8_v4, rfl, by decide, by decide⟩, ⟨main_v553, rfl, by decide, by decide⟩⟩
theorem hostOps0_18_writes : (hostOps0_18 : List (HloOp τ sig (Elt F))).Forall (Wr 625 810) :=
  ⟨⟨main_v554, rfl, by decide, by decide⟩, ⟨main_v555, rfl, by decide, by decide⟩, ⟨main_v556, rfl, by decide, by decide⟩, ⟨main_v557, rfl, by decide, by decide⟩, ⟨main_v558, rfl, by decide, by decide⟩, ⟨main_v559, rfl, by decide, by decide⟩, ⟨main_v560, rfl, by decide, by decide⟩, ⟨main_c_29, rfl, by decide, by decide⟩, ⟨main_v561, rfl, by decide, by decide⟩, ⟨main_v562, rfl, by decide, by decide⟩, ⟨main_v563, rfl, by decide, by decide⟩, ⟨main_v564, rfl, by decide, by decide⟩, ⟨main_v565, rfl, by decide, by decide⟩, ⟨main_v566, rfl, by decide, by decide⟩, ⟨main_v567, rfl, by decide, by decide⟩, ⟨main_v568, rfl, by decide, by decide⟩, ⟨main_v569, rfl, by decide, by decide⟩, ⟨main_v570, rfl, by decide, by decide⟩, ⟨main_v571, rfl, by decide, by decide⟩, ⟨main_v572, rfl, by decide, by decide⟩, ⟨main_v573, rfl, by decide, by decide⟩, ⟨main_v574, rfl, by decide, by decide⟩, ⟨main_c_30, rfl, by decide, by decide⟩, ⟨main_v575, rfl, by decide, by decide⟩, ⟨main_v576, rfl, by decide, by decide⟩, ⟨main_v577, rfl, by decide, by decide⟩, ⟨main_v578, rfl, by decide, by decide⟩, ⟨main_v579, rfl, by decide, by decide⟩, ⟨main_v580, rfl, by decide, by decide⟩, ⟨main_v581, rfl, by decide, by decide⟩, ⟨main_v582, rfl, by decide, by decide⟩, ⟨main_v583, rfl, by decide, by decide⟩, ⟨main_v584, rfl, by decide, by decide⟩, ⟨main_v585, rfl, by decide, by decide⟩, ⟨main_v586, rfl, by decide, by decide⟩, ⟨main_v587, rfl, by decide, by decide⟩, ⟨main_v588, rfl, by decide, by decide⟩, ⟨main_v589, rfl, by decide, by decide⟩, ⟨main_v590, rfl, by decide, by decide⟩, ⟨main_v591, rfl, by decide, by decide⟩, ⟨main_v592, rfl, by decide, by decide⟩, ⟨main_v593, rfl, by decide, by decide⟩, ⟨main_v594, rfl, by decide, by decide⟩, ⟨main_v595, rfl, by decide, by decide⟩, ⟨main_v596, rfl, by decide, by decide⟩, ⟨main_v597, rfl, by decide, by decide⟩, ⟨main_v598, rfl, by decide, by decide⟩, ⟨main_v599, rfl, by decide, by decide⟩, ⟨main_v600, rfl, by decide, by decide⟩, ⟨main_v601, rfl, by decide, by decide⟩, ⟨main_v602, rfl, by decide, by decide⟩, ⟨main_v603, rfl, by decide, by decide⟩, ⟨main_v604, rfl, by decide, by decide⟩, ⟨main_v605, rfl, by decide, by decide⟩, ⟨main_v606, rfl, by decide, by decide⟩, ⟨main_v607, rfl, by decide, by decide⟩, ⟨main_v608, rfl, by decide, by decide⟩, ⟨main_v609, rfl, by decide, by decide⟩, ⟨main_v610, rfl, by decide, by decide⟩, ⟨main_v611, rfl, by decide, by decide⟩, ⟨main_v612, rfl, by decide, by decide⟩, ⟨main_v613, rfl, by decide, by decide⟩, ⟨main_v614, rfl, by decide, by decide⟩, ⟨main_v615, rfl, by decide, by decide⟩, ⟨main_v616, rfl, by decide, by decide⟩, ⟨main_v617, rfl, by decide, by decide⟩, ⟨main_v618, rfl, by decide, by decide⟩, ⟨main_v619, rfl, by decide, by decide⟩, ⟨main_v620, rfl, by decide, by decide⟩, ⟨main_v621, rfl, by decide, by decide⟩, ⟨main_v622, rfl, by decide, by decide⟩, ⟨main_v623, rfl, by decide, by decide⟩, ⟨main_v624, rfl, by decide, by decide⟩, ⟨main_v625, rfl, by decide, by decide⟩, ⟨main_v626, rfl, by decide, by decide⟩, ⟨main_v627, rfl, by decide, by decide⟩, ⟨main_v628, rfl, by decide, by decide⟩, ⟨main_v629, rfl, by decide, by decide⟩, ⟨main_v630, rfl, by decide, by decide⟩, ⟨main_v631, rfl, by decide, by decide⟩, ⟨main_v632, rfl, by decide, by decide⟩, ⟨main_v633, rfl, by decide, by decide⟩, ⟨main_v634, rfl, by decide, by decide⟩, ⟨main_v635, rfl, by decide, by decide⟩, ⟨main_v636, rfl, by decide, by decide⟩, ⟨main_v637, rfl, by decide, by decide⟩, ⟨main_v638, rfl, by decide, by decide⟩, ⟨main_v639, rfl, by decide, by decide⟩, ⟨main_v640, rfl, by decide, by decide⟩, ⟨main_v641, rfl, by decide, by decide⟩, ⟨main_v642, rfl, by decide, by decide⟩, ⟨main_v643, rfl, by decide, by decide⟩, ⟨main_v644, rfl, by decide, by decide⟩, ⟨main_v645, rfl, by decide, by decide⟩, ⟨main_v646, rfl, by decide, by decide⟩, ⟨main_v647, rfl, by decide, by decide⟩, ⟨main_v648, rfl, by decide, by decide⟩, ⟨main_v649, rfl, by decide, by decide⟩, ⟨main_v650, rfl, by decide, by decide⟩, ⟨main_v651, rfl, by decide, by decide⟩, ⟨main_v652, rfl, by decide, by decide⟩, ⟨main_v653, rfl, by decide, by decide⟩, ⟨main_v654, rfl, by decide, by decide⟩, ⟨main_v655, rfl, by decide, by decide⟩, ⟨main_v656, rfl, by decide, by decide⟩, ⟨main_v657, rfl, by decide, by decide⟩, ⟨main_v658, rfl, by decide, by decide⟩, ⟨main_v659, rfl, by decide, by decide⟩, ⟨main_v660, rfl, by decide, by decide⟩, ⟨main_v661, rfl, by decide, by decide⟩, ⟨main_v662, rfl, by decide, by decide⟩, ⟨main_v663, rfl, by decide, by decide⟩, ⟨main_v664, rfl, by decide, by decide⟩, ⟨main_v665, rfl, by decide, by decide⟩, ⟨main_v666, rfl, by decide, by decide⟩, ⟨main_v667, rfl, by decide, by decide⟩, ⟨main_v668, rfl, by decide, by decide⟩, ⟨main_v669, rfl, by decide, by decide⟩, ⟨main_v670, rfl, by decide, by decide⟩, ⟨main_v671, rfl, by decide, by decide⟩, ⟨main_v672, rfl, by decide, by decide⟩, ⟨main_v673, rfl, by decide, by decide⟩, ⟨main_v674, rfl, by decide, by decide⟩, ⟨main_v675, rfl, by decide, by decide⟩, ⟨main_v676, rfl, by decide, by decide⟩, ⟨main_v677, rfl, by decide, by decide⟩, ⟨main_v678, rfl, by decide, by decide⟩, ⟨main_v679, rfl, by decide, by decide⟩, ⟨main_v680, rfl, by decide, by decide⟩, ⟨main_v681, rfl, by decide, by decide⟩, ⟨main_v682, rfl, by decide, by decide⟩, ⟨main_v683, rfl, by decide, by decide⟩, ⟨main_v684, rfl, by decide, by decide⟩, ⟨main_v685, rfl, by decide, by decide⟩, ⟨main_v686, rfl, by decide, by decide⟩, ⟨main_v687, rfl, by decide, by decide⟩, ⟨main_v688, rfl, by decide, by decide⟩, ⟨main_v689, rfl, by decide, by decide⟩, ⟨main_v690, rfl, by decide, by decide⟩, ⟨main_v691, rfl, by decide, by decide⟩, ⟨main_v692, rfl, by decide, by decide⟩, ⟨main_v693, rfl, by decide, by decide⟩, ⟨main_v694, rfl, by decide, by decide⟩, ⟨main_v695, rfl, by decide, by decide⟩, ⟨main_v696, rfl, by decide, by decide⟩, ⟨main_v697, rfl, by decide, by decide⟩, ⟨main_v698, rfl, by decide, by decide⟩, ⟨main_v699, rfl, by decide, by decide⟩, ⟨main_v700, rfl, by decide, by decide⟩, ⟨main_v701, rfl, by decide, by decide⟩, ⟨main_v702, rfl, by decide, by decide⟩, ⟨main_v703, rfl, by decide, by decide⟩, ⟨main_v704, rfl, by decide, by decide⟩, ⟨main_v705, rfl, by decide, by decide⟩, ⟨main_v706, rfl, by decide, by decide⟩, ⟨main_v707, rfl, by decide, by decide⟩, ⟨main_v708, rfl, by decide, by decide⟩, ⟨main_v709, rfl, by decide, by decide⟩, ⟨main_v710, rfl, by decide, by decide⟩, ⟨main_v711, rfl, by decide, by decide⟩, ⟨main_v712, rfl, by decide, by decide⟩, ⟨main_v713, rfl, by decide, by decide⟩, ⟨main_v714, rfl, by decide, by decide⟩, ⟨main_v715, rfl, by decide, by decide⟩, ⟨main_v716, rfl, by decide, by decide⟩, ⟨main_v717, rfl, by decide, by decide⟩, ⟨main_v718, rfl, by decide, by decide⟩, ⟨main_v719, rfl, by decide, by decide⟩, ⟨main_v720, rfl, by decide, by decide⟩, ⟨main_v721, rfl, by decide, by decide⟩, ⟨main_v722, rfl, by decide, by decide⟩, ⟨main_v723, rfl, by decide, by decide⟩, ⟨main_v724, rfl, by decide, by decide⟩, ⟨main_v725, rfl, by decide, by decide⟩, ⟨main_v726, rfl, by decide, by decide⟩, ⟨main_v727, rfl, by decide, by decide⟩, ⟨main_v728, rfl, by decide, by decide⟩, ⟨main_v729, rfl, by decide, by decide⟩, ⟨main_v730, rfl, by decide, by decide⟩, ⟨main_v731, rfl, by decide, by decide⟩, ⟨main_v732, rfl, by decide, by decide⟩, ⟨main_v733, rfl, by decide, by decide⟩, ⟨main_v734, rfl, by decide, by decide⟩, ⟨main_v735, rfl, by decide, by decide⟩, ⟨main_cst_31, rfl, by decide, by decide⟩⟩
theorem hostOps0_19_writes : (hostOps0_19 : List (HloOp τ sig (Elt F))).Forall (Wr 810 814) :=
  ⟨⟨main_call9_v0, rfl, by decide, by decide⟩, ⟨main_call9_v1, rfl, by decide, by decide⟩, ⟨main_call9_v2, rfl, by decide, by decide⟩, ⟨main_v736, rfl, by decide, by decide⟩⟩
theorem hostOps0_20_writes : (hostOps0_20 : List (HloOp τ sig (Elt F))).Forall (Wr 814 819) :=
  ⟨⟨main_v737, rfl, by decide, by decide⟩, ⟨main_v738, rfl, by decide, by decide⟩, ⟨main_v739, rfl, by decide, by decide⟩, ⟨main_v740, rfl, by decide, by decide⟩, ⟨main_v741, rfl, by decide, by decide⟩⟩

/-- The stretches, in order. -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

theorem stretches_writes : (List.flatten stretches : List (HloOp τ sig (Elt F))).Forall (Wr 3 819) := by
  rw [List.forall_iff_forall_mem]
  intro op hop
  obtain ⟨L, hL, hm⟩ := List.mem_flatten.mp hop
  simp only [stretches, List.mem_cons, List.not_mem_nil, or_false] at hL
  rcases hL with rfl | rfl | rfl | rfl | rfl | rfl | rfl | rfl | rfl | rfl | rfl | rfl | rfl | rfl | rfl | rfl | rfl | rfl | rfl | rfl | rfl
  · exact (List.forall_iff_forall_mem.mp hostOps0_writes op hm).mono (by decide) (by decide)
  · exact (List.forall_iff_forall_mem.mp hostOps0_1_writes op hm).mono (by decide) (by decide)
  · exact (List.forall_iff_forall_mem.mp hostOps0_2_writes op hm).mono (by decide) (by decide)
  · exact (List.forall_iff_forall_mem.mp hostOps0_3_writes op hm).mono (by decide) (by decide)
  · exact (List.forall_iff_forall_mem.mp hostOps0_4_writes op hm).mono (by decide) (by decide)
  · exact (List.forall_iff_forall_mem.mp hostOps0_5_writes op hm).mono (by decide) (by decide)
  · exact (List.forall_iff_forall_mem.mp hostOps0_6_writes op hm).mono (by decide) (by decide)
  · exact (List.forall_iff_forall_mem.mp hostOps0_7_writes op hm).mono (by decide) (by decide)
  · exact (List.forall_iff_forall_mem.mp hostOps0_8_writes op hm).mono (by decide) (by decide)
  · exact (List.forall_iff_forall_mem.mp hostOps0_9_writes op hm).mono (by decide) (by decide)
  · exact (List.forall_iff_forall_mem.mp hostOps0_10_writes op hm).mono (by decide) (by decide)
  · exact (List.forall_iff_forall_mem.mp hostOps0_11_writes op hm).mono (by decide) (by decide)
  · exact (List.forall_iff_forall_mem.mp hostOps0_12_writes op hm).mono (by decide) (by decide)
  · exact (List.forall_iff_forall_mem.mp hostOps0_13_writes op hm).mono (by decide) (by decide)
  · exact (List.forall_iff_forall_mem.mp hostOps0_14_writes op hm).mono (by decide) (by decide)
  · exact (List.forall_iff_forall_mem.mp hostOps0_15_writes op hm).mono (by decide) (by decide)
  · exact (List.forall_iff_forall_mem.mp hostOps0_16_writes op hm).mono (by decide) (by decide)
  · exact (List.forall_iff_forall_mem.mp hostOps0_17_writes op hm).mono (by decide) (by decide)
  · exact (List.forall_iff_forall_mem.mp hostOps0_18_writes op hm).mono (by decide) (by decide)
  · exact (List.forall_iff_forall_mem.mp hostOps0_19_writes op hm).mono (by decide) (by decide)
  · exact (List.forall_iff_forall_mem.mp hostOps0_20_writes op hm).mono (by decide) (by decide)

/-- A buffer the host operations do not write is as it was. -/
theorem after_stretches (X : Valuation τ sig (Elt F)) (b : Ref sig .tc) (hb : num b < 3) :
    StableHlo.after (List.flatten stretches) X (Proc.devRef .tc b) = X (Proc.devRef .tc b) :=
  after_skip _ stretches_writes X b (Or.inl hb)

end Cert.KernelIdeal.Hand

end
-- ==== Proof.IdealFrameRuns.lean ====
/- What the runs of the frame of `Cert.KernelIdeal` are stated over, as the generated module of that name has it; only
   that the arguments are as launched when the region is entered is read here off the stretches of host operations. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealWrites
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- No host operation before the region writes `main_arg0`: the region finds it as launched. -/
theorem V_main_arg0 (c : Dev nD) : V m c main_arg0 = m ((c : Thread nD τ).loc main_arg0) :=
  after_stretches (fun b => m (c, b)) main_arg0 (by decide)
/-- No host operation before the region writes `main_arg1`: the region finds it as launched. -/
theorem V_main_arg1 (c : Dev nD) : V m c main_arg1 = m ((c : Thread nD τ).loc main_arg1) :=
  after_stretches (fun b => m (c, b)) main_arg1 (by decide)
/-- No host operation before the region writes `main_arg2`: the region finds it as launched. -/
theorem V_main_arg2 (c : Dev nD) : V m c main_arg2 = m ((c : Thread nD τ).loc main_arg2) :=
  after_stretches (fun b => m (c, b)) main_arg2 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (((dats 0 c).arrAt_in 2 rfl _).trans ((hA c 2).trans (V_main_arg0 m c))),
      ((h c).1 4).trans (((dats 0 c).arrAt_in 4 rfl _).trans ((hA c 4).trans (V_main_arg1 m c))),
      ((h c).2 main_arg2 (Pipeline.mem_restRefs_of main_arg2 (by decide) (by decide))).trans (V_main_arg2 m c)⟩) h

/-! ## The kernel body on any staging memrefs: a subtype the run finds -/

/-- One staging buffer of output window 6, through which its contents are stated (`View.read_writes_of_cover`: the
    choice does not matter). -/
abbrev VO0_6 : View sig .tc .vmem S1x256x128 .bf16 := (Memref.whole cc0_stg6_0 : Memref sig .tc .vmem S1x256x128 .bf16).view
/-- Each window's current staging memref at point `t`, spelled as the pipeline passes it (`bodyAt0`), and its wholeness. -/
abbrev ms0_0 (t : Fin cfg0.N) : Memref sig .tc .vmem S1x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x1x2x256x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x128 .bf16 := win0_6.stage (cfg0.slots t 6)
abbrev hs0_6 (t : Fin cfg0.N) : (ms0_6 t).IsWhole := hstage0_6 ((cfg0.slots t 6).cast nbuf0_6)

end Cert.KernelIdeal.Hand

end
-- ==== Proof.IdealFrameRunA.lean ====
/- The run of one point of `Cert.KernelIdeal`, over `IdealFrameRuns`. -/
module

public import proofs.«01_k».proof.Proof.IdealFrameRuns

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S3x1x2x256x768 .f32) (harg8 : arg8.IsWhole) (arg9 : Memref sig .tc .vmem S1x256x128 .bf16) (harg9 : arg9.IsWhole)
    (x0 : Vec F S1x256x128 .bf16) (x1 : Vec F S1x2048x128 .bf16) (x2 : Vec F S1x2048x128 .bf16) (x3 : Vec F S1x256x128 .bf16) (x4 : Vec F S1x256x128 .bf16) (x5 : Vec F S3x1x2x256x768 .f32) :
    { L6 : List (View.Piece (Elt F) S1x256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0_na_attn i arg3 harg3 arg4 harg4 arg5 harg5 arg6 harg6 arg7 harg7 arg8 harg8 arg9 harg9) K } := by
  refine ⟨?_, fun E K => ?run⟩
  case run =>
    simp only [cc0_na_attn_eq_skeleton]; unfold cc0_na_attn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Hand

end
-- ==== Proof.IdealFrame.lean ====
/- The frame of `Cert.KernelIdeal`, over `IdealFrameRunA`. -/
module

public import proofs.«01_k».proof.Proof.IdealFrameRunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (1 store of `S1x256x128`, checked by the kernel's evaluation: Lib/Ring.lean `Piece.tiledL`, linear in the pieces, through a loop's `@[irreducible]` trip theorem too), so they cover it. -/
theorem cover0_A_6 (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S3x1x2x256x768 .f32) (harg8 : arg8.IsWhole) (arg9 : Memref sig .tc .vmem S1x256x128 .bf16) (harg9 : arg9.IsWhole)
    (x0 : Vec F S1x256x128 .bf16) (x1 : Vec F S1x2048x128 .bf16) (x2 : Vec F S1x2048x128 .bf16) (x3 : Vec F S1x256x128 .bf16) (x4 : Vec F S1x256x128 .bf16) (x5 : Vec F S3x1x2x256x768 .f32) (y : S1x256x128.Idx) :
    ∃ pc ∈ (kernelRun0_A c i arg3 harg3 arg4 harg4 arg5 harg5 arg6 harg6 arg7 harg7 arg8 harg8 arg9 harg9 x0 x1 x2 x3 x4 x5).1, y ∈ pc.1.set :=
  View.cover_of_tiledL (kernelRun0_A c i arg3 harg3 arg4 harg4 arg5 harg5 arg6 harg6 arg7 harg7 arg8 harg8 arg9 harg9 x0 x1 x2 x3 x4 x5).1 S1x256x128.size (by sl_kernel_rfl) y

/-- What the run leaves in output 6's staging buffer: its pieces read back over junk. -/
def out0_A_6 (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S3x1x2x256x768 .f32) (harg8 : arg8.IsWhole) (arg9 : Memref sig .tc .vmem S1x256x128 .bf16) (harg9 : arg9.IsWhole)
    (x0 : Vec F S1x256x128 .bf16) (x1 : Vec F S1x2048x128 .bf16) (x2 : Vec F S1x2048x128 .bf16) (x3 : Vec F S1x256x128 .bf16) (x4 : Vec F S1x256x128 .bf16) (x5 : Vec F S3x1x2x256x768 .f32) : Vec F S1x256x128 .bf16 :=
  VO0_6.read (Elt F) (VO0_6.writes (Elt F) VO0_6.junk (kernelRun0_A c i arg3 harg3 arg4 harg4 arg5 harg5 arg6 harg6 arg7 harg7 arg8 harg8 arg9 harg9 x0 x1 x2 x3 x4 x5).1)

/-! ## What the outputs hold after each point -/

/-- What the outputs' staging buffers hold after the body at point `t`: the run's contents at
    the point's memrefs and input blocks. -/
def outsAt0 (c : Dev nD) (t : Fin cfg0.N) : Vec F S1x256x128 .bf16 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.IdealValue.lean ====
/- The result of `Cert.KernelIdeal` as the blocks its points write, over `IdealFrame`. -/
module

public import proofs.«01_k».proof.Proof.IdealFrame
public import Idealize.ShloMosaic.Lib.Pipeline.Value

@[expose] public section

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`), read through the window's block. -/
theorem flushed6 (c : Dev nD) (t : Fin cfg0.N) :
    (dats m 0 c).flushed 6 t = (cfg0.win 6).cut (grid0.coords t) (outsAt0 m c t) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)) := by
  simp only [flushed6, outsAt0]

-- no `blocks6`: window 6's index map is injective over its 1024 points, but past 200 points that is decided here only for a window whose block index on one axis is the point's position;
-- the final array is still the frame's `arrAt`, to read with Lib/Pipeline/Value.lean's lemmas by hand

/-- An index that no flushing point's block covers keeps output window 6's array contents at region entry. -/
theorem entry6 (c : Dev nD) (i : S16x2048x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v742) = (dats m 0 c).arrAt 6 cfg0.N :=
  (h c).1 6

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v742) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      kept_main_arg0 m r h c,
      kept_main_arg1 m r h c,
      kept_main_arg2 m r h c⟩)
    (run_main m ρ)

end Cert.KernelIdeal.HandValue

end
-- ==== Proof.IdealSsa.lean ====
/- The host operations before the call write each buffer once, each a later buffer than those it reads: after them all, what
   an operation's buffer holds is the operation's function of what its operands' buffers hold. -/
module

public import proofs.«01_k».proof.Proof.IdealWrites

@[expose] public section

set_option maxRecDepth 16384

noncomputable section

namespace Cert.KernelIdeal.Hand

open Idealize.ShloMosaic Idealize.ShloMosaic.TcCoe Cert.KernelIdeal.Gen

variable {F : FTy → Type} [FloatOps F]

/-- The operation writes the buffer of this number alone. -/
def Wn (n : Nat) (op : HloOp τ sig (Elt F)) : Prop := ∃ r : Ref sig .tc, op.writes = {Proc.devRef .tc r} ∧ num r = n

/-- The operations write buffers of consecutive numbers. -/
def Seq : Nat → List (HloOp τ sig (Elt F)) → Prop
  | _, [] => True
  | n, op :: L => Wn n op ∧ Seq (n + 1) L

theorem Seq.append : ∀ {L₁ : List (HloOp τ sig (Elt F))} {n m : Nat} {L₂ : List (HloOp τ sig (Elt F))}, Seq n L₁ → Seq m L₂ →
    m = n + L₁.length → Seq n (L₁ ++ L₂)
  | [], _, _, _, _, h2, h => by subst h; exact h2
  | _ :: _, _, _, _, h1, h2, h => ⟨h1.1, Seq.append h1.2 h2 (by rw [h, List.length_cons]; omega)⟩

/-- In the contents `Y` the operation's buffer holds its function of contents that agree with `Y` on the earlier buffers. -/
def Fix (Y : Valuation τ sig (Elt F)) (op : HloOp τ sig (Elt F)) : Prop :=
  ∀ r : Ref sig .tc, op.writes = {Proc.devRef .tc r} → ∃ Z : Valuation τ sig (Elt F),
    (∀ b : Ref sig .tc, num b < num r → Y (Proc.devRef .tc b) = Z (Proc.devRef .tc b)) ∧
      Y (Proc.devRef .tc r) = op.result Z (Proc.devRef .tc r)

theorem Wn.ne {n : Nat} {op : HloOp τ sig (Elt F)} (h : Wn n op) (b : Ref sig .tc) (hb : num b ≠ n) : Proc.devRef .tc b ∉ op.writes := by
  obtain ⟨r, hr, hn⟩ := h
  rw [hr, Finset.mem_singleton]
  intro e
  have : b = r := Proc.devRef_injective _ e
  subst this
  exact hb hn

theorem Seq.skip : ∀ {L : List (HloOp τ sig (Elt F))} {n : Nat} (_ : Seq n L) (X : Valuation τ sig (Elt F)) (b : Ref sig .tc), num b < n →
    StableHlo.after L X (Proc.devRef .tc b) = X (Proc.devRef .tc b)
  | [], _, _, _, _, _ => rfl
  | op :: L, n, h, X, b, hb => by
    rw [StableHlo.after_cons, Seq.skip h.2 _ b (by omega)]
    exact op.result_of_not_mem X (h.1.ne b (by omega))

theorem Seq.fix : ∀ {L : List (HloOp τ sig (Elt F))} {n : Nat} (_ : Seq n L) (X : Valuation τ sig (Elt F)), ∀ op ∈ L, Fix (StableHlo.after L X) op
  | [], _, _, _, op, h => nomatch h
  | op :: L, n, h, X, op', h' => by
    rw [StableHlo.after_cons]
    rcases List.mem_cons.mp h' with rfl | h'
    · intro r hr
      have hn : num r = n := by
        obtain ⟨r', hr', hn⟩ := h.1
        have e := Proc.devRef_injective _ (Finset.singleton_injective (hr.symm.trans hr'))
        rw [e]; exact hn
      refine ⟨X, fun b hb => ?_, ?_⟩
      · rw [Seq.skip h.2 _ b (by omega)]
        exact op'.result_of_not_mem X (h.1.ne b (by omega))
      · exact Seq.skip h.2 _ r (by omega)
    · exact Seq.fix h.2 _ op' h'

section
variable {Y : Valuation τ sig (Elt F)}

theorem Fix.nullary {y : Ref sig .tc} {v : y.ty.Contents (Elt F)} {hy} (h : Fix Y (StableHlo.nullary y v hy)) : Y (Proc.devRef .tc y) = v := by
  obtain ⟨Z, -, e⟩ := h y rfl
  rw [e, StableHlo.nullary_result]

theorem Fix.unary {x y : Ref sig .tc} {f : x.ty.Contents (Elt F) → y.ty.Contents (Elt F)} {hx hy} (h : Fix Y (StableHlo.unary x y f hx hy))
    (hxy : num x < num y) : Y (Proc.devRef .tc y) = f (Y (Proc.devRef .tc x)) := by
  obtain ⟨Z, hz, e⟩ := h y rfl
  rw [e, StableHlo.unary_result, hz x hxy]

theorem Fix.binary {a b y : Ref sig .tc} {f : a.ty.Contents (Elt F) → b.ty.Contents (Elt F) → y.ty.Contents (Elt F)} {ha hb hy}
    (h : Fix Y (StableHlo.binary a b y f ha hb hy))
    (h1 : num a < num y) (h2 : num b < num y) : Y (Proc.devRef .tc y) = f (Y (Proc.devRef .tc a)) (Y (Proc.devRef .tc b)) := by
  obtain ⟨Z, hz, e⟩ := h y rfl
  rw [e, StableHlo.binary_result, hz a h1, hz b h2]

theorem Fix.ternary {c a b y : Ref sig .tc} {f : c.ty.Contents (Elt F) → a.ty.Contents (Elt F) → b.ty.Contents (Elt F) → y.ty.Contents (Elt F)} {hc ha hb hy}
    (h : Fix Y (StableHlo.ternary c a b y f hc ha hb hy))
    (h0 : num c < num y) (h1 : num a < num y) (h2 : num b < num y) :
    Y (Proc.devRef .tc y) = f (Y (Proc.devRef .tc c)) (Y (Proc.devRef .tc a)) (Y (Proc.devRef .tc b)) := by
  obtain ⟨Z, hz, e⟩ := h y rfl
  rw [e, StableHlo.ternary_result, hz a h1, hz b h2, hz c h0]

theorem Fix.reshape {x y : Ref sig .tc} {he : x.ty.elt = y.ty.elt} {hn : x.ty.shape.ShapeCasts y.ty.shape} {hx hy}
    (h : Fix Y (StableHlo.reshape (Val := Elt F) x y he hn hx hy))
    (hxy : num x < num y) : Y (Proc.devRef .tc y) = fun i => he ▸ shapeCast y.ty.shape (Y (Proc.devRef .tc x)) hn i := by
  obtain ⟨Z, hz, e⟩ := h y rfl
  rw [e, StableHlo.reshape_result, hz x hxy]

theorem Fix.nary {n : Nat} {xs : Fin n → Ref sig .tc} {y : Ref sig .tc} {f : ((k : Fin n) → (xs k).ty.Contents (Elt F)) → y.ty.Contents (Elt F)} {hxs hy}
    (h : Fix Y (StableHlo.nary xs y f hxs hy))
    (hxy : ∀ k, num (xs k) < num y) : Y (Proc.devRef .tc y) = f (fun k => Y (Proc.devRef .tc (xs k))) := by
  obtain ⟨Z, hz, e⟩ := h y rfl
  rw [e, StableHlo.nary_result]
  exact congrArg f (funext fun k => (hz _ (hxy k)).symm)

end

theorem hostOps0_seq : Seq 3 (hostOps0 : List (HloOp τ sig (Elt F))) :=
  ⟨⟨main_c, rfl, rfl⟩, trivial⟩
theorem hostOps0_1_seq : Seq 4 (hostOps0_1 : List (HloOp τ sig (Elt F))) :=
  ⟨⟨main_call0_v0, rfl, rfl⟩, ⟨main_v0, rfl, rfl⟩, trivial⟩
theorem hostOps0_2_seq : Seq 6 (hostOps0_2 : List (HloOp τ sig (Elt F))) :=
  ⟨⟨main_v1, rfl, rfl⟩, ⟨main_v2, rfl, rfl⟩, ⟨main_v3, rfl, rfl⟩, ⟨main_v4, rfl, rfl⟩, ⟨main_v5, rfl, rfl⟩, ⟨main_v6, rfl, rfl⟩, ⟨main_v7, rfl, rfl⟩, ⟨main_v8, rfl, rfl⟩, ⟨main_v9, rfl, rfl⟩, ⟨main_v10, rfl, rfl⟩, ⟨main_v11, rfl, rfl⟩, ⟨main_v12, rfl, rfl⟩, ⟨main_v13, rfl, rfl⟩, ⟨main_v14, rfl, rfl⟩, ⟨main_v15, rfl, rfl⟩, ⟨main_v16, rfl, rfl⟩, ⟨main_v17, rfl, rfl⟩, ⟨main_v18, rfl, rfl⟩, ⟨main_v19, rfl, rfl⟩, ⟨main_v20, rfl, rfl⟩, ⟨main_v21, rfl, rfl⟩, ⟨main_v22, rfl, rfl⟩, ⟨main_v23, rfl, rfl⟩, ⟨main_v24, rfl, rfl⟩, ⟨main_v25, rfl, rfl⟩, ⟨main_v26, rfl, rfl⟩, ⟨main_v27, rfl, rfl⟩, ⟨main_v28, rfl, rfl⟩, ⟨main_v29, rfl, rfl⟩, ⟨main_v30, rfl, rfl⟩, ⟨main_v31, rfl, rfl⟩, ⟨main_v32, rfl, rfl⟩, ⟨main_v33, rfl, rfl⟩, ⟨main_v34, rfl, rfl⟩, ⟨main_v35, rfl, rfl⟩, ⟨main_v36, rfl, rfl⟩, ⟨main_v37, rfl, rfl⟩, ⟨main_v38, rfl, rfl⟩, ⟨main_v39, rfl, rfl⟩, ⟨main_v40, rfl, rfl⟩, ⟨main_v41, rfl, rfl⟩, ⟨main_v42, rfl, rfl⟩, ⟨main_v43, rfl, rfl⟩, ⟨main_v44, rfl, rfl⟩, ⟨main_v45, rfl, rfl⟩, ⟨main_v46, rfl, rfl⟩, ⟨main_v47, rfl, rfl⟩, ⟨main_v48, rfl, rfl⟩, ⟨main_v49, rfl, rfl⟩, ⟨main_v50, rfl, rfl⟩, ⟨main_v51, rfl, rfl⟩, ⟨main_v52, rfl, rfl⟩, ⟨main_v53, rfl, rfl⟩, ⟨main_v54, rfl, rfl⟩, ⟨main_v55, rfl, rfl⟩, ⟨main_v56, rfl, rfl⟩, ⟨main_v57, rfl, rfl⟩, ⟨main_v58, rfl, rfl⟩, ⟨main_v59, rfl, rfl⟩, ⟨main_v60, rfl, rfl⟩, ⟨main_v61, rfl, rfl⟩, ⟨main_v62, rfl, rfl⟩, ⟨main_v63, rfl, rfl⟩, ⟨main_v64, rfl, rfl⟩, ⟨main_v65, rfl, rfl⟩, ⟨main_v66, rfl, rfl⟩, ⟨main_v67, rfl, rfl⟩, ⟨main_v68, rfl, rfl⟩, ⟨main_v69, rfl, rfl⟩, ⟨main_v70, rfl, rfl⟩, ⟨main_v71, rfl, rfl⟩, ⟨main_v72, rfl, rfl⟩, ⟨main_v73, rfl, rfl⟩, ⟨main_v74, rfl, rfl⟩, ⟨main_v75, rfl, rfl⟩, ⟨main_v76, rfl, rfl⟩, ⟨main_v77, rfl, rfl⟩, ⟨main_v78, rfl, rfl⟩, ⟨main_v79, rfl, rfl⟩, ⟨main_v80, rfl, rfl⟩, ⟨main_v81, rfl, rfl⟩, ⟨main_v82, rfl, rfl⟩, ⟨main_v83, rfl, rfl⟩, ⟨main_v84, rfl, rfl⟩, ⟨main_v85, rfl, rfl⟩, ⟨main_v86, rfl, rfl⟩, ⟨main_v87, rfl, rfl⟩, ⟨main_v88, rfl, rfl⟩, ⟨main_v89, rfl, rfl⟩, ⟨main_v90, rfl, rfl⟩, ⟨main_v91, rfl, rfl⟩, ⟨main_v92, rfl, rfl⟩, ⟨main_v93, rfl, rfl⟩, ⟨main_v94, rfl, rfl⟩, ⟨main_v95, rfl, rfl⟩, ⟨main_v96, rfl, rfl⟩, ⟨main_v97, rfl, rfl⟩, ⟨main_v98, rfl, rfl⟩, ⟨main_v99, rfl, rfl⟩, ⟨main_v100, rfl, rfl⟩, ⟨main_v101, rfl, rfl⟩, ⟨main_v102, rfl, rfl⟩, ⟨main_v103, rfl, rfl⟩, ⟨main_v104, rfl, rfl⟩, ⟨main_v105, rfl, rfl⟩, ⟨main_v106, rfl, rfl⟩, ⟨main_v107, rfl, rfl⟩, ⟨main_v108, rfl, rfl⟩, ⟨main_v109, rfl, rfl⟩, ⟨main_v110, rfl, rfl⟩, ⟨main_v111, rfl, rfl⟩, ⟨main_v112, rfl, rfl⟩, ⟨main_v113, rfl, rfl⟩, ⟨main_v114, rfl, rfl⟩, ⟨main_v115, rfl, rfl⟩, ⟨main_v116, rfl, rfl⟩, ⟨main_v117, rfl, rfl⟩, ⟨main_v118, rfl, rfl⟩, ⟨main_v119, rfl, rfl⟩, ⟨main_v120, rfl, rfl⟩, ⟨main_v121, rfl, rfl⟩, ⟨main_v122, rfl, rfl⟩, ⟨main_v123, rfl, rfl⟩, ⟨main_v124, rfl, rfl⟩, ⟨main_v125, rfl, rfl⟩, ⟨main_v126, rfl, rfl⟩, ⟨main_v127, rfl, rfl⟩, ⟨main_v128, rfl, rfl⟩, ⟨main_v129, rfl, rfl⟩, ⟨main_v130, rfl, rfl⟩, ⟨main_v131, rfl, rfl⟩, ⟨main_v132, rfl, rfl⟩, ⟨main_v133, rfl, rfl⟩, ⟨main_v134, rfl, rfl⟩, ⟨main_v135, rfl, rfl⟩, ⟨main_c_0, rfl, rfl⟩, ⟨main_v136, rfl, rfl⟩, ⟨main_v137, rfl, rfl⟩, ⟨main_v138, rfl, rfl⟩, ⟨main_v139, rfl, rfl⟩, ⟨main_v140, rfl, rfl⟩, ⟨main_v141, rfl, rfl⟩, ⟨main_c_1, rfl, rfl⟩, ⟨main_v142, rfl, rfl⟩, ⟨main_v143, rfl, rfl⟩, ⟨main_v144, rfl, rfl⟩, ⟨main_v145, rfl, rfl⟩, ⟨main_c_2, rfl, rfl⟩, ⟨main_v146, rfl, rfl⟩, ⟨main_v147, rfl, rfl⟩, ⟨main_c_3, rfl, rfl⟩, ⟨main_c_4, rfl, rfl⟩, trivial⟩
theorem hostOps0_3_seq : Seq 158 (hostOps0_3 : List (HloOp τ sig (Elt F))) :=
  ⟨⟨main_call1_v0, rfl, rfl⟩, ⟨main_call1_v1, rfl, rfl⟩, ⟨main_call1_v2, rfl, rfl⟩, ⟨main_call1_v3, rfl, rfl⟩, ⟨main_call1_v4, rfl, rfl⟩, ⟨main_v148, rfl, rfl⟩, trivial⟩
theorem hostOps0_4_seq : Seq 164 (hostOps0_4 : List (HloOp τ sig (Elt F))) :=
  ⟨⟨main_c_5, rfl, rfl⟩, ⟨main_v149, rfl, rfl⟩, ⟨main_v150, rfl, rfl⟩, ⟨main_c_6, rfl, rfl⟩, ⟨main_c_7, rfl, rfl⟩, trivial⟩
theorem hostOps0_5_seq : Seq 169 (hostOps0_5 : List (HloOp τ sig (Elt F))) :=
  ⟨⟨main_call2_v0, rfl, rfl⟩, ⟨main_call2_v1, rfl, rfl⟩, ⟨main_call2_v2, rfl, rfl⟩, ⟨main_call2_v3, rfl, rfl⟩, ⟨main_call2_v4, rfl, rfl⟩, ⟨main_v151, rfl, rfl⟩, trivial⟩
theorem hostOps0_6_seq : Seq 175 (hostOps0_6 : List (HloOp τ sig (Elt F))) :=
  ⟨⟨main_v152, rfl, rfl⟩, ⟨main_v153, rfl, rfl⟩, ⟨main_v154, rfl, rfl⟩, ⟨main_v155, rfl, rfl⟩, ⟨main_v156, rfl, rfl⟩, ⟨main_v157, rfl, rfl⟩, ⟨main_v158, rfl, rfl⟩, ⟨main_c_8, rfl, rfl⟩, ⟨main_v159, rfl, rfl⟩, ⟨main_v160, rfl, rfl⟩, ⟨main_v161, rfl, rfl⟩, ⟨main_v162, rfl, rfl⟩, ⟨main_v163, rfl, rfl⟩, ⟨main_v164, rfl, rfl⟩, ⟨main_v165, rfl, rfl⟩, ⟨main_v166, rfl, rfl⟩, ⟨main_v167, rfl, rfl⟩, ⟨main_v168, rfl, rfl⟩, ⟨main_v169, rfl, rfl⟩, ⟨main_v170, rfl, rfl⟩, ⟨main_v171, rfl, rfl⟩, ⟨main_v172, rfl, rfl⟩, ⟨main_c_9, rfl, rfl⟩, ⟨main_v173, rfl, rfl⟩, ⟨main_v174, rfl, rfl⟩, ⟨main_v175, rfl, rfl⟩, ⟨main_v176, rfl, rfl⟩, ⟨main_v177, rfl, rfl⟩, ⟨main_v178, rfl, rfl⟩, ⟨main_v179, rfl, rfl⟩, ⟨main_v180, rfl, rfl⟩, ⟨main_v181, rfl, rfl⟩, ⟨main_v182, rfl, rfl⟩, ⟨main_v183, rfl, rfl⟩, ⟨main_v184, rfl, rfl⟩, ⟨main_v185, rfl, rfl⟩, ⟨main_v186, rfl, rfl⟩, ⟨main_v187, rfl, rfl⟩, ⟨main_v188, rfl, rfl⟩, ⟨main_v189, rfl, rfl⟩, ⟨main_v190, rfl, rfl⟩, ⟨main_v191, rfl, rfl⟩, ⟨main_v192, rfl, rfl⟩, ⟨main_v193, rfl, rfl⟩, ⟨main_v194, rfl, rfl⟩, ⟨main_v195, rfl, rfl⟩, ⟨main_v196, rfl, rfl⟩, ⟨main_v197, rfl, rfl⟩, ⟨main_v198, rfl, rfl⟩, ⟨main_v199, rfl, rfl⟩, ⟨main_v200, rfl, rfl⟩, ⟨main_v201, rfl, rfl⟩, ⟨main_v202, rfl, rfl⟩, ⟨main_v203, rfl, rfl⟩, ⟨main_v204, rfl, rfl⟩, ⟨main_v205, rfl, rfl⟩, ⟨main_v206, rfl, rfl⟩, ⟨main_v207, rfl, rfl⟩, ⟨main_v208, rfl, rfl⟩, ⟨main_v209, rfl, rfl⟩, ⟨main_v210, rfl, rfl⟩, ⟨main_v211, rfl, rfl⟩, ⟨main_v212, rfl, rfl⟩, ⟨main_v213, rfl, rfl⟩, ⟨main_v214, rfl, rfl⟩, ⟨main_v215, rfl, rfl⟩, ⟨main_v216, rfl, rfl⟩, ⟨main_v217, rfl, rfl⟩, ⟨main_v218, rfl, rfl⟩, ⟨main_v219, rfl, rfl⟩, ⟨main_v220, rfl, rfl⟩, ⟨main_v221, rfl, rfl⟩, ⟨main_v222, rfl, rfl⟩, ⟨main_v223, rfl, rfl⟩, ⟨main_v224, rfl, rfl⟩, ⟨main_v225, rfl, rfl⟩, ⟨main_v226, rfl, rfl⟩, ⟨main_v227, rfl, rfl⟩, ⟨main_v228, rfl, rfl⟩, ⟨main_v229, rfl, rfl⟩, ⟨main_v230, rfl, rfl⟩, ⟨main_v231, rfl, rfl⟩, ⟨main_v232, rfl, rfl⟩, ⟨main_v233, rfl, rfl⟩, ⟨main_v234, rfl, rfl⟩, ⟨main_v235, rfl, rfl⟩, ⟨main_v236, rfl, rfl⟩, ⟨main_v237, rfl, rfl⟩, ⟨main_v238, rfl, rfl⟩, ⟨main_v239, rfl, rfl⟩, ⟨main_v240, rfl, rfl⟩, ⟨main_v241, rfl, rfl⟩, ⟨main_v242, rfl, rfl⟩, ⟨main_v243, rfl, rfl⟩, ⟨main_v244, rfl, rfl⟩, ⟨main_v245, rfl, rfl⟩, ⟨main_v246, rfl, rfl⟩, ⟨main_v247, rfl, rfl⟩, ⟨main_v248, rfl, rfl⟩, ⟨main_v249, rfl, rfl⟩, ⟨main_v250, rfl, rfl⟩, ⟨main_v251, rfl, rfl⟩, ⟨main_v252, rfl, rfl⟩, ⟨main_v253, rfl, rfl⟩, ⟨main_v254, rfl, rfl⟩, ⟨main_v255, rfl, rfl⟩, ⟨main_v256, rfl, rfl⟩, ⟨main_v257, rfl, rfl⟩, ⟨main_v258, rfl, rfl⟩, ⟨main_v259, rfl, rfl⟩, ⟨main_v260, rfl, rfl⟩, ⟨main_v261, rfl, rfl⟩, ⟨main_v262, rfl, rfl⟩, ⟨main_v263, rfl, rfl⟩, ⟨main_v264, rfl, rfl⟩, ⟨main_v265, rfl, rfl⟩, ⟨main_v266, rfl, rfl⟩, ⟨main_v267, rfl, rfl⟩, ⟨main_v268, rfl, rfl⟩, ⟨main_v269, rfl, rfl⟩, ⟨main_v270, rfl, rfl⟩, ⟨main_v271, rfl, rfl⟩, ⟨main_v272, rfl, rfl⟩, ⟨main_v273, rfl, rfl⟩, ⟨main_v274, rfl, rfl⟩, ⟨main_v275, rfl, rfl⟩, ⟨main_v276, rfl, rfl⟩, ⟨main_v277, rfl, rfl⟩, ⟨main_v278, rfl, rfl⟩, ⟨main_v279, rfl, rfl⟩, ⟨main_v280, rfl, rfl⟩, ⟨main_v281, rfl, rfl⟩, ⟨main_v282, rfl, rfl⟩, ⟨main_v283, rfl, rfl⟩, ⟨main_v284, rfl, rfl⟩, ⟨main_v285, rfl, rfl⟩, ⟨main_v286, rfl, rfl⟩, ⟨main_v287, rfl, rfl⟩, ⟨main_v288, rfl, rfl⟩, ⟨main_v289, rfl, rfl⟩, ⟨main_v290, rfl, rfl⟩, ⟨main_v291, rfl, rfl⟩, ⟨main_v292, rfl, rfl⟩, ⟨main_v293, rfl, rfl⟩, ⟨main_v294, rfl, rfl⟩, ⟨main_v295, rfl, rfl⟩, ⟨main_v296, rfl, rfl⟩, ⟨main_v297, rfl, rfl⟩, ⟨main_v298, rfl, rfl⟩, ⟨main_v299, rfl, rfl⟩, ⟨main_v300, rfl, rfl⟩, ⟨main_v301, rfl, rfl⟩, ⟨main_v302, rfl, rfl⟩, ⟨main_v303, rfl, rfl⟩, ⟨main_v304, rfl, rfl⟩, ⟨main_v305, rfl, rfl⟩, ⟨main_v306, rfl, rfl⟩, ⟨main_v307, rfl, rfl⟩, ⟨main_v308, rfl, rfl⟩, ⟨main_v309, rfl, rfl⟩, ⟨main_v310, rfl, rfl⟩, ⟨main_v311, rfl, rfl⟩, ⟨main_v312, rfl, rfl⟩, ⟨main_v313, rfl, rfl⟩, ⟨main_v314, rfl, rfl⟩, ⟨main_v315, rfl, rfl⟩, ⟨main_v316, rfl, rfl⟩, ⟨main_v317, rfl, rfl⟩, ⟨main_v318, rfl, rfl⟩, ⟨main_v319, rfl, rfl⟩, ⟨main_v320, rfl, rfl⟩, ⟨main_v321, rfl, rfl⟩, ⟨main_v322, rfl, rfl⟩, ⟨main_v323, rfl, rfl⟩, ⟨main_v324, rfl, rfl⟩, ⟨main_v325, rfl, rfl⟩, ⟨main_v326, rfl, rfl⟩, ⟨main_v327, rfl, rfl⟩, ⟨main_v328, rfl, rfl⟩, ⟨main_v329, rfl, rfl⟩, ⟨main_v330, rfl, rfl⟩, ⟨main_v331, rfl, rfl⟩, ⟨main_v332, rfl, rfl⟩, ⟨main_v333, rfl, rfl⟩, ⟨main_cst, rfl, rfl⟩, trivial⟩
theorem hostOps0_7_seq : Seq 360 (hostOps0_7 : List (HloOp τ sig (Elt F))) :=
  ⟨⟨main_call3_v0, rfl, rfl⟩, ⟨main_call3_v1, rfl, rfl⟩, ⟨main_call3_v2, rfl, rfl⟩, ⟨main_v334, rfl, rfl⟩, trivial⟩
theorem hostOps0_8_seq : Seq 364 (hostOps0_8 : List (HloOp τ sig (Elt F))) :=
  ⟨⟨main_v335, rfl, rfl⟩, ⟨main_v336, rfl, rfl⟩, ⟨main_c_10, rfl, rfl⟩, ⟨main_v337, rfl, rfl⟩, ⟨main_v338, rfl, rfl⟩, ⟨main_v339, rfl, rfl⟩, ⟨main_v340, rfl, rfl⟩, ⟨main_v341, rfl, rfl⟩, ⟨main_v342, rfl, rfl⟩, ⟨main_c_11, rfl, rfl⟩, ⟨main_v343, rfl, rfl⟩, ⟨main_v344, rfl, rfl⟩, ⟨main_v345, rfl, rfl⟩, ⟨main_v346, rfl, rfl⟩, ⟨main_c_12, rfl, rfl⟩, ⟨main_v347, rfl, rfl⟩, ⟨main_v348, rfl, rfl⟩, ⟨main_c_13, rfl, rfl⟩, ⟨main_c_14, rfl, rfl⟩, trivial⟩
theorem hostOps0_9_seq : Seq 383 (hostOps0_9 : List (HloOp τ sig (Elt F))) :=
  ⟨⟨main_call4_v0, rfl, rfl⟩, ⟨main_call4_v1, rfl, rfl⟩, ⟨main_call4_v2, rfl, rfl⟩, ⟨main_call4_v3, rfl, rfl⟩, ⟨main_call4_v4, rfl, rfl⟩, ⟨main_v349, rfl, rfl⟩, trivial⟩
theorem hostOps0_10_seq : Seq 389 (hostOps0_10 : List (HloOp τ sig (Elt F))) :=
  ⟨⟨main_c_15, rfl, rfl⟩, ⟨main_v350, rfl, rfl⟩, ⟨main_v351, rfl, rfl⟩, ⟨main_c_16, rfl, rfl⟩, ⟨main_c_17, rfl, rfl⟩, trivial⟩
theorem hostOps0_11_seq : Seq 394 (hostOps0_11 : List (HloOp τ sig (Elt F))) :=
  ⟨⟨main_call5_v0, rfl, rfl⟩, ⟨main_call5_v1, rfl, rfl⟩, ⟨main_call5_v2, rfl, rfl⟩, ⟨main_call5_v3, rfl, rfl⟩, ⟨main_call5_v4, rfl, rfl⟩, ⟨main_v352, rfl, rfl⟩, trivial⟩
theorem hostOps0_12_seq : Seq 400 (hostOps0_12 : List (HloOp τ sig (Elt F))) :=
  ⟨⟨main_v353, rfl, rfl⟩, ⟨main_v354, rfl, rfl⟩, ⟨main_v355, rfl, rfl⟩, ⟨main_v356, rfl, rfl⟩, ⟨main_v357, rfl, rfl⟩, ⟨main_v358, rfl, rfl⟩, ⟨main_v359, rfl, rfl⟩, ⟨main_c_18, rfl, rfl⟩, ⟨main_v360, rfl, rfl⟩, ⟨main_v361, rfl, rfl⟩, ⟨main_v362, rfl, rfl⟩, ⟨main_v363, rfl, rfl⟩, ⟨main_v364, rfl, rfl⟩, ⟨main_v365, rfl, rfl⟩, ⟨main_v366, rfl, rfl⟩, ⟨main_v367, rfl, rfl⟩, ⟨main_v368, rfl, rfl⟩, ⟨main_v369, rfl, rfl⟩, ⟨main_v370, rfl, rfl⟩, ⟨main_v371, rfl, rfl⟩, ⟨main_v372, rfl, rfl⟩, ⟨main_v373, rfl, rfl⟩, ⟨main_c_19, rfl, rfl⟩, ⟨main_v374, rfl, rfl⟩, ⟨main_v375, rfl, rfl⟩, ⟨main_v376, rfl, rfl⟩, ⟨main_v377, rfl, rfl⟩, ⟨main_v378, rfl, rfl⟩, ⟨main_v379, rfl, rfl⟩, ⟨main_v380, rfl, rfl⟩, ⟨main_v381, rfl, rfl⟩, ⟨main_v382, rfl, rfl⟩, ⟨main_v383, rfl, rfl⟩, ⟨main_v384, rfl, rfl⟩, ⟨main_v385, rfl, rfl⟩, ⟨main_v386, rfl, rfl⟩, ⟨main_v387, rfl, rfl⟩, ⟨main_v388, rfl, rfl⟩, ⟨main_v389, rfl, rfl⟩, ⟨main_v390, rfl, rfl⟩, ⟨main_v391, rfl, rfl⟩, ⟨main_v392, rfl, rfl⟩, ⟨main_v393, rfl, rfl⟩, ⟨main_v394, rfl, rfl⟩, ⟨main_v395, rfl, rfl⟩, ⟨main_v396, rfl, rfl⟩, ⟨main_v397, rfl, rfl⟩, ⟨main_v398, rfl, rfl⟩, ⟨main_v399, rfl, rfl⟩, ⟨main_v400, rfl, rfl⟩, ⟨main_v401, rfl, rfl⟩, ⟨main_v402, rfl, rfl⟩, ⟨main_v403, rfl, rfl⟩, ⟨main_v404, rfl, rfl⟩, ⟨main_v405, rfl, rfl⟩, ⟨main_v406, rfl, rfl⟩, ⟨main_v407, rfl, rfl⟩, ⟨main_v408, rfl, rfl⟩, ⟨main_v409, rfl, rfl⟩, ⟨main_v410, rfl, rfl⟩, ⟨main_v411, rfl, rfl⟩, ⟨main_v412, rfl, rfl⟩, ⟨main_v413, rfl, rfl⟩, ⟨main_v414, rfl, rfl⟩, ⟨main_v415, rfl, rfl⟩, ⟨main_v416, rfl, rfl⟩, ⟨main_v417, rfl, rfl⟩, ⟨main_v418, rfl, rfl⟩, ⟨main_v419, rfl, rfl⟩, ⟨main_v420, rfl, rfl⟩, ⟨main_v421, rfl, rfl⟩, ⟨main_v422, rfl, rfl⟩, ⟨main_v423, rfl, rfl⟩, ⟨main_v424, rfl, rfl⟩, ⟨main_v425, rfl, rfl⟩, ⟨main_v426, rfl, rfl⟩, ⟨main_v427, rfl, rfl⟩, ⟨main_v428, rfl, rfl⟩, ⟨main_v429, rfl, rfl⟩, ⟨main_v430, rfl, rfl⟩, ⟨main_v431, rfl, rfl⟩, ⟨main_v432, rfl, rfl⟩, ⟨main_v433, rfl, rfl⟩, ⟨main_v434, rfl, rfl⟩, ⟨main_v435, rfl, rfl⟩, ⟨main_v436, rfl, rfl⟩, ⟨main_v437, rfl, rfl⟩, ⟨main_v438, rfl, rfl⟩, ⟨main_v439, rfl, rfl⟩, ⟨main_v440, rfl, rfl⟩, ⟨main_v441, rfl, rfl⟩, ⟨main_v442, rfl, rfl⟩, ⟨main_v443, rfl, rfl⟩, ⟨main_v444, rfl, rfl⟩, ⟨main_v445, rfl, rfl⟩, ⟨main_v446, rfl, rfl⟩, ⟨main_v447, rfl, rfl⟩, ⟨main_v448, rfl, rfl⟩, ⟨main_v449, rfl, rfl⟩, ⟨main_v450, rfl, rfl⟩, ⟨main_v451, rfl, rfl⟩, ⟨main_v452, rfl, rfl⟩, ⟨main_v453, rfl, rfl⟩, ⟨main_v454, rfl, rfl⟩, ⟨main_v455, rfl, rfl⟩, ⟨main_v456, rfl, rfl⟩, ⟨main_v457, rfl, rfl⟩, ⟨main_v458, rfl, rfl⟩, ⟨main_v459, rfl, rfl⟩, ⟨main_v460, rfl, rfl⟩, ⟨main_v461, rfl, rfl⟩, ⟨main_v462, rfl, rfl⟩, ⟨main_v463, rfl, rfl⟩, ⟨main_v464, rfl, rfl⟩, ⟨main_v465, rfl, rfl⟩, ⟨main_v466, rfl, rfl⟩, ⟨main_v467, rfl, rfl⟩, ⟨main_v468, rfl, rfl⟩, ⟨main_v469, rfl, rfl⟩, ⟨main_v470, rfl, rfl⟩, ⟨main_v471, rfl, rfl⟩, ⟨main_v472, rfl, rfl⟩, ⟨main_v473, rfl, rfl⟩, ⟨main_v474, rfl, rfl⟩, ⟨main_v475, rfl, rfl⟩, ⟨main_v476, rfl, rfl⟩, ⟨main_v477, rfl, rfl⟩, ⟨main_v478, rfl, rfl⟩, ⟨main_v479, rfl, rfl⟩, ⟨main_v480, rfl, rfl⟩, ⟨main_v481, rfl, rfl⟩, ⟨main_v482, rfl, rfl⟩, ⟨main_v483, rfl, rfl⟩, ⟨main_v484, rfl, rfl⟩, ⟨main_v485, rfl, rfl⟩, ⟨main_v486, rfl, rfl⟩, ⟨main_v487, rfl, rfl⟩, ⟨main_v488, rfl, rfl⟩, ⟨main_v489, rfl, rfl⟩, ⟨main_v490, rfl, rfl⟩, ⟨main_v491, rfl, rfl⟩, ⟨main_v492, rfl, rfl⟩, ⟨main_v493, rfl, rfl⟩, ⟨main_v494, rfl, rfl⟩, ⟨main_v495, rfl, rfl⟩, ⟨main_v496, rfl, rfl⟩, ⟨main_v497, rfl, rfl⟩, ⟨main_v498, rfl, rfl⟩, ⟨main_v499, rfl, rfl⟩, ⟨main_v500, rfl, rfl⟩, ⟨main_v501, rfl, rfl⟩, ⟨main_v502, rfl, rfl⟩, ⟨main_v503, rfl, rfl⟩, ⟨main_v504, rfl, rfl⟩, ⟨main_v505, rfl, rfl⟩, ⟨main_v506, rfl, rfl⟩, ⟨main_v507, rfl, rfl⟩, ⟨main_v508, rfl, rfl⟩, ⟨main_v509, rfl, rfl⟩, ⟨main_v510, rfl, rfl⟩, ⟨main_v511, rfl, rfl⟩, ⟨main_v512, rfl, rfl⟩, ⟨main_v513, rfl, rfl⟩, ⟨main_v514, rfl, rfl⟩, ⟨main_v515, rfl, rfl⟩, ⟨main_v516, rfl, rfl⟩, ⟨main_v517, rfl, rfl⟩, ⟨main_v518, rfl, rfl⟩, ⟨main_v519, rfl, rfl⟩, ⟨main_v520, rfl, rfl⟩, ⟨main_v521, rfl, rfl⟩, ⟨main_v522, rfl, rfl⟩, ⟨main_v523, rfl, rfl⟩, ⟨main_v524, rfl, rfl⟩, ⟨main_v525, rfl, rfl⟩, ⟨main_v526, rfl, rfl⟩, ⟨main_v527, rfl, rfl⟩, ⟨main_v528, rfl, rfl⟩, ⟨main_v529, rfl, rfl⟩, ⟨main_v530, rfl, rfl⟩, ⟨main_v531, rfl, rfl⟩, ⟨main_v532, rfl, rfl⟩, ⟨main_v533, rfl, rfl⟩, ⟨main_v534, rfl, rfl⟩, ⟨main_cst_20, rfl, rfl⟩, trivial⟩
theorem hostOps0_13_seq : Seq 585 (hostOps0_13 : List (HloOp τ sig (Elt F))) :=
  ⟨⟨main_call6_v0, rfl, rfl⟩, ⟨main_call6_v1, rfl, rfl⟩, ⟨main_call6_v2, rfl, rfl⟩, ⟨main_v535, rfl, rfl⟩, trivial⟩
theorem hostOps0_14_seq : Seq 589 (hostOps0_14 : List (HloOp τ sig (Elt F))) :=
  ⟨⟨main_v536, rfl, rfl⟩, ⟨main_v537, rfl, rfl⟩, ⟨main_c_21, rfl, rfl⟩, ⟨main_v538, rfl, rfl⟩, ⟨main_v539, rfl, rfl⟩, ⟨main_v540, rfl, rfl⟩, ⟨main_v541, rfl, rfl⟩, ⟨main_v542, rfl, rfl⟩, ⟨main_v543, rfl, rfl⟩, ⟨main_c_22, rfl, rfl⟩, ⟨main_v544, rfl, rfl⟩, ⟨main_v545, rfl, rfl⟩, ⟨main_v546, rfl, rfl⟩, ⟨main_v547, rfl, rfl⟩, ⟨main_c_23, rfl, rfl⟩, ⟨main_v548, rfl, rfl⟩, ⟨main_v549, rfl, rfl⟩, ⟨main_c_24, rfl, rfl⟩, ⟨main_c_25, rfl, rfl⟩, trivial⟩
theorem hostOps0_15_seq : Seq 608 (hostOps0_15 : List (HloOp τ sig (Elt F))) :=
  ⟨⟨main_call7_v0, rfl, rfl⟩, ⟨main_call7_v1, rfl, rfl⟩, ⟨main_call7_v2, rfl, rfl⟩, ⟨main_call7_v3, rfl, rfl⟩, ⟨main_call7_v4, rfl, rfl⟩, ⟨main_v550, rfl, rfl⟩, trivial⟩
theorem hostOps0_16_seq : Seq 614 (hostOps0_16 : List (HloOp τ sig (Elt F))) :=
  ⟨⟨main_c_26, rfl, rfl⟩, ⟨main_v551, rfl, rfl⟩, ⟨main_v552, rfl, rfl⟩, ⟨main_c_27, rfl, rfl⟩, ⟨main_c_28, rfl, rfl⟩, trivial⟩
theorem hostOps0_17_seq : Seq 619 (hostOps0_17 : List (HloOp τ sig (Elt F))) :=
  ⟨⟨main_call8_v0, rfl, rfl⟩, ⟨main_call8_v1, rfl, rfl⟩, ⟨main_call8_v2, rfl, rfl⟩, ⟨main_call8_v3, rfl, rfl⟩, ⟨main_call8_v4, rfl, rfl⟩, ⟨main_v553, rfl, rfl⟩, trivial⟩
theorem hostOps0_18_seq : Seq 625 (hostOps0_18 : List (HloOp τ sig (Elt F))) :=
  ⟨⟨main_v554, rfl, rfl⟩, ⟨main_v555, rfl, rfl⟩, ⟨main_v556, rfl, rfl⟩, ⟨main_v557, rfl, rfl⟩, ⟨main_v558, rfl, rfl⟩, ⟨main_v559, rfl, rfl⟩, ⟨main_v560, rfl, rfl⟩, ⟨main_c_29, rfl, rfl⟩, ⟨main_v561, rfl, rfl⟩, ⟨main_v562, rfl, rfl⟩, ⟨main_v563, rfl, rfl⟩, ⟨main_v564, rfl, rfl⟩, ⟨main_v565, rfl, rfl⟩, ⟨main_v566, rfl, rfl⟩, ⟨main_v567, rfl, rfl⟩, ⟨main_v568, rfl, rfl⟩, ⟨main_v569, rfl, rfl⟩, ⟨main_v570, rfl, rfl⟩, ⟨main_v571, rfl, rfl⟩, ⟨main_v572, rfl, rfl⟩, ⟨main_v573, rfl, rfl⟩, ⟨main_v574, rfl, rfl⟩, ⟨main_c_30, rfl, rfl⟩, ⟨main_v575, rfl, rfl⟩, ⟨main_v576, rfl, rfl⟩, ⟨main_v577, rfl, rfl⟩, ⟨main_v578, rfl, rfl⟩, ⟨main_v579, rfl, rfl⟩, ⟨main_v580, rfl, rfl⟩, ⟨main_v581, rfl, rfl⟩, ⟨main_v582, rfl, rfl⟩, ⟨main_v583, rfl, rfl⟩, ⟨main_v584, rfl, rfl⟩, ⟨main_v585, rfl, rfl⟩, ⟨main_v586, rfl, rfl⟩, ⟨main_v587, rfl, rfl⟩, ⟨main_v588, rfl, rfl⟩, ⟨main_v589, rfl, rfl⟩, ⟨main_v590, rfl, rfl⟩, ⟨main_v591, rfl, rfl⟩, ⟨main_v592, rfl, rfl⟩, ⟨main_v593, rfl, rfl⟩, ⟨main_v594, rfl, rfl⟩, ⟨main_v595, rfl, rfl⟩, ⟨main_v596, rfl, rfl⟩, ⟨main_v597, rfl, rfl⟩, ⟨main_v598, rfl, rfl⟩, ⟨main_v599, rfl, rfl⟩, ⟨main_v600, rfl, rfl⟩, ⟨main_v601, rfl, rfl⟩, ⟨main_v602, rfl, rfl⟩, ⟨main_v603, rfl, rfl⟩, ⟨main_v604, rfl, rfl⟩, ⟨main_v605, rfl, rfl⟩, ⟨main_v606, rfl, rfl⟩, ⟨main_v607, rfl, rfl⟩, ⟨main_v608, rfl, rfl⟩, ⟨main_v609, rfl, rfl⟩, ⟨main_v610, rfl, rfl⟩, ⟨main_v611, rfl, rfl⟩, ⟨main_v612, rfl, rfl⟩, ⟨main_v613, rfl, rfl⟩, ⟨main_v614, rfl, rfl⟩, ⟨main_v615, rfl, rfl⟩, ⟨main_v616, rfl, rfl⟩, ⟨main_v617, rfl, rfl⟩, ⟨main_v618, rfl, rfl⟩, ⟨main_v619, rfl, rfl⟩, ⟨main_v620, rfl, rfl⟩, ⟨main_v621, rfl, rfl⟩, ⟨main_v622, rfl, rfl⟩, ⟨main_v623, rfl, rfl⟩, ⟨main_v624, rfl, rfl⟩, ⟨main_v625, rfl, rfl⟩, ⟨main_v626, rfl, rfl⟩, ⟨main_v627, rfl, rfl⟩, ⟨main_v628, rfl, rfl⟩, ⟨main_v629, rfl, rfl⟩, ⟨main_v630, rfl, rfl⟩, ⟨main_v631, rfl, rfl⟩, ⟨main_v632, rfl, rfl⟩, ⟨main_v633, rfl, rfl⟩, ⟨main_v634, rfl, rfl⟩, ⟨main_v635, rfl, rfl⟩, ⟨main_v636, rfl, rfl⟩, ⟨main_v637, rfl, rfl⟩, ⟨main_v638, rfl, rfl⟩, ⟨main_v639, rfl, rfl⟩, ⟨main_v640, rfl, rfl⟩, ⟨main_v641, rfl, rfl⟩, ⟨main_v642, rfl, rfl⟩, ⟨main_v643, rfl, rfl⟩, ⟨main_v644, rfl, rfl⟩, ⟨main_v645, rfl, rfl⟩, ⟨main_v646, rfl, rfl⟩, ⟨main_v647, rfl, rfl⟩, ⟨main_v648, rfl, rfl⟩, ⟨main_v649, rfl, rfl⟩, ⟨main_v650, rfl, rfl⟩, ⟨main_v651, rfl, rfl⟩, ⟨main_v652, rfl, rfl⟩, ⟨main_v653, rfl, rfl⟩, ⟨main_v654, rfl, rfl⟩, ⟨main_v655, rfl, rfl⟩, ⟨main_v656, rfl, rfl⟩, ⟨main_v657, rfl, rfl⟩, ⟨main_v658, rfl, rfl⟩, ⟨main_v659, rfl, rfl⟩, ⟨main_v660, rfl, rfl⟩, ⟨main_v661, rfl, rfl⟩, ⟨main_v662, rfl, rfl⟩, ⟨main_v663, rfl, rfl⟩, ⟨main_v664, rfl, rfl⟩, ⟨main_v665, rfl, rfl⟩, ⟨main_v666, rfl, rfl⟩, ⟨main_v667, rfl, rfl⟩, ⟨main_v668, rfl, rfl⟩, ⟨main_v669, rfl, rfl⟩, ⟨main_v670, rfl, rfl⟩, ⟨main_v671, rfl, rfl⟩, ⟨main_v672, rfl, rfl⟩, ⟨main_v673, rfl, rfl⟩, ⟨main_v674, rfl, rfl⟩, ⟨main_v675, rfl, rfl⟩, ⟨main_v676, rfl, rfl⟩, ⟨main_v677, rfl, rfl⟩, ⟨main_v678, rfl, rfl⟩, ⟨main_v679, rfl, rfl⟩, ⟨main_v680, rfl, rfl⟩, ⟨main_v681, rfl, rfl⟩, ⟨main_v682, rfl, rfl⟩, ⟨main_v683, rfl, rfl⟩, ⟨main_v684, rfl, rfl⟩, ⟨main_v685, rfl, rfl⟩, ⟨main_v686, rfl, rfl⟩, ⟨main_v687, rfl, rfl⟩, ⟨main_v688, rfl, rfl⟩, ⟨main_v689, rfl, rfl⟩, ⟨main_v690, rfl, rfl⟩, ⟨main_v691, rfl, rfl⟩, ⟨main_v692, rfl, rfl⟩, ⟨main_v693, rfl, rfl⟩, ⟨main_v694, rfl, rfl⟩, ⟨main_v695, rfl, rfl⟩, ⟨main_v696, rfl, rfl⟩, ⟨main_v697, rfl, rfl⟩, ⟨main_v698, rfl, rfl⟩, ⟨main_v699, rfl, rfl⟩, ⟨main_v700, rfl, rfl⟩, ⟨main_v701, rfl, rfl⟩, ⟨main_v702, rfl, rfl⟩, ⟨main_v703, rfl, rfl⟩, ⟨main_v704, rfl, rfl⟩, ⟨main_v705, rfl, rfl⟩, ⟨main_v706, rfl, rfl⟩, ⟨main_v707, rfl, rfl⟩, ⟨main_v708, rfl, rfl⟩, ⟨main_v709, rfl, rfl⟩, ⟨main_v710, rfl, rfl⟩, ⟨main_v711, rfl, rfl⟩, ⟨main_v712, rfl, rfl⟩, ⟨main_v713, rfl, rfl⟩, ⟨main_v714, rfl, rfl⟩, ⟨main_v715, rfl, rfl⟩, ⟨main_v716, rfl, rfl⟩, ⟨main_v717, rfl, rfl⟩, ⟨main_v718, rfl, rfl⟩, ⟨main_v719, rfl, rfl⟩, ⟨main_v720, rfl, rfl⟩, ⟨main_v721, rfl, rfl⟩, ⟨main_v722, rfl, rfl⟩, ⟨main_v723, rfl, rfl⟩, ⟨main_v724, rfl, rfl⟩, ⟨main_v725, rfl, rfl⟩, ⟨main_v726, rfl, rfl⟩, ⟨main_v727, rfl, rfl⟩, ⟨main_v728, rfl, rfl⟩, ⟨main_v729, rfl, rfl⟩, ⟨main_v730, rfl, rfl⟩, ⟨main_v731, rfl, rfl⟩, ⟨main_v732, rfl, rfl⟩, ⟨main_v733, rfl, rfl⟩, ⟨main_v734, rfl, rfl⟩, ⟨main_v735, rfl, rfl⟩, ⟨main_cst_31, rfl, rfl⟩, trivial⟩
theorem hostOps0_19_seq : Seq 810 (hostOps0_19 : List (HloOp τ sig (Elt F))) :=
  ⟨⟨main_call9_v0, rfl, rfl⟩, ⟨main_call9_v1, rfl, rfl⟩, ⟨main_call9_v2, rfl, rfl⟩, ⟨main_v736, rfl, rfl⟩, trivial⟩
theorem hostOps0_20_seq : Seq 814 (hostOps0_20 : List (HloOp τ sig (Elt F))) :=
  ⟨⟨main_v737, rfl, rfl⟩, ⟨main_v738, rfl, rfl⟩, ⟨main_v739, rfl, rfl⟩, ⟨main_v740, rfl, rfl⟩, ⟨main_v741, rfl, rfl⟩, trivial⟩

/-- All of them, in their order. -/
abbrev hosts : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

theorem hosts_seq : Seq 3 (hosts : List (HloOp τ sig (Elt F))) :=
  (hostOps0_seq.append (hostOps0_1_seq.append (hostOps0_2_seq.append (hostOps0_3_seq.append (hostOps0_4_seq.append (hostOps0_5_seq.append (hostOps0_6_seq.append (hostOps0_7_seq.append (hostOps0_8_seq.append (hostOps0_9_seq.append (hostOps0_10_seq.append (hostOps0_11_seq.append (hostOps0_12_seq.append (hostOps0_13_seq.append (hostOps0_14_seq.append (hostOps0_15_seq.append (hostOps0_16_seq.append (hostOps0_17_seq.append (hostOps0_18_seq.append (hostOps0_19_seq.append (hostOps0_20_seq.append (m := 819) (L₂ := []) trivial rfl) rfl) rfl) rfl) rfl) rfl) rfl) rfl) rfl) rfl) rfl) rfl) rfl) rfl) rfl) rfl) rfl) rfl) rfl) rfl) rfl)

theorem fix_of_mem {Y : Valuation τ sig (Elt F)} {L : List (HloOp τ sig (Elt F))} (h : ∀ op ∈ L, Fix Y op) (i : Nat) {op : HloOp τ sig (Elt F)}
    (hi : L[i]? = some op) : Fix Y op := h op (List.mem_of_getElem? hi)

/-- The contents after all the host operations. -/
def Good (Y : Valuation τ sig (Elt F)) : Prop := ∀ op ∈ (hosts : List (HloOp τ sig (Elt F))), Fix Y op

theorem good_after (X : Valuation τ sig (Elt F)) : Good (StableHlo.after hosts X) := hosts_seq.fix X

theorem after_arg (X : Valuation τ sig (Elt F)) (b : Ref sig .tc) (hb : num b < 3) :
    StableHlo.after hosts X (Proc.devRef .tc b) = X (Proc.devRef .tc b) := hosts_seq.skip X b hb

theorem Good.g0 {Y : Valuation τ sig (Elt F)} (h : Good Y) : ∀ op ∈ (hostOps0 : List (HloOp τ sig (Elt F))), Fix Y op :=
  fun op ho => h op (List.mem_flatten.mpr ⟨hostOps0, by simp only [List.mem_cons, true_or, or_true], ho⟩)
theorem Good.g0_1 {Y : Valuation τ sig (Elt F)} (h : Good Y) : ∀ op ∈ (hostOps0_1 : List (HloOp τ sig (Elt F))), Fix Y op :=
  fun op ho => h op (List.mem_flatten.mpr ⟨hostOps0_1, by simp only [List.mem_cons, true_or, or_true], ho⟩)
theorem Good.g0_2 {Y : Valuation τ sig (Elt F)} (h : Good Y) : ∀ op ∈ (hostOps0_2 : List (HloOp τ sig (Elt F))), Fix Y op :=
  fun op ho => h op (List.mem_flatten.mpr ⟨hostOps0_2, by simp only [List.mem_cons, true_or, or_true], ho⟩)
theorem Good.g0_3 {Y : Valuation τ sig (Elt F)} (h : Good Y) : ∀ op ∈ (hostOps0_3 : List (HloOp τ sig (Elt F))), Fix Y op :=
  fun op ho => h op (List.mem_flatten.mpr ⟨hostOps0_3, by simp only [List.mem_cons, true_or, or_true], ho⟩)
theorem Good.g0_4 {Y : Valuation τ sig (Elt F)} (h : Good Y) : ∀ op ∈ (hostOps0_4 : List (HloOp τ sig (Elt F))), Fix Y op :=
  fun op ho => h op (List.mem_flatten.mpr ⟨hostOps0_4, by simp only [List.mem_cons, true_or, or_true], ho⟩)
theorem Good.g0_5 {Y : Valuation τ sig (Elt F)} (h : Good Y) : ∀ op ∈ (hostOps0_5 : List (HloOp τ sig (Elt F))), Fix Y op :=
  fun op ho => h op (List.mem_flatten.mpr ⟨hostOps0_5, by simp only [List.mem_cons, true_or, or_true], ho⟩)
theorem Good.g0_6 {Y : Valuation τ sig (Elt F)} (h : Good Y) : ∀ op ∈ (hostOps0_6 : List (HloOp τ sig (Elt F))), Fix Y op :=
  fun op ho => h op (List.mem_flatten.mpr ⟨hostOps0_6, by simp only [List.mem_cons, true_or, or_true], ho⟩)
theorem Good.g0_7 {Y : Valuation τ sig (Elt F)} (h : Good Y) : ∀ op ∈ (hostOps0_7 : List (HloOp τ sig (Elt F))), Fix Y op :=
  fun op ho => h op (List.mem_flatten.mpr ⟨hostOps0_7, by simp only [List.mem_cons, true_or, or_true], ho⟩)
theorem Good.g0_8 {Y : Valuation τ sig (Elt F)} (h : Good Y) : ∀ op ∈ (hostOps0_8 : List (HloOp τ sig (Elt F))), Fix Y op :=
  fun op ho => h op (List.mem_flatten.mpr ⟨hostOps0_8, by simp only [List.mem_cons, true_or, or_true], ho⟩)
theorem Good.g0_9 {Y : Valuation τ sig (Elt F)} (h : Good Y) : ∀ op ∈ (hostOps0_9 : List (HloOp τ sig (Elt F))), Fix Y op :=
  fun op ho => h op (List.mem_flatten.mpr ⟨hostOps0_9, by simp only [List.mem_cons, true_or, or_true], ho⟩)
theorem Good.g0_10 {Y : Valuation τ sig (Elt F)} (h : Good Y) : ∀ op ∈ (hostOps0_10 : List (HloOp τ sig (Elt F))), Fix Y op :=
  fun op ho => h op (List.mem_flatten.mpr ⟨hostOps0_10, by simp only [List.mem_cons, true_or, or_true], ho⟩)
theorem Good.g0_11 {Y : Valuation τ sig (Elt F)} (h : Good Y) : ∀ op ∈ (hostOps0_11 : List (HloOp τ sig (Elt F))), Fix Y op :=
  fun op ho => h op (List.mem_flatten.mpr ⟨hostOps0_11, by simp only [List.mem_cons, true_or, or_true], ho⟩)
theorem Good.g0_12 {Y : Valuation τ sig (Elt F)} (h : Good Y) : ∀ op ∈ (hostOps0_12 : List (HloOp τ sig (Elt F))), Fix Y op :=
  fun op ho => h op (List.mem_flatten.mpr ⟨hostOps0_12, by simp only [List.mem_cons, true_or, or_true], ho⟩)
theorem Good.g0_13 {Y : Valuation τ sig (Elt F)} (h : Good Y) : ∀ op ∈ (hostOps0_13 : List (HloOp τ sig (Elt F))), Fix Y op :=
  fun op ho => h op (List.mem_flatten.mpr ⟨hostOps0_13, by simp only [List.mem_cons, true_or, or_true], ho⟩)
theorem Good.g0_14 {Y : Valuation τ sig (Elt F)} (h : Good Y) : ∀ op ∈ (hostOps0_14 : List (HloOp τ sig (Elt F))), Fix Y op :=
  fun op ho => h op (List.mem_flatten.mpr ⟨hostOps0_14, by simp only [List.mem_cons, true_or, or_true], ho⟩)
theorem Good.g0_15 {Y : Valuation τ sig (Elt F)} (h : Good Y) : ∀ op ∈ (hostOps0_15 : List (HloOp τ sig (Elt F))), Fix Y op :=
  fun op ho => h op (List.mem_flatten.mpr ⟨hostOps0_15, by simp only [List.mem_cons, true_or, or_true], ho⟩)
theorem Good.g0_16 {Y : Valuation τ sig (Elt F)} (h : Good Y) : ∀ op ∈ (hostOps0_16 : List (HloOp τ sig (Elt F))), Fix Y op :=
  fun op ho => h op (List.mem_flatten.mpr ⟨hostOps0_16, by simp only [List.mem_cons, true_or, or_true], ho⟩)
theorem Good.g0_17 {Y : Valuation τ sig (Elt F)} (h : Good Y) : ∀ op ∈ (hostOps0_17 : List (HloOp τ sig (Elt F))), Fix Y op :=
  fun op ho => h op (List.mem_flatten.mpr ⟨hostOps0_17, by simp only [List.mem_cons, true_or, or_true], ho⟩)
theorem Good.g0_18 {Y : Valuation τ sig (Elt F)} (h : Good Y) : ∀ op ∈ (hostOps0_18 : List (HloOp τ sig (Elt F))), Fix Y op :=
  fun op ho => h op (List.mem_flatten.mpr ⟨hostOps0_18, by simp only [List.mem_cons, true_or, or_true], ho⟩)
theorem Good.g0_19 {Y : Valuation τ sig (Elt F)} (h : Good Y) : ∀ op ∈ (hostOps0_19 : List (HloOp τ sig (Elt F))), Fix Y op :=
  fun op ho => h op (List.mem_flatten.mpr ⟨hostOps0_19, by simp only [List.mem_cons, true_or, or_true], ho⟩)
theorem Good.g0_20 {Y : Valuation τ sig (Elt F)} (h : Good Y) : ∀ op ∈ (hostOps0_20 : List (HloOp τ sig (Elt F))), Fix Y op :=
  fun op ho => h op (List.mem_flatten.mpr ⟨hostOps0_20, by simp only [List.mem_cons, true_or, or_true], ho⟩)

end Cert.KernelIdeal.Hand
-- ==== Proof.RefMask.lean ====
/- The reference's mask and its bias: which keys a query sees, and which entry of the table it adds. -/
module

public import Idealize.ShloMosaic.Lib.Pipeline.ValueKit
public import Idealize.ShloMosaic.Lib.Pointwise
public import Idealize.ShloMosaic.Lib.StableHlo.Predicate
public import proofs.«01_k».proof.Proof.Gen.ReferenceIdeal.Read

@[expose] public section

set_option maxRecDepth 16384

noncomputable section

namespace Cert.NA

open Idealize.ShloMosaic Idealize.ShloMosaic.TcCoe

/-- The first row of the window of a query in row `r` of the 32 rows. -/
abbrev row0 (r : Nat) : Nat := min 24 (r - 4)
/-- The first column of the window of a query in column `c` of the 64 columns. -/
abbrev col0 (c : Nat) : Nat := min 48 (c - 8)

/-- Key `j` lies in the window of query `q` (both numbered over the grid of 32 rows of 64). -/
abbrev Near (q j : Nat) : Prop :=
  (row0 (q / 64) ≤ j / 64 ∧ j / 64 < row0 (q / 64) + 8) ∧ (col0 (q % 64) ≤ j % 64 ∧ j % 64 < col0 (q % 64) + 16)

/-- The bias table at a row and a column given as numbers, zero outside. -/
def rp (x : (⟨3, ![16, 15, 31]⟩ : Shape).Idx → EReal) (h : Fin 16) (a c : Nat) : EReal :=
  if H : a < 15 ∧ c < 31 then x (ix3 h ⟨a, H.1⟩ ⟨c, H.2⟩) else 0

theorem sge_nat (a b : Nat) (ha : a < 2 ^ 31) (hb : b < 2 ^ 31) :
    IntOp.cmpi .sge (BitVec.ofNat 32 a) (BitVec.ofNat 32 b) = BitVec.ofBool (decide (b ≤ a)) := by
  simp only [IntOp.cmpi, BitVec.sle, StableHlo.Predicate.toInt_ofNat_small _ ha, StableHlo.Predicate.toInt_ofNat_small _ hb, Int.ofNat_le]
theorem slt_nat (a b : Nat) (ha : a < 2 ^ 31) (hb : b < 2 ^ 31) :
    IntOp.cmpi .slt (BitVec.ofNat 32 a) (BitVec.ofNat 32 b) = BitVec.ofBool (decide (a < b)) := by
  simp only [IntOp.cmpi, BitVec.slt, StableHlo.Predicate.toInt_ofNat_small _ ha, StableHlo.Predicate.toInt_ofNat_small _ hb, Int.ofNat_lt]
theorem row0_word : ∀ r : Fin 32, IntOp.minsi 24#32 (IntOp.maxsi 0#32 (IntOp.subi (BitVec.ofNat 32 r.val) 4#32)) = BitVec.ofNat 32 (row0 r.val) := by
  decide +kernel
theorem col0_word : ∀ r : Fin 64, IntOp.minsi 48#32 (IntOp.maxsi 0#32 (IntOp.subi (BitVec.ofNat 32 r.val) 8#32)) = BitVec.ofNat 32 (col0 r.val) := by
  decide +kernel
theorem add_word (a b : Nat) : IntOp.addi (BitVec.ofNat 32 a) (BitVec.ofNat 32 b) = BitVec.ofNat 32 (a + b) := by
  simp [IntOp.addi, BitVec.ofNat_add]
theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
/-- `jnp` reads a negative index from the end. -/
abbrev wrap (n w : BitVec 32) : BitVec 32 := Scalar.select (IntOp.cmpi .slt w 0#32) (IntOp.addi w n) w
theorem ridx_word : ∀ a b : Fin 32, row0 b.val ≤ a.val ∧ a.val < row0 b.val + 8 →
    wrap 15#32 (IntOp.minsi 14#32 (IntOp.maxsi 0#32 (IntOp.addi (IntOp.subi (BitVec.ofNat 32 a.val) (BitVec.ofNat 32 b.val)) 7#32)))
      = BitVec.ofNat 32 (a.val + 7 - b.val) := by
  decide +kernel
theorem cidx_word : ∀ a b : Fin 64, col0 b.val ≤ a.val ∧ a.val < col0 b.val + 16 →
    wrap 31#32 (IntOp.minsi 30#32 (IntOp.maxsi 0#32 (IntOp.addi (IntOp.subi (BitVec.ofNat 32 a.val) (BitVec.ofNat 32 b.val)) 15#32)))
      = BitVec.ofNat 32 (a.val + 15 - b.val) := by
  decide +kernel

open Cert.ReferenceIdeal Cert.ReferenceIdeal.Gen Cert.ReferenceIdeal.Read

theorem row_apply (n : Fin 2048) : val_main_v17 (F := Ideal) (ix1 n) = BitVec.ofNat 32 (n.val / 64) := by
  unfold val_main_v17 val_main_v16
  pointwise
theorem col_apply (n : Fin 2048) : val_main_v19 (F := Ideal) (ix1 n) = BitVec.ofNat 32 (n.val % 64) := by
  unfold val_main_v19 val_main_v18
  pointwise
theorem row0_apply (n : Fin 2048) : val_main_v22 (F := Ideal) (ix1 n) = BitVec.ofNat 32 (row0 (n.val / 64)) := by
  unfold val_main_v22 val_main_call0_v4 val_main_call0_v3 val_main_call0_v2 val_main_call0_v1 val_main_call0_v0 val_main_v21 val_main_v20 val_main_c val_main_c_0 val_main_c_1
  pointwise [row_apply]
  exact row0_word ⟨n.val / 64, by omega⟩
theorem col0_apply (n : Fin 2048) : val_main_v26 (F := Ideal) (ix1 n) = BitVec.ofNat 32 (col0 (n.val % 64)) := by
  unfold val_main_v26 val_main_call1_v4 val_main_call1_v3 val_main_call1_v2 val_main_call1_v1 val_main_call1_v0 val_main_v25 val_main_v24 val_main_c_2 val_main_c_3 val_main_c_4
  pointwise [col_apply]
  exact col0_word ⟨n.val % 64, by omega⟩

theorem near_apply (q j : Fin 2048) : val_main_v50 (F := Ideal) (ix2 q j) = BitVec.ofBool (decide (Near q.val j.val)) := by
  unfold val_main_v50 val_main_v43 val_main_v49 val_main_v38 val_main_v42 val_main_v47 val_main_v48 val_main_v31 val_main_v37 val_main_v40 val_main_v41 val_main_v44 val_main_v46 val_main_v29 val_main_v30 val_main_v35 val_main_v36 val_main_v39 val_main_v45 val_main_v28 val_main_v32 val_main_v34 val_main_v33 val_main_v27 val_main_v23 val_main_c_5 val_main_c_6
  pointwise [row_apply, col_apply, row0_apply, col0_apply]
  have hr : row0 (q.val / 64) ≤ 24 := Nat.min_le_left _ _
  have hc : col0 (q.val % 64) ≤ 48 := Nat.min_le_left _ _
  have h1 := sge_nat (j.val / 64) (row0 (q.val / 64)) (by omega) (by omega)
  have h2 := slt_nat (j.val / 64) (row0 (q.val / 64) + 8) (by omega) (by omega)
  have h3 := sge_nat (j.val % 64) (col0 (q.val % 64)) (by omega) (by omega)
  have h4 := slt_nat (j.val % 64) (col0 (q.val % 64) + 16) (by omega) (by omega)
  rw [show (8#32) = BitVec.ofNat 32 8 from rfl, show (16#32) = BitVec.ofNat 32 16 from rfl, add_word, add_word, h1, h2, h3, h4,
    andi_bool, andi_bool, andi_bool]
  congr 1
  simp only [and_assoc]

/-- The dimension numbers of the gather. -/
abbrev gDims : GatherDims S16x15x31 S2048x2048x2 S16x2048x2048 := gather_S16x15x31_S2048x2048x2_S16x2048x2048_0_12_n_n_12_2_1611

theorem gather_apply (x : (⟨S16x15x31, .f32⟩ : BufTy).Contents (Elt Ideal)) (idx : IVec S2048x2048x2 32) (h : Fin 16) (q j : Fin 2048) (a : Fin 15) (c : Fin 31)
    (ha : idx (ix3 q j (0 : Fin 2)) = BitVec.ofNat 32 a.val) (hc : idx (ix3 q j (1 : Fin 2)) = BitVec.ofNat 32 c.val) :
    Host.gather gDims x idx (ix3 h q j) = x (ix3 h a c) := by
  unfold Host.gather
  refine congrArg x (funext fun ax => Fin.ext ?_)
  match ax with
  | ⟨0, _⟩ =>
    have hb := GatherDims.batchCoord_eq_zero gDims (ix3 h q j) 0 (by decide)
    have hs : gDims.start (ix3 h q j) idx 0 = 0 := by
      unfold GatherDims.start
      rw [dif_neg (by decide)]
    have ho : gDims.offCoord (ix3 h q j) 0 = h.val := by
      unfold GatherDims.offCoord
      rw [dif_pos (by decide)]
      rfl
    show gDims.start (ix3 h q j) idx 0 + gDims.batchCoord (ix3 h q j) 0 + gDims.offCoord (ix3 h q j) 0 = h.val
    rw [hb, ho, hs, Nat.zero_add]
  | ⟨1, _⟩ =>
    have hb := GatherDims.batchCoord_eq_zero gDims (ix3 h q j) 1 (by decide)
    have ho := GatherDims.offCoord_eq_zero gDims (ix3 h q j) 1 (by decide)
    have hs : gDims.start (ix3 h q j) idx 1 = a.val := by
      unfold GatherDims.start
      rw [dif_pos (by decide)]
      have hsi : ∀ P, gDims.siIdx (ix3 h q j) ⟨List.idxOf 1 gDims.startIndexMap, P⟩ = ix3 q j (0 : Fin 2) := by
        intro P
        funext b'
        apply Fin.ext
        match b' with
        | ⟨0, _⟩ => rfl
        | ⟨1, _⟩ => rfl
        | ⟨2, _⟩ => rfl
      rw [hsi, ha, StableHlo.Predicate.toInt_ofNat_small _ (by omega)]
      show min ((a.val : Int)).toNat (15 - 1) = a.val
      omega
    show gDims.start (ix3 h q j) idx 1 + gDims.batchCoord (ix3 h q j) 1 + gDims.offCoord (ix3 h q j) 1 = a.val
    rw [hb, ho, hs, Nat.add_zero]
  | ⟨2, _⟩ =>
    have hb := GatherDims.batchCoord_eq_zero gDims (ix3 h q j) 2 (by decide)
    have ho := GatherDims.offCoord_eq_zero gDims (ix3 h q j) 2 (by decide)
    have hs : gDims.start (ix3 h q j) idx 2 = c.val := by
      unfold GatherDims.start
      rw [dif_pos (by decide)]
      have hsi : ∀ P, gDims.siIdx (ix3 h q j) ⟨List.idxOf 2 gDims.startIndexMap, P⟩ = ix3 q j (1 : Fin 2) := by
        intro P
        funext b'
        apply Fin.ext
        match b' with
        | ⟨0, _⟩ => rfl
        | ⟨1, _⟩ => rfl
        | ⟨2, _⟩ => rfl
      rw [hsi, hc, StableHlo.Predicate.toInt_ofNat_small _ (by omega)]
      show min ((c.val : Int)).toNat (31 - 1) = c.val
      omega
    show gDims.start (ix3 h q j) idx 2 + gDims.batchCoord (ix3 h q j) 2 + gDims.offCoord (ix3 h q j) 2 = c.val
    rw [hb, ho, hs, Nat.add_zero]
/-- Where the window holds, the row of the table is the key's row less the query's, plus seven. -/
theorem ridx_apply (q j : Fin 2048) (H : Near q.val j.val) :
    val_main_v79 (F := Ideal) (ix3 q j (0 : Fin 2)) = BitVec.ofNat 32 (j.val / 64 + 7 - q.val / 64) := by
  have hw := ridx_word ⟨j.val / 64, by omega⟩ ⟨q.val / 64, by omega⟩ H.1
  unfold val_main_v79 val_main_v77 val_main_v71 val_main_v68 val_main_v70 val_main_v69 val_main_v67 val_main_v58 val_main_call2_v4 val_main_call2_v3 val_main_call2_v2 val_main_call2_v1 val_main_call2_v0 val_main_v57 val_main_v56 val_main_v55 val_main_v54 val_main_v53 val_main_v52 val_main_v51 val_main_c_7 val_main_c_8 val_main_c_9 val_main_c_13 val_main_c_14
  pointwise [row_apply]
  exact hw

theorem cidx_apply (q j : Fin 2048) (H : Near q.val j.val) :
    val_main_v79 (F := Ideal) (ix3 q j (1 : Fin 2)) = BitVec.ofNat 32 (j.val % 64 + 15 - q.val % 64) := by
  have hw := cidx_word ⟨j.val % 64, by omega⟩ ⟨q.val % 64, by omega⟩ H.2
  unfold val_main_v79 val_main_v78 val_main_v76 val_main_v73 val_main_v75 val_main_v74 val_main_v72 val_main_v66 val_main_call3_v4 val_main_call3_v3 val_main_call3_v2 val_main_call3_v1 val_main_call3_v0 val_main_v65 val_main_v64 val_main_v63 val_main_v62 val_main_v61 val_main_v60 val_main_v59 val_main_c_10 val_main_c_11 val_main_c_12 val_main_c_15 val_main_c_16
  pointwise [col_apply]
  exact hw

/-- The bias of a key in the window. -/
theorem bias_apply (x2 : (⟨S16x15x31, .f32⟩ : BufTy).Contents (Elt Ideal)) (h : Fin 16) (q j : Fin 2048) (H : Near q.val j.val) :
    val_main_v80 (F := Ideal) x2 (ix3 h q j) = rp x2 h (j.val / 64 + 7 - q.val / 64) (j.val % 64 + 15 - q.val % 64) := by
  have hb : j.val / 64 + 7 - q.val / 64 < 15 ∧ j.val % 64 + 15 - q.val % 64 < 31 := by
    have h1 := H.1; have h2 := H.2; have := q.isLt; have := j.isLt
    unfold row0 at h1; unfold col0 at h2
    omega
  unfold rp
  rw [dif_pos hb]
  exact gather_apply x2 _ h q j ⟨_, hb.1⟩ ⟨_, hb.2⟩ (ridx_apply q j H) (cidx_apply q j H)

end Cert.NA
-- ==== Proof.Soft.lean ====
/- The attention of one query, as extended reals: the kernel's form (a band of keys, the products summed before
   the division) and the textbook form (all keys, the masked ones at minus infinity, the weights divided first)
   are equal. -/
module

public import Idealize.ShloMosaic.PureOps.Ideal

@[expose] public section

noncomputable section

namespace Cert.NA

open Idealize.ShloMosaic

/-- The larger of the two lists' maxima. -/
def top2 {n m : Nat} (s : Fin n → EReal) (c : Fin m → EReal) : EReal :=
  max (Finset.univ.fold max ⊥ s) (Finset.univ.fold max ⊥ c)

/-- The sum of the exponentials less the maximum. -/
def den2 {n m : Nat} (s : Fin n → EReal) (c : Fin m → EReal) (M : EReal) : EReal :=
  (∑ k, Ideal.exp (s k - M)) + ∑ l, Ideal.exp (c l - M)

/-- The kernel's form: products summed, then divided. -/
def att {n m : Nat} (s : Fin n → EReal) (c : Fin m → EReal) (v : Fin n → EReal) (w : Fin m → EReal) : EReal :=
  Ideal.div ((∑ k, Ideal.exp (s k - top2 s c) * v k) + ∑ l, Ideal.exp (c l - top2 s c) * w l) (den2 s c (top2 s c))

/-- The textbook form: each weight divided, then the products summed. -/
def softAtt {n m : Nat} (s : Fin n → EReal) (c : Fin m → EReal) (v : Fin n → EReal) (w : Fin m → EReal) : EReal :=
  (∑ k, Ideal.div (Ideal.exp (s k - top2 s c)) (den2 s c (top2 s c)) * v k)
    + ∑ l, Ideal.div (Ideal.exp (c l - top2 s c)) (den2 s c (top2 s c)) * w l

theorem exp_nonneg (x : EReal) : 0 ≤ Ideal.exp x := by
  induction x with
  | bot => simp
  | top => simp
  | coe r => simp only [Ideal.exp_coe]; exact_mod_cast (Real.exp_pos r).le

theorem exp_pos {x : EReal} (h : x ≠ ⊥) : 0 < Ideal.exp x := by
  induction x with
  | bot => exact absurd rfl h
  | top => simp
  | coe r => simp only [Ideal.exp_coe]; exact_mod_cast Real.exp_pos r

theorem inv_ne_top (x : EReal) : x⁻¹ ≠ ⊤ := by
  induction x with
  | bot => simp
  | top => simp
  | coe r => rw [← EReal.coe_inv]; exact EReal.coe_ne_top _

theorem sum_mul_const {n : Nat} (f : Fin n → EReal) {c : EReal} (h : 0 ≤ c) (h' : c ≠ ⊤) :
    (∑ k, f k) * c = ∑ k, f k * c := by
  classical
  refine Finset.induction_on (Finset.univ : Finset (Fin n)) (by simp) fun a s ha ih => ?_
  rw [Finset.sum_insert ha, Finset.sum_insert ha, EReal.right_distrib_of_nonneg_of_ne_top h h', ih]

theorem fold_eq_sup {n : Nat} (f : Fin n → EReal) : Finset.univ.fold max ⊥ f = Finset.univ.sup f := rfl

theorem bot_sub (x : EReal) : (⊥ : EReal) - x = ⊥ := by
  rw [sub_eq_add_neg, EReal.bot_add]

/-- Dividing each weight or the sum: the same, whatever the values, since the divisor is not zero. -/
theorem att_eq_softAtt {n m : Nat} (s : Fin n → EReal) (c : Fin m → EReal) (v : Fin n → EReal) (w : Fin m → EReal)
    (hD : den2 s c (top2 s c) ≠ 0) : att s c v w = softAtt s c v w := by
  have h0 : 0 ≤ (den2 s c (top2 s c))⁻¹ := by
    refine EReal.inv_nonneg_of_nonneg ?_
    exact add_nonneg (Finset.sum_nonneg fun _ _ => exp_nonneg _) (Finset.sum_nonneg fun _ _ => exp_nonneg _)
  have h1 := inv_ne_top (den2 s c (top2 s c))
  unfold att softAtt Ideal.div
  simp only [if_neg hD]
  rw [EReal.right_distrib_of_nonneg_of_ne_top h0 h1, sum_mul_const _ h0 h1, sum_mul_const _ h0 h1]
  congr 1
  · exact Finset.sum_congr rfl fun k _ => mul_right_comm _ _ _
  · exact Finset.sum_congr rfl fun k _ => mul_right_comm _ _ _

/-- The divisor is not zero where a context score is real and no score is plus infinity. -/
theorem den2_ne_zero {n m : Nat} (s : Fin n → EReal) (c : Fin m → EReal) (hs : ∀ k, s k ≠ ⊤) (hc : ∀ l, c l ≠ ⊤)
    (l0 : Fin m) (hl : c l0 ≠ ⊥) : den2 s c (top2 s c) ≠ 0 := by
  have hM : top2 s c ≠ ⊤ := by
    refine ne_of_lt (max_lt ?_ ?_)
    · rw [fold_eq_sup, Finset.sup_lt_iff bot_lt_top]; exact fun k _ => lt_top_iff_ne_top.2 (hs k)
    · rw [fold_eq_sup, Finset.sup_lt_iff bot_lt_top]; exact fun k _ => lt_top_iff_ne_top.2 (hc k)
  have hx : c l0 - top2 s c ≠ ⊥ := by
    rw [sub_eq_add_neg]
    intro h
    rcases EReal.add_eq_bot_iff.1 h with h | h
    · exact hl h
    · exact hM (EReal.neg_eq_bot_iff.1 h)
  refine ne_of_gt (lt_of_lt_of_le (exp_pos hx) ?_)
  refine le_trans (Finset.single_le_sum (f := fun l => Ideal.exp (c l - top2 s c)) (fun l _ => exp_nonneg _) (Finset.mem_univ l0)) ?_
  exact le_add_of_nonneg_left (Finset.sum_nonneg fun _ _ => exp_nonneg _)

/-- Keys outside the band at minus infinity do not count. -/
theorem softAtt_band {n N m : Nat} (S V : Fin N → EReal) (s v : Fin n → EReal) (c w : Fin m → EReal)
    (e : Fin n → Fin N) (he : Function.Injective e) (hs : ∀ k, s k = S (e k)) (hv : ∀ k, v k = V (e k))
    (hout : ∀ j, (∀ k, e k ≠ j) → S j = ⊥) (hD : den2 s c (top2 s c) ≠ 0) : softAtt s c v w = softAtt S c V w := by
  have hT : top2 s c = top2 S c := by
    unfold top2
    congr 1
    rw [fold_eq_sup, fold_eq_sup]
    refine le_antisymm (Finset.sup_le fun k _ => ?_) (Finset.sup_le fun j _ => ?_)
    · rw [hs k]; exact Finset.le_sup (f := S) (Finset.mem_univ _)
    · by_cases h : ∃ k, e k = j
      · obtain ⟨k, rfl⟩ := h
        rw [← hs k]; exact Finset.le_sup (f := s) (Finset.mem_univ _)
      · rw [hout j fun k hk => h ⟨k, hk⟩]; exact bot_le
  have hDe : den2 s c (top2 s c) = den2 S c (top2 S c) := by
    unfold den2
    rw [hT]
    congr 1
    refine Finset.sum_of_injOn e he.injOn (fun _ _ => Finset.mem_coe.2 (Finset.mem_univ _)) (fun j _ hj => ?_) fun k _ => by rw [hs k]
    rw [hout j fun k hk => hj ⟨k, by simp, hk⟩, bot_sub, Ideal.exp_bot]
  rw [hDe] at hD
  unfold softAtt
  rw [hDe, hT]
  congr 1
  refine Finset.sum_of_injOn e he.injOn (fun _ _ => Finset.mem_coe.2 (Finset.mem_univ _)) (fun j _ hj => ?_) fun k _ => by rw [hs k, hv k]
  rw [hout j fun k hk => hj ⟨k, by simp, hk⟩, bot_sub, Ideal.exp_bot, Ideal.div, if_neg hD, zero_mul, zero_mul]

/-- The kernel's form over the band is the textbook form over all keys. -/
theorem att_band {n N m : Nat} (S V : Fin N → EReal) (s v : Fin n → EReal) (c w : Fin m → EReal)
    (e : Fin n → Fin N) (he : Function.Injective e) (hs : ∀ k, s k = S (e k)) (hv : ∀ k, v k = V (e k))
    (hout : ∀ j, (∀ k, e k ≠ j) → S j = ⊥) (hS : ∀ j, S j ≠ ⊤) (hc : ∀ l, c l ≠ ⊤) (l0 : Fin m) (hl : c l0 ≠ ⊥) :
    att s c v w = softAtt S c V w := by
  have hD := den2_ne_zero s c (fun k => by rw [hs k]; exact hS _) hc l0 hl
  rw [att_eq_softAtt s c v w hD, softAtt_band S V s v c w e he hs hv hout hD]

end Cert.NA

end
-- ==== Proof.Tab.lean ====
/- The pieces a table of biases is laid together from, each read at an index, and the mask over them. -/
module

public import proofs.«01_k».proof.Proof.IdealSsa
public import Idealize.ShloMosaic.Lib.Pointwise
public import proofs.«01_k».proof.Proof.RefMask
public import proofs.«01_k».proof.Proof.Soft

@[expose] public section

set_option maxRecDepth 16384

noncomputable section

namespace Cert.NA

open Idealize.ShloMosaic Idealize.ShloMosaic.TcCoe
open Cert.KernelIdeal Cert.KernelIdeal.Gen Cert.KernelIdeal.Hand

/-- One block of 64 columns by 64 keys: the table's row `k`. -/
def slab (k : Nat) (hs : S16x15x64x64.Slices ![0, k, 0, 0] S16x1x64x64) (u : FVec Ideal S16x15x64x64 .f32) : FVec Ideal S16x64x1x64 .f32 :=
  broadcastInDim S16x64x1x64 ![0, 1, 3] bcast_S16x64x64_S16x64x1x64_0_1_3
    (shapeCast S16x64x64 (extractStridedSlice S16x1x64x64 ![0, k, 0, 0] u hs) shapeCasts_S16x1x64x64_S16x64x64)

theorem slab_apply (k : Nat) (hk : k < 15) (hs) (u : FVec Ideal S16x15x64x64 .f32) (h : Fin 16) (c : Fin 64) (z : Fin 1) (j : Fin 64) :
    slab k hs u (ix4 h c z j) = u (ix4 h ⟨k, hk⟩ c j) := by
  unfold slab
  pointwise

/-- Twelve blocks side by side: the band of one query row. -/
def band12 (u : Fin 12 → FVec Ideal S16x64x1x64 .f32) : FVec Ideal S16x64x12x64 .f32 :=
  concatenate S16x64x12x64 2 (List.ofFn fun n : Fin 12 => (⟨S16x64x1x64, u n⟩ : (s : Shape) × (s.Idx → Elt Ideal .f32))) concatenates_S16x64x1x64_S16x64x1x64_S16x64x1x64_S16x64x1x64_S16x64x1x64_S16x64x1x64_S16x64x1x64_S16x64x1x64_S16x64x1x64_S16x64x1x64_S16x64x1x64_S16x64x1x64_S16x64x12x64_d2

theorem band12_apply (u : Fin 12 → FVec Ideal S16x64x1x64 .f32) (h : Fin 16) (c : Fin 64) (j : Fin 12) (k : Fin 64) :
    band12 u (ix4 h c j k) = u j (ix4 h c 0 k) := by
  unfold band12
  refine concatenate_ofFn_unit_apply (t := S16x64x12x64) (s₁ := S16x64x1x64) 2 u _ rfl rfl (ix4 h c j k) j rfl (ix4 h c 0 k) fun b hb => ?_
  match b with
  | ⟨0, _⟩ => rfl
  | ⟨1, _⟩ => rfl
  | ⟨2, _⟩ => exact absurd rfl hb
  | ⟨3, _⟩ => rfl

/-- The bands of four query rows one after the other, read as 256 queries by 768 keys. -/
def rows4 (u : Fin 4 → FVec Ideal S16x64x12x64 .f32) : FVec Ideal S16x256x768 .f32 :=
  shapeCast S16x256x768 (concatenate S16x4x64x12x64 1
    (List.ofFn fun n : Fin 4 => (⟨S16x1x64x12x64, broadcastInDim S16x1x64x12x64 ![0, 2, 3, 4] bcast_S16x64x12x64_S16x1x64x12x64_0_2_3_4 (u n)⟩ :
      (s : Shape) × (s.Idx → Elt Ideal .f32))) concatenates_S16x1x64x12x64_S16x1x64x12x64_S16x1x64x12x64_S16x1x64x12x64_S16x4x64x12x64_d1) shapeCasts_S16x4x64x12x64_S16x256x768

theorem rows4_apply (u : Fin 4 → FVec Ideal S16x64x12x64 .f32) (h : Fin 16) (a : Fin 4) (c : Fin 64) (j : Fin 12) (k : Fin 64) :
    rows4 u (ix3 h ⟨64 * a.val + c.val, by omega⟩ ⟨64 * j.val + k.val, by omega⟩) = u a (ix4 h c j k) := by
  unfold rows4
  have e : ∀ w : FVec Ideal S16x4x64x12x64 .f32, shapeCast S16x256x768 w shapeCasts_S16x4x64x12x64_S16x256x768
      (ix3 h ⟨64 * a.val + c.val, by omega⟩ ⟨64 * j.val + k.val, by omega⟩) = w (ix5 h a c j k) := by
    intro w
    pointwise
  rw [e]
  refine (concatenate_ofFn_unit_apply (t := S16x4x64x12x64) (s₁ := S16x1x64x12x64) 1 (fun n => broadcastInDim S16x1x64x12x64 ![0, 2, 3, 4] bcast_S16x64x12x64_S16x1x64x12x64_0_2_3_4 (u n)) _ rfl rfl
    (ix5 h a c j k) a rfl (ix5 h 0 c j k) fun b hb => ?_).trans ?_
  · match b with
    | ⟨0, _⟩ => rfl
    | ⟨1, _⟩ => exact absurd rfl hb
    | ⟨2, _⟩ => rfl
    | ⟨3, _⟩ => rfl
    | ⟨4, _⟩ => rfl
  pointwise

/-- The number of the row, counted from the word `s`, of each of the 256 queries. -/
def qRow (s : BitVec 32) : IVec S256 32 :=
  addi (broadcastInDim S256 ![] bcast_S_S256 (constantI S_ 32 s)) (shapeCast S256 (iotaInDim S4x64 32 0) shapeCasts_S4x64_S256)
/-- The column of each query. -/
def qCol : IVec S256 32 := shapeCast S256 (iotaInDim S4x64 32 1) shapeCasts_S4x64_S256
/-- The number of the row, counted from the word `s`, of each of the 768 keys of a band. -/
def kRow (s : BitVec 32) : IVec S768 32 :=
  addi (broadcastInDim S768 ![] bcast_S_S768 (constantI S_ 32 s)) (shapeCast S768 (iotaInDim S12x64 32 0) shapeCasts_S12x64_S768)
/-- The column of each key. -/
def kCol : IVec S768 32 := shapeCast S768 (iotaInDim S12x64 32 1) shapeCasts_S12x64_S768
/-- `u - w` kept between `0` and `hi`. -/
def clip (w hi : BitVec 32) (u : IVec S256 32) : IVec S256 32 :=
  minsi (broadcastInDim S256 ![] bcast_S_S256 (constantI S_ 32 hi)) (maxsi (broadcastInDim S256 ![] bcast_S_S256 (constantI S_ 32 0#32))
    (subi u (broadcastInDim S256 ![] bcast_S_S256 (constantI S_ 32 w))))
/-- Each key against each query: at least `lo`. -/
def atLeast (k : IVec S768 32) (lo : IVec S256 32) : IVec S256x768 1 :=
  cmpi .sge (broadcastInDim S256x768 ![0, 1] bcast_S1x768_S256x768_0_1 (broadcastInDim S1x768 ![1] bcast_S768_S1x768_1 k))
    (broadcastInDim S256x768 ![0, 1] bcast_S256x1_S256x768_0_1 (broadcastInDim S256x1 ![0] bcast_S256_S256x1_0 lo))
/-- Each key against each query: below `lo + n`. -/
def below (n : BitVec 32) (k : IVec S768 32) (lo : IVec S256 32) : IVec S256x768 1 :=
  cmpi .slt (broadcastInDim S256x768 ![0, 1] bcast_S1x768_S256x768_0_1 (broadcastInDim S1x768 ![1] bcast_S768_S1x768_1 k))
    (broadcastInDim S256x768 ![0, 1] bcast_S256x1_S256x768_0_1 (addi (broadcastInDim S256x1 ![0] bcast_S256_S256x1_0 lo)
      (broadcastInDim S256x1 ![] bcast_S_S256x1 (constantI S_ 32 n))))
/-- The mask of a band. -/
def okB (rs st : BitVec 32) : IVec S256x768 1 :=
  andi (andi (andi (atLeast (kRow st) (clip 4#32 24#32 (qRow rs))) (below 8#32 (kRow st) (clip 4#32 24#32 (qRow rs))))
    (atLeast kCol (clip 8#32 48#32 qCol))) (below 16#32 kCol (clip 8#32 48#32 qCol))
/-- The biases where the mask holds, minus infinity elsewhere. -/
def maskedB (m : IVec S256x768 1) (u : FVec Ideal S16x256x768 .f32) : FVec Ideal S16x256x768 .f32 :=
  select (broadcastInDim S16x256x768 ![0, 1, 2] bcast_S1x256x768_S16x256x768_0_1_2 (broadcastInDim S1x256x768 ![1, 2] bcast_S256x768_S1x256x768_1_2 m)) u
    (broadcastInDim S16x256x768 ![] bcast_S_S16x256x768 (constant (F := Ideal) S_ .f32 0xFF800000#32))

theorem qRow_apply (s : Nat) (n : Fin 256) : qRow (BitVec.ofNat 32 s) (ix1 n) = BitVec.ofNat 32 (s + n.val / 64) := by
  unfold qRow
  pointwise
  rw [add_word]
theorem qCol_apply (n : Fin 256) : qCol (ix1 n) = BitVec.ofNat 32 (n.val % 64) := by
  unfold qCol
  pointwise
theorem kRow_apply (s : Nat) (n : Fin 768) : kRow (BitVec.ofNat 32 s) (ix1 n) = BitVec.ofNat 32 (s + n.val / 64) := by
  unfold kRow
  pointwise
  rw [add_word]
theorem kCol_apply (n : Fin 768) : kCol (ix1 n) = BitVec.ofNat 32 (n.val % 64) := by
  unfold kCol
  pointwise
theorem clipRow_apply (s : Nat) (hs : s ≤ 28) (n : Fin 256) :
    clip 4#32 24#32 (qRow (BitVec.ofNat 32 s)) (ix1 n) = BitVec.ofNat 32 (row0 (s + n.val / 64)) := by
  unfold clip
  pointwise [qRow_apply]
  exact row0_word ⟨s + n.val / 64, by omega⟩
theorem clipCol_apply (n : Fin 256) : clip 8#32 48#32 qCol (ix1 n) = BitVec.ofNat 32 (col0 (n.val % 64)) := by
  unfold clip
  pointwise [qCol_apply]
  exact col0_word ⟨n.val % 64, by omega⟩
theorem atLeast_apply (k : IVec S768 32) (lo : IVec S256 32) (q : Fin 256) (j : Fin 768) :
    atLeast k lo (ix2 q j) = IntOp.cmpi .sge (k (ix1 j)) (lo (ix1 q)) := by
  unfold atLeast
  pointwise
theorem below_apply (n : BitVec 32) (k : IVec S768 32) (lo : IVec S256 32) (q : Fin 256) (j : Fin 768) :
    below n k lo (ix2 q j) = IntOp.cmpi .slt (k (ix1 j)) (IntOp.addi (lo (ix1 q)) n) := by
  unfold below
  pointwise

/-- The key `j` of the band from row `st` lies in the window of the query `q` of the rows from `rs`. -/
abbrev NearB (rs st q j : Nat) : Prop :=
  (row0 (rs + q / 64) ≤ st + j / 64 ∧ st + j / 64 < row0 (rs + q / 64) + 8) ∧ (col0 (q % 64) ≤ j % 64 ∧ j % 64 < col0 (q % 64) + 16)

theorem okB_apply (rs st : Nat) (hr : rs ≤ 28) (hs : st ≤ 20) (q : Fin 256) (j : Fin 768) :
    okB (BitVec.ofNat 32 rs) (BitVec.ofNat 32 st) (ix2 q j) = BitVec.ofBool (decide (NearB rs st q.val j.val)) := by
  unfold okB
  pointwise [atLeast_apply, below_apply, clipRow_apply, clipCol_apply, kRow_apply, kCol_apply]
  have hr : row0 (rs + q.val / 64) ≤ 24 := Nat.min_le_left _ _
  have hc : col0 (q.val % 64) ≤ 48 := Nat.min_le_left _ _
  have h1 := sge_nat (st + j.val / 64) (row0 (rs + q.val / 64)) (by omega) (by omega)
  have h2 := slt_nat (st + j.val / 64) (row0 (rs + q.val / 64) + 8) (by omega) (by omega)
  have h3 := sge_nat (j.val % 64) (col0 (q.val % 64)) (by omega) (by omega)
  have h4 := slt_nat (j.val % 64) (col0 (q.val % 64) + 16) (by omega) (by omega)
  rw [clipRow_apply rs (by omega)]
  rw [show (8#32) = BitVec.ofNat 32 8 from rfl, show (16#32) = BitVec.ofNat 32 16 from rfl, add_word, add_word, h1, h2, h3, h4,
    andi_bool, andi_bool, andi_bool]
  congr 1
  simp only [and_assoc]

theorem maskedB_apply (m : IVec S256x768 1) (u : FVec Ideal S16x256x768 .f32) (h : Fin 16) (q : Fin 256) (j : Fin 768) :
    maskedB m u (ix3 h q j) = Scalar.select (m (ix2 q j)) (u (ix3 h q j)) (Ideal.ofBits .f32 0xFF800000#32) := by
  unfold maskedB
  pointwise

end Cert.NA
-- ==== Proof.Toep.lean ====
/- The table of the biases by column difference: after the host operations, row `x`, query column `c`, key column `k` holds the
   padded table's entry at 79 − c + k. -/
module

public import proofs.«01_k».proof.Proof.IdealSsa
public import Idealize.ShloMosaic.Lib.Pointwise

@[expose] public section

set_option maxRecDepth 16384

noncomputable section

namespace Cert.NA

open Idealize.ShloMosaic Idealize.ShloMosaic.TcCoe
open Cert.KernelIdeal Cert.KernelIdeal.Gen Cert.KernelIdeal.Hand

/-- The padded table. -/
def padB (Y : Valuation τ sig (Elt Ideal)) : FVec Ideal S16x15x159 .f32 := Y (Proc.devRef .tc main_v0)
/-- The table by column difference. -/
def toepB (Y : Valuation τ sig (Elt Ideal)) : FVec Ideal S16x15x64x64 .f32 := Y (Proc.devRef .tc main_v133)

/-- One query column of the table, from the padded table. -/
def colB (n : Nat) (hs : S16x15x159.Slices ![0, 0, n] S16x15x64) (u : FVec Ideal S16x15x159 .f32) : FVec Ideal S16x15x1x64 .f32 :=
  broadcastInDim S16x15x1x64 ![0, 1, 3] bcast_S16x15x64_S16x15x1x64_0_1_3 (extractStridedSlice S16x15x64 ![0, 0, n] u hs)

theorem colB_apply (n : Nat) (hn : n ≤ 95) (hs) (u : FVec Ideal S16x15x159 .f32) (h : Fin 16) (x : Fin 15) (z : Fin 1) (k : Fin 64) :
    colB n hs u (ix4 h x z k) = u (ix3 h x ⟨n + k.val, by omega⟩) := by
  unfold colB
  pointwise

/-- Sixteen columns side by side. -/
def cols16 (u : Fin 16 → FVec Ideal S16x15x1x64 .f32) : FVec Ideal S16x15x16x64 .f32 :=
  concatenate S16x15x16x64 2 (List.ofFn fun n : Fin 16 => (⟨S16x15x1x64, u n⟩ : (s : Shape) × (s.Idx → Elt Ideal .f32))) concatenates_S16x15x1x64_S16x15x1x64_S16x15x1x64_S16x15x1x64_S16x15x1x64_S16x15x1x64_S16x15x1x64_S16x15x1x64_S16x15x1x64_S16x15x1x64_S16x15x1x64_S16x15x1x64_S16x15x1x64_S16x15x1x64_S16x15x1x64_S16x15x1x64_S16x15x16x64_d2

theorem cols16_apply (u : Fin 16 → FVec Ideal S16x15x1x64 .f32) (h : Fin 16) (x : Fin 15) (j : Fin 16) (k : Fin 64) :
    cols16 u (ix4 h x j k) = u j (ix4 h x 0 k) := by
  unfold cols16
  refine concatenate_ofFn_unit_apply (t := S16x15x16x64) (s₁ := S16x15x1x64) 2 u _ rfl rfl (ix4 h x j k) j rfl (ix4 h x 0 k) fun b hb => ?_
  match b with
  | ⟨0, _⟩ => rfl
  | ⟨1, _⟩ => rfl
  | ⟨2, _⟩ => exact absurd rfl hb
  | ⟨3, _⟩ => rfl

/-- The four sixteens side by side. -/
def cols64 (u : Fin 4 → FVec Ideal S16x15x16x64 .f32) : FVec Ideal S16x15x64x64 .f32 :=
  concatenate S16x15x64x64 2 (List.ofFn fun n : Fin 4 => (⟨S16x15x16x64, u n⟩ : (s : Shape) × (s.Idx → Elt Ideal .f32))) concatenates_S16x15x16x64_S16x15x16x64_S16x15x16x64_S16x15x16x64_S16x15x64x64_d2

theorem cols64_apply (u : Fin 4 → FVec Ideal S16x15x16x64 .f32) (h : Fin 16) (x : Fin 15) (i : Fin 4) (j : Fin 16) (k : Fin 64) :
    cols64 u (ix4 h x ⟨16 * i.val + j.val, by omega⟩ k) = u i (ix4 h x j k) := by
  unfold cols64
  refine concatenate_ofFn_apply (t := S16x15x64x64) (s₁ := S16x15x16x64) 2 u _ rfl 16 rfl _ i ?_ (ix4 h x j k) ?_ fun b hb => ?_
  · show (16 * i.val + j.val) / 16 = i.val
    omega
  · show j.val = (16 * i.val + j.val) % 16
    omega
  match b with
  | ⟨0, _⟩ => rfl
  | ⟨1, _⟩ => rfl
  | ⟨2, _⟩ => exact absurd rfl hb
  | ⟨3, _⟩ => rfl

theorem cols_0 {Y : Valuation τ sig (Elt Ideal)} (hY : Good Y) (h : Fin 16) (x : Fin 15) (j : Fin 16) (k : Fin 64) :
    (Y (Proc.devRef .tc main_v129) : FVec Ideal S16x15x16x64 .f32) (ix4 h x j k) = padB Y (ix3 h x ⟨79 - (16 * 0 + j.val) + k.val, by omega⟩) := by
  have e : (Y (Proc.devRef .tc main_v129) : FVec Ideal S16x15x16x64 .f32) = cols16 ![colB 79 slices_S16x15x159_S16x15x64_0_0_79 (padB Y), colB 78 slices_S16x15x159_S16x15x64_0_0_78 (padB Y), colB 77 slices_S16x15x159_S16x15x64_0_0_77 (padB Y), colB 76 slices_S16x15x159_S16x15x64_0_0_76 (padB Y), colB 75 slices_S16x15x159_S16x15x64_0_0_75 (padB Y), colB 74 slices_S16x15x159_S16x15x64_0_0_74 (padB Y), colB 73 slices_S16x15x159_S16x15x64_0_0_73 (padB Y), colB 72 slices_S16x15x159_S16x15x64_0_0_72 (padB Y), colB 71 slices_S16x15x159_S16x15x64_0_0_71 (padB Y), colB 70 slices_S16x15x159_S16x15x64_0_0_70 (padB Y), colB 69 slices_S16x15x159_S16x15x64_0_0_69 (padB Y), colB 68 slices_S16x15x159_S16x15x64_0_0_68 (padB Y), colB 67 slices_S16x15x159_S16x15x64_0_0_67 (padB Y), colB 66 slices_S16x15x159_S16x15x64_0_0_66 (padB Y), colB 65 slices_S16x15x159_S16x15x64_0_0_65 (padB Y), colB 64 slices_S16x15x159_S16x15x64_0_0_64 (padB Y)] := by
    refine ((fix_of_mem hY.g0_2 128 rfl).nary (by decide)).trans ?_
    show cols16 ![Y (Proc.devRef .tc main_v65), Y (Proc.devRef .tc main_v66), Y (Proc.devRef .tc main_v67), Y (Proc.devRef .tc main_v68), Y (Proc.devRef .tc main_v69), Y (Proc.devRef .tc main_v70), Y (Proc.devRef .tc main_v71), Y (Proc.devRef .tc main_v72), Y (Proc.devRef .tc main_v73), Y (Proc.devRef .tc main_v74), Y (Proc.devRef .tc main_v75), Y (Proc.devRef .tc main_v76), Y (Proc.devRef .tc main_v77), Y (Proc.devRef .tc main_v78), Y (Proc.devRef .tc main_v79), Y (Proc.devRef .tc main_v80)] = _
    rw [(fix_of_mem hY.g0_2 64 rfl).unary (by decide),
      (fix_of_mem hY.g0_2 0 rfl).unary (by decide),
      (fix_of_mem hY.g0_2 65 rfl).unary (by decide),
      (fix_of_mem hY.g0_2 1 rfl).unary (by decide),
      (fix_of_mem hY.g0_2 66 rfl).unary (by decide),
      (fix_of_mem hY.g0_2 2 rfl).unary (by decide),
      (fix_of_mem hY.g0_2 67 rfl).unary (by decide),
      (fix_of_mem hY.g0_2 3 rfl).unary (by decide),
      (fix_of_mem hY.g0_2 68 rfl).unary (by decide),
      (fix_of_mem hY.g0_2 4 rfl).unary (by decide),
      (fix_of_mem hY.g0_2 69 rfl).unary (by decide),
      (fix_of_mem hY.g0_2 5 rfl).unary (by decide),
      (fix_of_mem hY.g0_2 70 rfl).unary (by decide),
      (fix_of_mem hY.g0_2 6 rfl).unary (by decide),
      (fix_of_mem hY.g0_2 71 rfl).unary (by decide),
      (fix_of_mem hY.g0_2 7 rfl).unary (by decide),
      (fix_of_mem hY.g0_2 72 rfl).unary (by decide),
      (fix_of_mem hY.g0_2 8 rfl).unary (by decide),
      (fix_of_mem hY.g0_2 73 rfl).unary (by decide),
      (fix_of_mem hY.g0_2 9 rfl).unary (by decide),
      (fix_of_mem hY.g0_2 74 rfl).unary (by decide),
      (fix_of_mem hY.g0_2 10 rfl).unary (by decide),
      (fix_of_mem hY.g0_2 75 rfl).unary (by decide),
      (fix_of_mem hY.g0_2 11 rfl).unary (by decide),
      (fix_of_mem hY.g0_2 76 rfl).unary (by decide),
      (fix_of_mem hY.g0_2 12 rfl).unary (by decide),
      (fix_of_mem hY.g0_2 77 rfl).unary (by decide),
      (fix_of_mem hY.g0_2 13 rfl).unary (by decide),
      (fix_of_mem hY.g0_2 78 rfl).unary (by decide),
      (fix_of_mem hY.g0_2 14 rfl).unary (by decide),
      (fix_of_mem hY.g0_2 79 rfl).unary (by decide),
      (fix_of_mem hY.g0_2 15 rfl).unary (by decide)]
    rfl
  rw [e, cols16_apply]
  match j with
  | ⟨0, _⟩ => exact colB_apply 79 (by decide) slices_S16x15x159_S16x15x64_0_0_79 _ h x 0 k
  | ⟨1, _⟩ => exact colB_apply 78 (by decide) slices_S16x15x159_S16x15x64_0_0_78 _ h x 0 k
  | ⟨2, _⟩ => exact colB_apply 77 (by decide) slices_S16x15x159_S16x15x64_0_0_77 _ h x 0 k
  | ⟨3, _⟩ => exact colB_apply 76 (by decide) slices_S16x15x159_S16x15x64_0_0_76 _ h x 0 k
  | ⟨4, _⟩ => exact colB_apply 75 (by decide) slices_S16x15x159_S16x15x64_0_0_75 _ h x 0 k
  | ⟨5, _⟩ => exact colB_apply 74 (by decide) slices_S16x15x159_S16x15x64_0_0_74 _ h x 0 k
  | ⟨6, _⟩ => exact colB_apply 73 (by decide) slices_S16x15x159_S16x15x64_0_0_73 _ h x 0 k
  | ⟨7, _⟩ => exact colB_apply 72 (by decide) slices_S16x15x159_S16x15x64_0_0_72 _ h x 0 k
  | ⟨8, _⟩ => exact colB_apply 71 (by decide) slices_S16x15x159_S16x15x64_0_0_71 _ h x 0 k
  | ⟨9, _⟩ => exact colB_apply 70 (by decide) slices_S16x15x159_S16x15x64_0_0_70 _ h x 0 k
  | ⟨10, _⟩ => exact colB_apply 69 (by decide) slices_S16x15x159_S16x15x64_0_0_69 _ h x 0 k
  | ⟨11, _⟩ => exact colB_apply 68 (by decide) slices_S16x15x159_S16x15x64_0_0_68 _ h x 0 k
  | ⟨12, _⟩ => exact colB_apply 67 (by decide) slices_S16x15x159_S16x15x64_0_0_67 _ h x 0 k
  | ⟨13, _⟩ => exact colB_apply 66 (by decide) slices_S16x15x159_S16x15x64_0_0_66 _ h x 0 k
  | ⟨14, _⟩ => exact colB_apply 65 (by decide) slices_S16x15x159_S16x15x64_0_0_65 _ h x 0 k
  | ⟨15, _⟩ => exact colB_apply 64 (by decide) slices_S16x15x159_S16x15x64_0_0_64 _ h x 0 k
  | ⟨n + 16, hn⟩ => exact absurd hn (by omega)

theorem cols_1 {Y : Valuation τ sig (Elt Ideal)} (hY : Good Y) (h : Fin 16) (x : Fin 15) (j : Fin 16) (k : Fin 64) :
    (Y (Proc.devRef .tc main_v130) : FVec Ideal S16x15x16x64 .f32) (ix4 h x j k) = padB Y (ix3 h x ⟨79 - (16 * 1 + j.val) + k.val, by omega⟩) := by
  have e : (Y (Proc.devRef .tc main_v130) : FVec Ideal S16x15x16x64 .f32) = cols16 ![colB 63 slices_S16x15x159_S16x15x64_0_0_63 (padB Y), colB 62 slices_S16x15x159_S16x15x64_0_0_62 (padB Y), colB 61 slices_S16x15x159_S16x15x64_0_0_61 (padB Y), colB 60 slices_S16x15x159_S16x15x64_0_0_60 (padB Y), colB 59 slices_S16x15x159_S16x15x64_0_0_59 (padB Y), colB 58 slices_S16x15x159_S16x15x64_0_0_58 (padB Y), colB 57 slices_S16x15x159_S16x15x64_0_0_57 (padB Y), colB 56 slices_S16x15x159_S16x15x64_0_0_56 (padB Y), colB 55 slices_S16x15x159_S16x15x64_0_0_55 (padB Y), colB 54 slices_S16x15x159_S16x15x64_0_0_54 (padB Y), colB 53 slices_S16x15x159_S16x15x64_0_0_53 (padB Y), colB 52 slices_S16x15x159_S16x15x64_0_0_52 (padB Y), colB 51 slices_S16x15x159_S16x15x64_0_0_51 (padB Y), colB 50 slices_S16x15x159_S16x15x64_0_0_50 (padB Y), colB 49 slices_S16x15x159_S16x15x64_0_0_49 (padB Y), colB 48 slices_S16x15x159_S16x15x64_0_0_48 (padB Y)] := by
    refine ((fix_of_mem hY.g0_2 129 rfl).nary (by decide)).trans ?_
    show cols16 ![Y (Proc.devRef .tc main_v81), Y (Proc.devRef .tc main_v82), Y (Proc.devRef .tc main_v83), Y (Proc.devRef .tc main_v84), Y (Proc.devRef .tc main_v85), Y (Proc.devRef .tc main_v86), Y (Proc.devRef .tc main_v87), Y (Proc.devRef .tc main_v88), Y (Proc.devRef .tc main_v89), Y (Proc.devRef .tc main_v90), Y (Proc.devRef .tc main_v91), Y (Proc.devRef .tc main_v92), Y (Proc.devRef .tc main_v93), Y (Proc.devRef .tc main_v94), Y (Proc.devRef .tc main_v95), Y (Proc.devRef .tc main_v96)] = _
    rw [(fix_of_mem hY.g0_2 80 rfl).unary (by decide),
      (fix_of_mem hY.g0_2 16 rfl).unary (by decide),
      (fix_of_mem hY.g0_2 81 rfl).unary (by decide),
      (fix_of_mem hY.g0_2 17 rfl).unary (by decide),
      (fix_of_mem hY.g0_2 82 rfl).unary (by decide),
      (fix_of_mem hY.g0_2 18 rfl).unary (by decide),
      (fix_of_mem hY.g0_2 83 rfl).unary (by decide),
      (fix_of_mem hY.g0_2 19 rfl).unary (by decide),
      (fix_of_mem hY.g0_2 84 rfl).unary (by decide),
      (fix_of_mem hY.g0_2 20 rfl).unary (by decide),
      (fix_of_mem hY.g0_2 85 rfl).unary (by decide),
      (fix_of_mem hY.g0_2 21 rfl).unary (by decide),
      (fix_of_mem hY.g0_2 86 rfl).unary (by decide),
      (fix_of_mem hY.g0_2 22 rfl).unary (by decide),
      (fix_of_mem hY.g0_2 87 rfl).unary (by decide),
      (fix_of_mem hY.g0_2 23 rfl).unary (by decide),
      (fix_of_mem hY.g0_2 88 rfl).unary (by decide),
      (fix_of_mem hY.g0_2 24 rfl).unary (by decide),
      (fix_of_mem hY.g0_2 89 rfl).unary (by decide),
      (fix_of_mem hY.g0_2 25 rfl).unary (by decide),
      (fix_of_mem hY.g0_2 90 rfl).unary (by decide),
      (fix_of_mem hY.g0_2 26 rfl).unary (by decide),
      (fix_of_mem hY.g0_2 91 rfl).unary (by decide),
      (fix_of_mem hY.g0_2 27 rfl).unary (by decide),
      (fix_of_mem hY.g0_2 92 rfl).unary (by decide),
      (fix_of_mem hY.g0_2 28 rfl).unary (by decide),
      (fix_of_mem hY.g0_2 93 rfl).unary (by decide),
      (fix_of_mem hY.g0_2 29 rfl).unary (by decide),
      (fix_of_mem hY.g0_2 94 rfl).unary (by decide),
      (fix_of_mem hY.g0_2 30 rfl).unary (by decide),
      (fix_of_mem hY.g0_2 95 rfl).unary (by decide),
      (fix_of_mem hY.g0_2 31 rfl).unary (by decide)]
    rfl
  rw [e, cols16_apply]
  match j with
  | ⟨0, _⟩ => exact colB_apply 63 (by decide) slices_S16x15x159_S16x15x64_0_0_63 _ h x 0 k
  | ⟨1, _⟩ => exact colB_apply 62 (by decide) slices_S16x15x159_S16x15x64_0_0_62 _ h x 0 k
  | ⟨2, _⟩ => exact colB_apply 61 (by decide) slices_S16x15x159_S16x15x64_0_0_61 _ h x 0 k
  | ⟨3, _⟩ => exact colB_apply 60 (by decide) slices_S16x15x159_S16x15x64_0_0_60 _ h x 0 k
  | ⟨4, _⟩ => exact colB_apply 59 (by decide) slices_S16x15x159_S16x15x64_0_0_59 _ h x 0 k
  | ⟨5, _⟩ => exact colB_apply 58 (by decide) slices_S16x15x159_S16x15x64_0_0_58 _ h x 0 k
  | ⟨6, _⟩ => exact colB_apply 57 (by decide) slices_S16x15x159_S16x15x64_0_0_57 _ h x 0 k
  | ⟨7, _⟩ => exact colB_apply 56 (by decide) slices_S16x15x159_S16x15x64_0_0_56 _ h x 0 k
  | ⟨8, _⟩ => exact colB_apply 55 (by decide) slices_S16x15x159_S16x15x64_0_0_55 _ h x 0 k
  | ⟨9, _⟩ => exact colB_apply 54 (by decide) slices_S16x15x159_S16x15x64_0_0_54 _ h x 0 k
  | ⟨10, _⟩ => exact colB_apply 53 (by decide) slices_S16x15x159_S16x15x64_0_0_53 _ h x 0 k
  | ⟨11, _⟩ => exact colB_apply 52 (by decide) slices_S16x15x159_S16x15x64_0_0_52 _ h x 0 k
  | ⟨12, _⟩ => exact colB_apply 51 (by decide) slices_S16x15x159_S16x15x64_0_0_51 _ h x 0 k
  | ⟨13, _⟩ => exact colB_apply 50 (by decide) slices_S16x15x159_S16x15x64_0_0_50 _ h x 0 k
  | ⟨14, _⟩ => exact colB_apply 49 (by decide) slices_S16x15x159_S16x15x64_0_0_49 _ h x 0 k
  | ⟨15, _⟩ => exact colB_apply 48 (by decide) slices_S16x15x159_S16x15x64_0_0_48 _ h x 0 k
  | ⟨n + 16, hn⟩ => exact absurd hn (by omega)

theorem cols_2 {Y : Valuation τ sig (Elt Ideal)} (hY : Good Y) (h : Fin 16) (x : Fin 15) (j : Fin 16) (k : Fin 64) :
    (Y (Proc.devRef .tc main_v131) : FVec Ideal S16x15x16x64 .f32) (ix4 h x j k) = padB Y (ix3 h x ⟨79 - (16 * 2 + j.val) + k.val, by omega⟩) := by
  have e : (Y (Proc.devRef .tc main_v131) : FVec Ideal S16x15x16x64 .f32) = cols16 ![colB 47 slices_S16x15x159_S16x15x64_0_0_47 (padB Y), colB 46 slices_S16x15x159_S16x15x64_0_0_46 (padB Y), colB 45 slices_S16x15x159_S16x15x64_0_0_45 (padB Y), colB 44 slices_S16x15x159_S16x15x64_0_0_44 (padB Y), colB 43 slices_S16x15x159_S16x15x64_0_0_43 (padB Y), colB 42 slices_S16x15x159_S16x15x64_0_0_42 (padB Y), colB 41 slices_S16x15x159_S16x15x64_0_0_41 (padB Y), colB 40 slices_S16x15x159_S16x15x64_0_0_40 (padB Y), colB 39 slices_S16x15x159_S16x15x64_0_0_39 (padB Y), colB 38 slices_S16x15x159_S16x15x64_0_0_38 (padB Y), colB 37 slices_S16x15x159_S16x15x64_0_0_37 (padB Y), colB 36 slices_S16x15x159_S16x15x64_0_0_36 (padB Y), colB 35 slices_S16x15x159_S16x15x64_0_0_35 (padB Y), colB 34 slices_S16x15x159_S16x15x64_0_0_34 (padB Y), colB 33 slices_S16x15x159_S16x15x64_0_0_33 (padB Y), colB 32 slices_S16x15x159_S16x15x64_0_0_32 (padB Y)] := by
    refine ((fix_of_mem hY.g0_2 130 rfl).nary (by decide)).trans ?_
    show cols16 ![Y (Proc.devRef .tc main_v97), Y (Proc.devRef .tc main_v98), Y (Proc.devRef .tc main_v99), Y (Proc.devRef .tc main_v100), Y (Proc.devRef .tc main_v101), Y (Proc.devRef .tc main_v102), Y (Proc.devRef .tc main_v103), Y (Proc.devRef .tc main_v104), Y (Proc.devRef .tc main_v105), Y (Proc.devRef .tc main_v106), Y (Proc.devRef .tc main_v107), Y (Proc.devRef .tc main_v108), Y (Proc.devRef .tc main_v109), Y (Proc.devRef .tc main_v110), Y (Proc.devRef .tc main_v111), Y (Proc.devRef .tc main_v112)] = _
    rw [(fix_of_mem hY.g0_2 96 rfl).unary (by decide),
      (fix_of_mem hY.g0_2 32 rfl).unary (by decide),
      (fix_of_mem hY.g0_2 97 rfl).unary (by decide),
      (fix_of_mem hY.g0_2 33 rfl).unary (by decide),
      (fix_of_mem hY.g0_2 98 rfl).unary (by decide),
      (fix_of_mem hY.g0_2 34 rfl).unary (by decide),
      (fix_of_mem hY.g0_2 99 rfl).unary (by decide),
      (fix_of_mem hY.g0_2 35 rfl).unary (by decide),
      (fix_of_mem hY.g0_2 100 rfl).unary (by decide),
      (fix_of_mem hY.g0_2 36 rfl).unary (by decide),
      (fix_of_mem hY.g0_2 101 rfl).unary (by decide),
      (fix_of_mem hY.g0_2 37 rfl).unary (by decide),
      (fix_of_mem hY.g0_2 102 rfl).unary (by decide),
      (fix_of_mem hY.g0_2 38 rfl).unary (by decide),
      (fix_of_mem hY.g0_2 103 rfl).unary (by decide),
      (fix_of_mem hY.g0_2 39 rfl).unary (by decide),
      (fix_of_mem hY.g0_2 104 rfl).unary (by decide),
      (fix_of_mem hY.g0_2 40 rfl).unary (by decide),
      (fix_of_mem hY.g0_2 105 rfl).unary (by decide),
      (fix_of_mem hY.g0_2 41 rfl).unary (by decide),
      (fix_of_mem hY.g0_2 106 rfl).unary (by decide),
      (fix_of_mem hY.g0_2 42 rfl).unary (by decide),
      (fix_of_mem hY.g0_2 107 rfl).unary (by decide),
      (fix_of_mem hY.g0_2 43 rfl).unary (by decide),
      (fix_of_mem hY.g0_2 108 rfl).unary (by decide),
      (fix_of_mem hY.g0_2 44 rfl).unary (by decide),
      (fix_of_mem hY.g0_2 109 rfl).unary (by decide),
      (fix_of_mem hY.g0_2 45 rfl).unary (by decide),
      (fix_of_mem hY.g0_2 110 rfl).unary (by decide),
      (fix_of_mem hY.g0_2 46 rfl).unary (by decide),
      (fix_of_mem hY.g0_2 111 rfl).unary (by decide),
      (fix_of_mem hY.g0_2 47 rfl).unary (by decide)]
    rfl
  rw [e, cols16_apply]
  match j with
  | ⟨0, _⟩ => exact colB_apply 47 (by decide) slices_S16x15x159_S16x15x64_0_0_47 _ h x 0 k
  | ⟨1, _⟩ => exact colB_apply 46 (by decide) slices_S16x15x159_S16x15x64_0_0_46 _ h x 0 k
  | ⟨2, _⟩ => exact colB_apply 45 (by decide) slices_S16x15x159_S16x15x64_0_0_45 _ h x 0 k
  | ⟨3, _⟩ => exact colB_apply 44 (by decide) slices_S16x15x159_S16x15x64_0_0_44 _ h x 0 k
  | ⟨4, _⟩ => exact colB_apply 43 (by decide) slices_S16x15x159_S16x15x64_0_0_43 _ h x 0 k
  | ⟨5, _⟩ => exact colB_apply 42 (by decide) slices_S16x15x159_S16x15x64_0_0_42 _ h x 0 k
  | ⟨6, _⟩ => exact colB_apply 41 (by decide) slices_S16x15x159_S16x15x64_0_0_41 _ h x 0 k
  | ⟨7, _⟩ => exact colB_apply 40 (by decide) slices_S16x15x159_S16x15x64_0_0_40 _ h x 0 k
  | ⟨8, _⟩ => exact colB_apply 39 (by decide) slices_S16x15x159_S16x15x64_0_0_39 _ h x 0 k
  | ⟨9, _⟩ => exact colB_apply 38 (by decide) slices_S16x15x159_S16x15x64_0_0_38 _ h x 0 k
  | ⟨10, _⟩ => exact colB_apply 37 (by decide) slices_S16x15x159_S16x15x64_0_0_37 _ h x 0 k
  | ⟨11, _⟩ => exact colB_apply 36 (by decide) slices_S16x15x159_S16x15x64_0_0_36 _ h x 0 k
  | ⟨12, _⟩ => exact colB_apply 35 (by decide) slices_S16x15x159_S16x15x64_0_0_35 _ h x 0 k
  | ⟨13, _⟩ => exact colB_apply 34 (by decide) slices_S16x15x159_S16x15x64_0_0_34 _ h x 0 k
  | ⟨14, _⟩ => exact colB_apply 33 (by decide) slices_S16x15x159_S16x15x64_0_0_33 _ h x 0 k
  | ⟨15, _⟩ => exact colB_apply 32 (by decide) slices_S16x15x159_S16x15x64_0_0_32 _ h x 0 k
  | ⟨n + 16, hn⟩ => exact absurd hn (by omega)

theorem cols_3 {Y : Valuation τ sig (Elt Ideal)} (hY : Good Y) (h : Fin 16) (x : Fin 15) (j : Fin 16) (k : Fin 64) :
    (Y (Proc.devRef .tc main_v132) : FVec Ideal S16x15x16x64 .f32) (ix4 h x j k) = padB Y (ix3 h x ⟨79 - (16 * 3 + j.val) + k.val, by omega⟩) := by
  have e : (Y (Proc.devRef .tc main_v132) : FVec Ideal S16x15x16x64 .f32) = cols16 ![colB 31 slices_S16x15x159_S16x15x64_0_0_31 (padB Y), colB 30 slices_S16x15x159_S16x15x64_0_0_30 (padB Y), colB 29 slices_S16x15x159_S16x15x64_0_0_29 (padB Y), colB 28 slices_S16x15x159_S16x15x64_0_0_28 (padB Y), colB 27 slices_S16x15x159_S16x15x64_0_0_27 (padB Y), colB 26 slices_S16x15x159_S16x15x64_0_0_26 (padB Y), colB 25 slices_S16x15x159_S16x15x64_0_0_25 (padB Y), colB 24 slices_S16x15x159_S16x15x64_0_0_24 (padB Y), colB 23 slices_S16x15x159_S16x15x64_0_0_23 (padB Y), colB 22 slices_S16x15x159_S16x15x64_0_0_22 (padB Y), colB 21 slices_S16x15x159_S16x15x64_0_0_21 (padB Y), colB 20 slices_S16x15x159_S16x15x64_0_0_20 (padB Y), colB 19 slices_S16x15x159_S16x15x64_0_0_19 (padB Y), colB 18 slices_S16x15x159_S16x15x64_0_0_18 (padB Y), colB 17 slices_S16x15x159_S16x15x64_0_0_17 (padB Y), colB 16 slices_S16x15x159_S16x15x64_0_0_16 (padB Y)] := by
    refine ((fix_of_mem hY.g0_2 131 rfl).nary (by decide)).trans ?_
    show cols16 ![Y (Proc.devRef .tc main_v113), Y (Proc.devRef .tc main_v114), Y (Proc.devRef .tc main_v115), Y (Proc.devRef .tc main_v116), Y (Proc.devRef .tc main_v117), Y (Proc.devRef .tc main_v118), Y (Proc.devRef .tc main_v119), Y (Proc.devRef .tc main_v120), Y (Proc.devRef .tc main_v121), Y (Proc.devRef .tc main_v122), Y (Proc.devRef .tc main_v123), Y (Proc.devRef .tc main_v124), Y (Proc.devRef .tc main_v125), Y (Proc.devRef .tc main_v126), Y (Proc.devRef .tc main_v127), Y (Proc.devRef .tc main_v128)] = _
    rw [(fix_of_mem hY.g0_2 112 rfl).unary (by decide),
      (fix_of_mem hY.g0_2 48 rfl).unary (by decide),
      (fix_of_mem hY.g0_2 113 rfl).unary (by decide),
      (fix_of_mem hY.g0_2 49 rfl).unary (by decide),
      (fix_of_mem hY.g0_2 114 rfl).unary (by decide),
      (fix_of_mem hY.g0_2 50 rfl).unary (by decide),
      (fix_of_mem hY.g0_2 115 rfl).unary (by decide),
      (fix_of_mem hY.g0_2 51 rfl).unary (by decide),
      (fix_of_mem hY.g0_2 116 rfl).unary (by decide),
      (fix_of_mem hY.g0_2 52 rfl).unary (by decide),
      (fix_of_mem hY.g0_2 117 rfl).unary (by decide),
      (fix_of_mem hY.g0_2 53 rfl).unary (by decide),
      (fix_of_mem hY.g0_2 118 rfl).unary (by decide),
      (fix_of_mem hY.g0_2 54 rfl).unary (by decide),
      (fix_of_mem hY.g0_2 119 rfl).unary (by decide),
      (fix_of_mem hY.g0_2 55 rfl).unary (by decide),
      (fix_of_mem hY.g0_2 120 rfl).unary (by decide),
      (fix_of_mem hY.g0_2 56 rfl).unary (by decide),
      (fix_of_mem hY.g0_2 121 rfl).unary (by decide),
      (fix_of_mem hY.g0_2 57 rfl).unary (by decide),
      (fix_of_mem hY.g0_2 122 rfl).unary (by decide),
      (fix_of_mem hY.g0_2 58 rfl).unary (by decide),
      (fix_of_mem hY.g0_2 123 rfl).unary (by decide),
      (fix_of_mem hY.g0_2 59 rfl).unary (by decide),
      (fix_of_mem hY.g0_2 124 rfl).unary (by decide),
      (fix_of_mem hY.g0_2 60 rfl).unary (by decide),
      (fix_of_mem hY.g0_2 125 rfl).unary (by decide),
      (fix_of_mem hY.g0_2 61 rfl).unary (by decide),
      (fix_of_mem hY.g0_2 126 rfl).unary (by decide),
      (fix_of_mem hY.g0_2 62 rfl).unary (by decide),
      (fix_of_mem hY.g0_2 127 rfl).unary (by decide),
      (fix_of_mem hY.g0_2 63 rfl).unary (by decide)]
    rfl
  rw [e, cols16_apply]
  match j with
  | ⟨0, _⟩ => exact colB_apply 31 (by decide) slices_S16x15x159_S16x15x64_0_0_31 _ h x 0 k
  | ⟨1, _⟩ => exact colB_apply 30 (by decide) slices_S16x15x159_S16x15x64_0_0_30 _ h x 0 k
  | ⟨2, _⟩ => exact colB_apply 29 (by decide) slices_S16x15x159_S16x15x64_0_0_29 _ h x 0 k
  | ⟨3, _⟩ => exact colB_apply 28 (by decide) slices_S16x15x159_S16x15x64_0_0_28 _ h x 0 k
  | ⟨4, _⟩ => exact colB_apply 27 (by decide) slices_S16x15x159_S16x15x64_0_0_27 _ h x 0 k
  | ⟨5, _⟩ => exact colB_apply 26 (by decide) slices_S16x15x159_S16x15x64_0_0_26 _ h x 0 k
  | ⟨6, _⟩ => exact colB_apply 25 (by decide) slices_S16x15x159_S16x15x64_0_0_25 _ h x 0 k
  | ⟨7, _⟩ => exact colB_apply 24 (by decide) slices_S16x15x159_S16x15x64_0_0_24 _ h x 0 k
  | ⟨8, _⟩ => exact colB_apply 23 (by decide) slices_S16x15x159_S16x15x64_0_0_23 _ h x 0 k
  | ⟨9, _⟩ => exact colB_apply 22 (by decide) slices_S16x15x159_S16x15x64_0_0_22 _ h x 0 k
  | ⟨10, _⟩ => exact colB_apply 21 (by decide) slices_S16x15x159_S16x15x64_0_0_21 _ h x 0 k
  | ⟨11, _⟩ => exact colB_apply 20 (by decide) slices_S16x15x159_S16x15x64_0_0_20 _ h x 0 k
  | ⟨12, _⟩ => exact colB_apply 19 (by decide) slices_S16x15x159_S16x15x64_0_0_19 _ h x 0 k
  | ⟨13, _⟩ => exact colB_apply 18 (by decide) slices_S16x15x159_S16x15x64_0_0_18 _ h x 0 k
  | ⟨14, _⟩ => exact colB_apply 17 (by decide) slices_S16x15x159_S16x15x64_0_0_17 _ h x 0 k
  | ⟨15, _⟩ => exact colB_apply 16 (by decide) slices_S16x15x159_S16x15x64_0_0_16 _ h x 0 k
  | ⟨n + 16, hn⟩ => exact absurd hn (by omega)

theorem toepB_apply {Y : Valuation τ sig (Elt Ideal)} (hY : Good Y) (h : Fin 16) (x : Fin 15) (c k : Fin 64) :
    toepB Y (ix4 h x c k) = padB Y (ix3 h x ⟨79 - c.val + k.val, by omega⟩) := by
  have e : toepB Y = cols64 ![Y (Proc.devRef .tc main_v129), Y (Proc.devRef .tc main_v130), Y (Proc.devRef .tc main_v131), Y (Proc.devRef .tc main_v132)] :=
    ((fix_of_mem hY.g0_2 132 rfl).nary (by decide)).trans rfl
  have hc : c = ⟨16 * (c.val / 16) + c.val % 16, by omega⟩ := Fin.ext (by show c.val = 16 * (c.val / 16) + c.val % 16; omega)
  rw [e]
  have key : ∀ (i : Fin 4) (j : Fin 16), cols64 ![Y (Proc.devRef .tc main_v129), Y (Proc.devRef .tc main_v130), Y (Proc.devRef .tc main_v131), Y (Proc.devRef .tc main_v132)] (ix4 h x ⟨16 * i.val + j.val, by omega⟩ k)
      = padB Y (ix3 h x ⟨79 - (16 * i.val + j.val) + k.val, by omega⟩) := by
    intro i j
    rw [cols64_apply]
    match i with
    | ⟨0, _⟩ => exact cols_0 hY h x j k
    | ⟨1, _⟩ => exact cols_1 hY h x j k
    | ⟨2, _⟩ => exact cols_2 hY h x j k
    | ⟨3, _⟩ => exact cols_3 hY h x j k
  have := key ⟨c.val / 16, by omega⟩ ⟨c.val % 16, by omega⟩
  rw [hc]
  exact this

end Cert.NA
-- ==== Proof.Tab0.lean ====
/- The table of biases of variant 0, read off the host operations. -/
module

public import proofs.«01_k».proof.Proof.Tab
public import proofs.«01_k».proof.Proof.Toep

@[expose] public section

set_option maxRecDepth 16384

noncomputable section

namespace Cert.NA

open Idealize.ShloMosaic Idealize.ShloMosaic.TcCoe
open Cert.KernelIdeal Cert.KernelIdeal.Gen Cert.KernelIdeal.Hand

theorem ok_0 {Y : Valuation τ sig (Elt Ideal)} (hY : Good Y) : (Y (Proc.devRef .tc main_v178) : IVec S256x768 1) = okB 0#32 0#32 := by
  rw [(fix_of_mem hY.g0_6 28 rfl).binary (by decide) (by decide),
    (fix_of_mem hY.g0_6 27 rfl).binary (by decide) (by decide),
    (fix_of_mem hY.g0_6 26 rfl).unary (by decide),
    (fix_of_mem hY.g0_6 25 rfl).unary (by decide),
    (fix_of_mem hY.g0_6 24 rfl).binary (by decide) (by decide),
    (fix_of_mem hY.g0_6 23 rfl).unary (by decide),
    (fix_of_mem hY.g0_6 22 rfl).nullary,
    (fix_of_mem hY.g0_6 21 rfl).unary (by decide),
    (fix_of_mem hY.g0_6 20 rfl).unary (by decide),
    (fix_of_mem hY.g0_6 19 rfl).binary (by decide) (by decide),
    (fix_of_mem hY.g0_6 18 rfl).binary (by decide) (by decide),
    (fix_of_mem hY.g0_6 17 rfl).unary (by decide),
    (fix_of_mem hY.g0_6 16 rfl).unary (by decide),
    (fix_of_mem hY.g0_6 15 rfl).unary (by decide),
    (fix_of_mem hY.g0_6 14 rfl).unary (by decide),
    (fix_of_mem hY.g0_6 13 rfl).binary (by decide) (by decide),
    (fix_of_mem hY.g0_6 12 rfl).binary (by decide) (by decide),
    (fix_of_mem hY.g0_6 11 rfl).unary (by decide),
    (fix_of_mem hY.g0_6 10 rfl).unary (by decide),
    (fix_of_mem hY.g0_6 9 rfl).binary (by decide) (by decide),
    (fix_of_mem hY.g0_6 8 rfl).unary (by decide),
    (fix_of_mem hY.g0_6 7 rfl).nullary,
    (fix_of_mem hY.g0_6 6 rfl).unary (by decide),
    (fix_of_mem hY.g0_6 5 rfl).unary (by decide),
    (fix_of_mem hY.g0_6 4 rfl).binary (by decide) (by decide),
    (fix_of_mem hY.g0_6 3 rfl).unary (by decide),
    (fix_of_mem hY.g0_6 2 rfl).unary (by decide),
    (fix_of_mem hY.g0_6 1 rfl).unary (by decide),
    (fix_of_mem hY.g0_6 0 rfl).unary (by decide),
    (fix_of_mem hY.g0_5 5 rfl).binary (by decide) (by decide),
    (fix_of_mem hY.g0_5 4 rfl).unary (by decide),
    (fix_of_mem hY.g0_5 3 rfl).unary (by decide),
    (fix_of_mem hY.g0_5 2 rfl).binary (by decide) (by decide),
    (fix_of_mem hY.g0_5 1 rfl).unary (by decide),
    (fix_of_mem hY.g0_5 0 rfl).unary (by decide),
    (fix_of_mem hY.g0_4 4 rfl).nullary,
    (fix_of_mem hY.g0_4 3 rfl).nullary,
    (fix_of_mem hY.g0_4 2 rfl).binary (by decide) (by decide),
    (fix_of_mem hY.g0_4 1 rfl).unary (by decide),
    (fix_of_mem hY.g0_4 0 rfl).nullary,
    (fix_of_mem hY.g0_3 5 rfl).binary (by decide) (by decide),
    (fix_of_mem hY.g0_3 4 rfl).unary (by decide),
    (fix_of_mem hY.g0_3 3 rfl).unary (by decide),
    (fix_of_mem hY.g0_3 2 rfl).binary (by decide) (by decide),
    (fix_of_mem hY.g0_3 1 rfl).unary (by decide),
    (fix_of_mem hY.g0_3 0 rfl).unary (by decide),
    (fix_of_mem hY.g0_2 151 rfl).nullary,
    (fix_of_mem hY.g0_2 150 rfl).nullary,
    (fix_of_mem hY.g0_2 149 rfl).binary (by decide) (by decide),
    (fix_of_mem hY.g0_2 148 rfl).unary (by decide),
    (fix_of_mem hY.g0_2 147 rfl).nullary,
    (fix_of_mem hY.g0_2 146 rfl).reshape (by decide),
    (fix_of_mem hY.g0_2 145 rfl).nullary,
    (fix_of_mem hY.g0_2 144 rfl).binary (by decide) (by decide),
    (fix_of_mem hY.g0_2 143 rfl).unary (by decide),
    (fix_of_mem hY.g0_2 142 rfl).nullary,
    (fix_of_mem hY.g0_2 141 rfl).reshape (by decide),
    (fix_of_mem hY.g0_2 140 rfl).nullary,
    (fix_of_mem hY.g0_2 139 rfl).reshape (by decide),
    (fix_of_mem hY.g0_2 138 rfl).nullary,
    (fix_of_mem hY.g0_2 137 rfl).binary (by decide) (by decide),
    (fix_of_mem hY.g0_2 136 rfl).unary (by decide),
    (fix_of_mem hY.g0_2 135 rfl).nullary,
    (fix_of_mem hY.g0_2 134 rfl).reshape (by decide),
    (fix_of_mem hY.g0_2 133 rfl).nullary]
  rfl

theorem band_0_0 {Y : Valuation τ sig (Elt Ideal)} (hY : Good Y) (h : Fin 16) (c : Fin 64) (j : Fin 12) (k : Fin 64) :
    (Y (Proc.devRef .tc main_v215) : FVec Ideal S16x64x12x64 .f32) (ix4 h c j k) = toepB Y (ix4 h ⟨min 14 (0 + j.val + 7 - (0 + 0)), by omega⟩ c k) := by
  have e : (Y (Proc.devRef .tc main_v215) : FVec Ideal S16x64x12x64 .f32) = band12 ![slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y), slab 13 slices_S16x15x64x64_S16x1x64x64_0_13_0_0 (toepB Y), slab 14 slices_S16x15x64x64_S16x1x64x64_0_14_0_0 (toepB Y), slab 14 slices_S16x15x64x64_S16x1x64x64_0_14_0_0 (toepB Y), slab 14 slices_S16x15x64x64_S16x1x64x64_0_14_0_0 (toepB Y), slab 14 slices_S16x15x64x64_S16x1x64x64_0_14_0_0 (toepB Y), slab 14 slices_S16x15x64x64_S16x1x64x64_0_14_0_0 (toepB Y)] := by
    refine ((fix_of_mem hY.g0_6 65 rfl).nary (by decide)).trans ?_
    show band12 ![Y (Proc.devRef .tc main_v203), Y (Proc.devRef .tc main_v204), Y (Proc.devRef .tc main_v205), Y (Proc.devRef .tc main_v206), Y (Proc.devRef .tc main_v207), Y (Proc.devRef .tc main_v208), Y (Proc.devRef .tc main_v209), Y (Proc.devRef .tc main_v210), Y (Proc.devRef .tc main_v211), Y (Proc.devRef .tc main_v212), Y (Proc.devRef .tc main_v213), Y (Proc.devRef .tc main_v214)] = _
    rw [(fix_of_mem hY.g0_6 53 rfl).unary (by decide),
      (fix_of_mem hY.g0_6 30 rfl).reshape (by decide),
      (fix_of_mem hY.g0_6 29 rfl).unary (by decide),
      (fix_of_mem hY.g0_6 54 rfl).unary (by decide),
      (fix_of_mem hY.g0_6 32 rfl).reshape (by decide),
      (fix_of_mem hY.g0_6 31 rfl).unary (by decide),
      (fix_of_mem hY.g0_6 55 rfl).unary (by decide),
      (fix_of_mem hY.g0_6 34 rfl).reshape (by decide),
      (fix_of_mem hY.g0_6 33 rfl).unary (by decide),
      (fix_of_mem hY.g0_6 56 rfl).unary (by decide),
      (fix_of_mem hY.g0_6 36 rfl).reshape (by decide),
      (fix_of_mem hY.g0_6 35 rfl).unary (by decide),
      (fix_of_mem hY.g0_6 57 rfl).unary (by decide),
      (fix_of_mem hY.g0_6 38 rfl).reshape (by decide),
      (fix_of_mem hY.g0_6 37 rfl).unary (by decide),
      (fix_of_mem hY.g0_6 58 rfl).unary (by decide),
      (fix_of_mem hY.g0_6 40 rfl).reshape (by decide),
      (fix_of_mem hY.g0_6 39 rfl).unary (by decide),
      (fix_of_mem hY.g0_6 59 rfl).unary (by decide),
      (fix_of_mem hY.g0_6 42 rfl).reshape (by decide),
      (fix_of_mem hY.g0_6 41 rfl).unary (by decide),
      (fix_of_mem hY.g0_6 60 rfl).unary (by decide),
      (fix_of_mem hY.g0_6 44 rfl).reshape (by decide),
      (fix_of_mem hY.g0_6 43 rfl).unary (by decide),
      (fix_of_mem hY.g0_6 61 rfl).unary (by decide),
      (fix_of_mem hY.g0_6 46 rfl).reshape (by decide),
      (fix_of_mem hY.g0_6 45 rfl).unary (by decide),
      (fix_of_mem hY.g0_6 62 rfl).unary (by decide),
      (fix_of_mem hY.g0_6 48 rfl).reshape (by decide),
      (fix_of_mem hY.g0_6 47 rfl).unary (by decide),
      (fix_of_mem hY.g0_6 63 rfl).unary (by decide),
      (fix_of_mem hY.g0_6 50 rfl).reshape (by decide),
      (fix_of_mem hY.g0_6 49 rfl).unary (by decide),
      (fix_of_mem hY.g0_6 64 rfl).unary (by decide),
      (fix_of_mem hY.g0_6 52 rfl).reshape (by decide),
      (fix_of_mem hY.g0_6 51 rfl).unary (by decide)]
    rfl
  rw [e, band12_apply]
  match j with
  | ⟨0, _⟩ => exact slab_apply 7 (by decide) slices_S16x15x64x64_S16x1x64x64_0_7_0_0 _ h c 0 k
  | ⟨1, _⟩ => exact slab_apply 8 (by decide) slices_S16x15x64x64_S16x1x64x64_0_8_0_0 _ h c 0 k
  | ⟨2, _⟩ => exact slab_apply 9 (by decide) slices_S16x15x64x64_S16x1x64x64_0_9_0_0 _ h c 0 k
  | ⟨3, _⟩ => exact slab_apply 10 (by decide) slices_S16x15x64x64_S16x1x64x64_0_10_0_0 _ h c 0 k
  | ⟨4, _⟩ => exact slab_apply 11 (by decide) slices_S16x15x64x64_S16x1x64x64_0_11_0_0 _ h c 0 k
  | ⟨5, _⟩ => exact slab_apply 12 (by decide) slices_S16x15x64x64_S16x1x64x64_0_12_0_0 _ h c 0 k
  | ⟨6, _⟩ => exact slab_apply 13 (by decide) slices_S16x15x64x64_S16x1x64x64_0_13_0_0 _ h c 0 k
  | ⟨7, _⟩ => exact slab_apply 14 (by decide) slices_S16x15x64x64_S16x1x64x64_0_14_0_0 _ h c 0 k
  | ⟨8, _⟩ => exact slab_apply 14 (by decide) slices_S16x15x64x64_S16x1x64x64_0_14_0_0 _ h c 0 k
  | ⟨9, _⟩ => exact slab_apply 14 (by decide) slices_S16x15x64x64_S16x1x64x64_0_14_0_0 _ h c 0 k
  | ⟨10, _⟩ => exact slab_apply 14 (by decide) slices_S16x15x64x64_S16x1x64x64_0_14_0_0 _ h c 0 k
  | ⟨11, _⟩ => exact slab_apply 14 (by decide) slices_S16x15x64x64_S16x1x64x64_0_14_0_0 _ h c 0 k
  | ⟨n + 12, hn⟩ => exact absurd hn (by omega)

theorem band_0_1 {Y : Valuation τ sig (Elt Ideal)} (hY : Good Y) (h : Fin 16) (c : Fin 64) (j : Fin 12) (k : Fin 64) :
    (Y (Proc.devRef .tc main_v252) : FVec Ideal S16x64x12x64 .f32) (ix4 h c j k) = toepB Y (ix4 h ⟨min 14 (0 + j.val + 7 - (0 + 1)), by omega⟩ c k) := by
  have e : (Y (Proc.devRef .tc main_v252) : FVec Ideal S16x64x12x64 .f32) = band12 ![slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y), slab 13 slices_S16x15x64x64_S16x1x64x64_0_13_0_0 (toepB Y), slab 14 slices_S16x15x64x64_S16x1x64x64_0_14_0_0 (toepB Y), slab 14 slices_S16x15x64x64_S16x1x64x64_0_14_0_0 (toepB Y), slab 14 slices_S16x15x64x64_S16x1x64x64_0_14_0_0 (toepB Y), slab 14 slices_S16x15x64x64_S16x1x64x64_0_14_0_0 (toepB Y)] := by
    refine ((fix_of_mem hY.g0_6 102 rfl).nary (by decide)).trans ?_
    show band12 ![Y (Proc.devRef .tc main_v240), Y (Proc.devRef .tc main_v241), Y (Proc.devRef .tc main_v242), Y (Proc.devRef .tc main_v243), Y (Proc.devRef .tc main_v244), Y (Proc.devRef .tc main_v245), Y (Proc.devRef .tc main_v246), Y (Proc.devRef .tc main_v247), Y (Proc.devRef .tc main_v248), Y (Proc.devRef .tc main_v249), Y (Proc.devRef .tc main_v250), Y (Proc.devRef .tc main_v251)] = _
    rw [(fix_of_mem hY.g0_6 90 rfl).unary (by decide),
      (fix_of_mem hY.g0_6 67 rfl).reshape (by decide),
      (fix_of_mem hY.g0_6 66 rfl).unary (by decide),
      (fix_of_mem hY.g0_6 91 rfl).unary (by decide),
      (fix_of_mem hY.g0_6 69 rfl).reshape (by decide),
      (fix_of_mem hY.g0_6 68 rfl).unary (by decide),
      (fix_of_mem hY.g0_6 92 rfl).unary (by decide),
      (fix_of_mem hY.g0_6 71 rfl).reshape (by decide),
      (fix_of_mem hY.g0_6 70 rfl).unary (by decide),
      (fix_of_mem hY.g0_6 93 rfl).unary (by decide),
      (fix_of_mem hY.g0_6 73 rfl).reshape (by decide),
      (fix_of_mem hY.g0_6 72 rfl).unary (by decide),
      (fix_of_mem hY.g0_6 94 rfl).unary (by decide),
      (fix_of_mem hY.g0_6 75 rfl).reshape (by decide),
      (fix_of_mem hY.g0_6 74 rfl).unary (by decide),
      (fix_of_mem hY.g0_6 95 rfl).unary (by decide),
      (fix_of_mem hY.g0_6 77 rfl).reshape (by decide),
      (fix_of_mem hY.g0_6 76 rfl).unary (by decide),
      (fix_of_mem hY.g0_6 96 rfl).unary (by decide),
      (fix_of_mem hY.g0_6 79 rfl).reshape (by decide),
      (fix_of_mem hY.g0_6 78 rfl).unary (by decide),
      (fix_of_mem hY.g0_6 97 rfl).unary (by decide),
      (fix_of_mem hY.g0_6 81 rfl).reshape (by decide),
      (fix_of_mem hY.g0_6 80 rfl).unary (by decide),
      (fix_of_mem hY.g0_6 98 rfl).unary (by decide),
      (fix_of_mem hY.g0_6 83 rfl).reshape (by decide),
      (fix_of_mem hY.g0_6 82 rfl).unary (by decide),
      (fix_of_mem hY.g0_6 99 rfl).unary (by decide),
      (fix_of_mem hY.g0_6 85 rfl).reshape (by decide),
      (fix_of_mem hY.g0_6 84 rfl).unary (by decide),
      (fix_of_mem hY.g0_6 100 rfl).unary (by decide),
      (fix_of_mem hY.g0_6 87 rfl).reshape (by decide),
      (fix_of_mem hY.g0_6 86 rfl).unary (by decide),
      (fix_of_mem hY.g0_6 101 rfl).unary (by decide),
      (fix_of_mem hY.g0_6 89 rfl).reshape (by decide),
      (fix_of_mem hY.g0_6 88 rfl).unary (by decide)]
    rfl
  rw [e, band12_apply]
  match j with
  | ⟨0, _⟩ => exact slab_apply 6 (by decide) slices_S16x15x64x64_S16x1x64x64_0_6_0_0 _ h c 0 k
  | ⟨1, _⟩ => exact slab_apply 7 (by decide) slices_S16x15x64x64_S16x1x64x64_0_7_0_0 _ h c 0 k
  | ⟨2, _⟩ => exact slab_apply 8 (by decide) slices_S16x15x64x64_S16x1x64x64_0_8_0_0 _ h c 0 k
  | ⟨3, _⟩ => exact slab_apply 9 (by decide) slices_S16x15x64x64_S16x1x64x64_0_9_0_0 _ h c 0 k
  | ⟨4, _⟩ => exact slab_apply 10 (by decide) slices_S16x15x64x64_S16x1x64x64_0_10_0_0 _ h c 0 k
  | ⟨5, _⟩ => exact slab_apply 11 (by decide) slices_S16x15x64x64_S16x1x64x64_0_11_0_0 _ h c 0 k
  | ⟨6, _⟩ => exact slab_apply 12 (by decide) slices_S16x15x64x64_S16x1x64x64_0_12_0_0 _ h c 0 k
  | ⟨7, _⟩ => exact slab_apply 13 (by decide) slices_S16x15x64x64_S16x1x64x64_0_13_0_0 _ h c 0 k
  | ⟨8, _⟩ => exact slab_apply 14 (by decide) slices_S16x15x64x64_S16x1x64x64_0_14_0_0 _ h c 0 k
  | ⟨9, _⟩ => exact slab_apply 14 (by decide) slices_S16x15x64x64_S16x1x64x64_0_14_0_0 _ h c 0 k
  | ⟨10, _⟩ => exact slab_apply 14 (by decide) slices_S16x15x64x64_S16x1x64x64_0_14_0_0 _ h c 0 k
  | ⟨11, _⟩ => exact slab_apply 14 (by decide) slices_S16x15x64x64_S16x1x64x64_0_14_0_0 _ h c 0 k
  | ⟨n + 12, hn⟩ => exact absurd hn (by omega)

theorem band_0_2 {Y : Valuation τ sig (Elt Ideal)} (hY : Good Y) (h : Fin 16) (c : Fin 64) (j : Fin 12) (k : Fin 64) :
    (Y (Proc.devRef .tc main_v289) : FVec Ideal S16x64x12x64 .f32) (ix4 h c j k) = toepB Y (ix4 h ⟨min 14 (0 + j.val + 7 - (0 + 2)), by omega⟩ c k) := by
  have e : (Y (Proc.devRef .tc main_v289) : FVec Ideal S16x64x12x64 .f32) = band12 ![slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y), slab 13 slices_S16x15x64x64_S16x1x64x64_0_13_0_0 (toepB Y), slab 14 slices_S16x15x64x64_S16x1x64x64_0_14_0_0 (toepB Y), slab 14 slices_S16x15x64x64_S16x1x64x64_0_14_0_0 (toepB Y), slab 14 slices_S16x15x64x64_S16x1x64x64_0_14_0_0 (toepB Y)] := by
    refine ((fix_of_mem hY.g0_6 139 rfl).nary (by decide)).trans ?_
    show band12 ![Y (Proc.devRef .tc main_v277), Y (Proc.devRef .tc main_v278), Y (Proc.devRef .tc main_v279), Y (Proc.devRef .tc main_v280), Y (Proc.devRef .tc main_v281), Y (Proc.devRef .tc main_v282), Y (Proc.devRef .tc main_v283), Y (Proc.devRef .tc main_v284), Y (Proc.devRef .tc main_v285), Y (Proc.devRef .tc main_v286), Y (Proc.devRef .tc main_v287), Y (Proc.devRef .tc main_v288)] = _
    rw [(fix_of_mem hY.g0_6 127 rfl).unary (by decide),
      (fix_of_mem hY.g0_6 104 rfl).reshape (by decide),
      (fix_of_mem hY.g0_6 103 rfl).unary (by decide),
      (fix_of_mem hY.g0_6 128 rfl).unary (by decide),
      (fix_of_mem hY.g0_6 106 rfl).reshape (by decide),
      (fix_of_mem hY.g0_6 105 rfl).unary (by decide),
      (fix_of_mem hY.g0_6 129 rfl).unary (by decide),
      (fix_of_mem hY.g0_6 108 rfl).reshape (by decide),
      (fix_of_mem hY.g0_6 107 rfl).unary (by decide),
      (fix_of_mem hY.g0_6 130 rfl).unary (by decide),
      (fix_of_mem hY.g0_6 110 rfl).reshape (by decide),
      (fix_of_mem hY.g0_6 109 rfl).unary (by decide),
      (fix_of_mem hY.g0_6 131 rfl).unary (by decide),
      (fix_of_mem hY.g0_6 112 rfl).reshape (by decide),
      (fix_of_mem hY.g0_6 111 rfl).unary (by decide),
      (fix_of_mem hY.g0_6 132 rfl).unary (by decide),
      (fix_of_mem hY.g0_6 114 rfl).reshape (by decide),
      (fix_of_mem hY.g0_6 113 rfl).unary (by decide),
      (fix_of_mem hY.g0_6 133 rfl).unary (by decide),
      (fix_of_mem hY.g0_6 116 rfl).reshape (by decide),
      (fix_of_mem hY.g0_6 115 rfl).unary (by decide),
      (fix_of_mem hY.g0_6 134 rfl).unary (by decide),
      (fix_of_mem hY.g0_6 118 rfl).reshape (by decide),
      (fix_of_mem hY.g0_6 117 rfl).unary (by decide),
      (fix_of_mem hY.g0_6 135 rfl).unary (by decide),
      (fix_of_mem hY.g0_6 120 rfl).reshape (by decide),
      (fix_of_mem hY.g0_6 119 rfl).unary (by decide),
      (fix_of_mem hY.g0_6 136 rfl).unary (by decide),
      (fix_of_mem hY.g0_6 122 rfl).reshape (by decide),
      (fix_of_mem hY.g0_6 121 rfl).unary (by decide),
      (fix_of_mem hY.g0_6 137 rfl).unary (by decide),
      (fix_of_mem hY.g0_6 124 rfl).reshape (by decide),
      (fix_of_mem hY.g0_6 123 rfl).unary (by decide),
      (fix_of_mem hY.g0_6 138 rfl).unary (by decide),
      (fix_of_mem hY.g0_6 126 rfl).reshape (by decide),
      (fix_of_mem hY.g0_6 125 rfl).unary (by decide)]
    rfl
  rw [e, band12_apply]
  match j with
  | ⟨0, _⟩ => exact slab_apply 5 (by decide) slices_S16x15x64x64_S16x1x64x64_0_5_0_0 _ h c 0 k
  | ⟨1, _⟩ => exact slab_apply 6 (by decide) slices_S16x15x64x64_S16x1x64x64_0_6_0_0 _ h c 0 k
  | ⟨2, _⟩ => exact slab_apply 7 (by decide) slices_S16x15x64x64_S16x1x64x64_0_7_0_0 _ h c 0 k
  | ⟨3, _⟩ => exact slab_apply 8 (by decide) slices_S16x15x64x64_S16x1x64x64_0_8_0_0 _ h c 0 k
  | ⟨4, _⟩ => exact slab_apply 9 (by decide) slices_S16x15x64x64_S16x1x64x64_0_9_0_0 _ h c 0 k
  | ⟨5, _⟩ => exact slab_apply 10 (by decide) slices_S16x15x64x64_S16x1x64x64_0_10_0_0 _ h c 0 k
  | ⟨6, _⟩ => exact slab_apply 11 (by decide) slices_S16x15x64x64_S16x1x64x64_0_11_0_0 _ h c 0 k
  | ⟨7, _⟩ => exact slab_apply 12 (by decide) slices_S16x15x64x64_S16x1x64x64_0_12_0_0 _ h c 0 k
  | ⟨8, _⟩ => exact slab_apply 13 (by decide) slices_S16x15x64x64_S16x1x64x64_0_13_0_0 _ h c 0 k
  | ⟨9, _⟩ => exact slab_apply 14 (by decide) slices_S16x15x64x64_S16x1x64x64_0_14_0_0 _ h c 0 k
  | ⟨10, _⟩ => exact slab_apply 14 (by decide) slices_S16x15x64x64_S16x1x64x64_0_14_0_0 _ h c 0 k
  | ⟨11, _⟩ => exact slab_apply 14 (by decide) slices_S16x15x64x64_S16x1x64x64_0_14_0_0 _ h c 0 k
  | ⟨n + 12, hn⟩ => exact absurd hn (by omega)

theorem band_0_3 {Y : Valuation τ sig (Elt Ideal)} (hY : Good Y) (h : Fin 16) (c : Fin 64) (j : Fin 12) (k : Fin 64) :
    (Y (Proc.devRef .tc main_v326) : FVec Ideal S16x64x12x64 .f32) (ix4 h c j k) = toepB Y (ix4 h ⟨min 14 (0 + j.val + 7 - (0 + 3)), by omega⟩ c k) := by
  have e : (Y (Proc.devRef .tc main_v326) : FVec Ideal S16x64x12x64 .f32) = band12 ![slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y), slab 13 slices_S16x15x64x64_S16x1x64x64_0_13_0_0 (toepB Y), slab 14 slices_S16x15x64x64_S16x1x64x64_0_14_0_0 (toepB Y), slab 14 slices_S16x15x64x64_S16x1x64x64_0_14_0_0 (toepB Y)] := by
    refine ((fix_of_mem hY.g0_6 176 rfl).nary (by decide)).trans ?_
    show band12 ![Y (Proc.devRef .tc main_v314), Y (Proc.devRef .tc main_v315), Y (Proc.devRef .tc main_v316), Y (Proc.devRef .tc main_v317), Y (Proc.devRef .tc main_v318), Y (Proc.devRef .tc main_v319), Y (Proc.devRef .tc main_v320), Y (Proc.devRef .tc main_v321), Y (Proc.devRef .tc main_v322), Y (Proc.devRef .tc main_v323), Y (Proc.devRef .tc main_v324), Y (Proc.devRef .tc main_v325)] = _
    rw [(fix_of_mem hY.g0_6 164 rfl).unary (by decide),
      (fix_of_mem hY.g0_6 141 rfl).reshape (by decide),
      (fix_of_mem hY.g0_6 140 rfl).unary (by decide),
      (fix_of_mem hY.g0_6 165 rfl).unary (by decide),
      (fix_of_mem hY.g0_6 143 rfl).reshape (by decide),
      (fix_of_mem hY.g0_6 142 rfl).unary (by decide),
      (fix_of_mem hY.g0_6 166 rfl).unary (by decide),
      (fix_of_mem hY.g0_6 145 rfl).reshape (by decide),
      (fix_of_mem hY.g0_6 144 rfl).unary (by decide),
      (fix_of_mem hY.g0_6 167 rfl).unary (by decide),
      (fix_of_mem hY.g0_6 147 rfl).reshape (by decide),
      (fix_of_mem hY.g0_6 146 rfl).unary (by decide),
      (fix_of_mem hY.g0_6 168 rfl).unary (by decide),
      (fix_of_mem hY.g0_6 149 rfl).reshape (by decide),
      (fix_of_mem hY.g0_6 148 rfl).unary (by decide),
      (fix_of_mem hY.g0_6 169 rfl).unary (by decide),
      (fix_of_mem hY.g0_6 151 rfl).reshape (by decide),
      (fix_of_mem hY.g0_6 150 rfl).unary (by decide),
      (fix_of_mem hY.g0_6 170 rfl).unary (by decide),
      (fix_of_mem hY.g0_6 153 rfl).reshape (by decide),
      (fix_of_mem hY.g0_6 152 rfl).unary (by decide),
      (fix_of_mem hY.g0_6 171 rfl).unary (by decide),
      (fix_of_mem hY.g0_6 155 rfl).reshape (by decide),
      (fix_of_mem hY.g0_6 154 rfl).unary (by decide),
      (fix_of_mem hY.g0_6 172 rfl).unary (by decide),
      (fix_of_mem hY.g0_6 157 rfl).reshape (by decide),
      (fix_of_mem hY.g0_6 156 rfl).unary (by decide),
      (fix_of_mem hY.g0_6 173 rfl).unary (by decide),
      (fix_of_mem hY.g0_6 159 rfl).reshape (by decide),
      (fix_of_mem hY.g0_6 158 rfl).unary (by decide),
      (fix_of_mem hY.g0_6 174 rfl).unary (by decide),
      (fix_of_mem hY.g0_6 161 rfl).reshape (by decide),
      (fix_of_mem hY.g0_6 160 rfl).unary (by decide),
      (fix_of_mem hY.g0_6 175 rfl).unary (by decide),
      (fix_of_mem hY.g0_6 163 rfl).reshape (by decide),
      (fix_of_mem hY.g0_6 162 rfl).unary (by decide)]
    rfl
  rw [e, band12_apply]
  match j with
  | ⟨0, _⟩ => exact slab_apply 4 (by decide) slices_S16x15x64x64_S16x1x64x64_0_4_0_0 _ h c 0 k
  | ⟨1, _⟩ => exact slab_apply 5 (by decide) slices_S16x15x64x64_S16x1x64x64_0_5_0_0 _ h c 0 k
  | ⟨2, _⟩ => exact slab_apply 6 (by decide) slices_S16x15x64x64_S16x1x64x64_0_6_0_0 _ h c 0 k
  | ⟨3, _⟩ => exact slab_apply 7 (by decide) slices_S16x15x64x64_S16x1x64x64_0_7_0_0 _ h c 0 k
  | ⟨4, _⟩ => exact slab_apply 8 (by decide) slices_S16x15x64x64_S16x1x64x64_0_8_0_0 _ h c 0 k
  | ⟨5, _⟩ => exact slab_apply 9 (by decide) slices_S16x15x64x64_S16x1x64x64_0_9_0_0 _ h c 0 k
  | ⟨6, _⟩ => exact slab_apply 10 (by decide) slices_S16x15x64x64_S16x1x64x64_0_10_0_0 _ h c 0 k
  | ⟨7, _⟩ => exact slab_apply 11 (by decide) slices_S16x15x64x64_S16x1x64x64_0_11_0_0 _ h c 0 k
  | ⟨8, _⟩ => exact slab_apply 12 (by decide) slices_S16x15x64x64_S16x1x64x64_0_12_0_0 _ h c 0 k
  | ⟨9, _⟩ => exact slab_apply 13 (by decide) slices_S16x15x64x64_S16x1x64x64_0_13_0_0 _ h c 0 k
  | ⟨10, _⟩ => exact slab_apply 14 (by decide) slices_S16x15x64x64_S16x1x64x64_0_14_0_0 _ h c 0 k
  | ⟨11, _⟩ => exact slab_apply 14 (by decide) slices_S16x15x64x64_S16x1x64x64_0_14_0_0 _ h c 0 k
  | ⟨n + 12, hn⟩ => exact absurd hn (by omega)

theorem rows_0 {Y : Valuation τ sig (Elt Ideal)} (hY : Good Y) (h : Fin 16) (a : Fin 4) (c : Fin 64) (j : Fin 12) (k : Fin 64) :
    (Y (Proc.devRef .tc main_v332) : FVec Ideal S16x256x768 .f32) (ix3 h ⟨64 * a.val + c.val, by omega⟩ ⟨64 * j.val + k.val, by omega⟩)
      = toepB Y (ix4 h ⟨min 14 (0 + j.val + 7 - (0 + a.val)), by omega⟩ c k) := by
  have e : (Y (Proc.devRef .tc main_v332) : FVec Ideal S16x256x768 .f32) = rows4 ![Y (Proc.devRef .tc main_v215), Y (Proc.devRef .tc main_v252), Y (Proc.devRef .tc main_v289), Y (Proc.devRef .tc main_v326)] := by
    rw [(fix_of_mem hY.g0_6 182 rfl).reshape (by decide), (fix_of_mem hY.g0_6 181 rfl).nary (by decide)]
    show shapeCast S16x256x768 (concatenate S16x4x64x12x64 1 [⟨S16x1x64x12x64, (Y (Proc.devRef .tc main_v327) : FVec Ideal S16x1x64x12x64 .f32)⟩, ⟨S16x1x64x12x64, (Y (Proc.devRef .tc main_v328) : FVec Ideal S16x1x64x12x64 .f32)⟩, ⟨S16x1x64x12x64, (Y (Proc.devRef .tc main_v329) : FVec Ideal S16x1x64x12x64 .f32)⟩, ⟨S16x1x64x12x64, (Y (Proc.devRef .tc main_v330) : FVec Ideal S16x1x64x12x64 .f32)⟩] concatenates_S16x1x64x12x64_S16x1x64x12x64_S16x1x64x12x64_S16x1x64x12x64_S16x4x64x12x64_d1) shapeCasts_S16x4x64x12x64_S16x256x768 = _
    rw [(fix_of_mem hY.g0_6 177 rfl).unary (by decide), (fix_of_mem hY.g0_6 178 rfl).unary (by decide), (fix_of_mem hY.g0_6 179 rfl).unary (by decide), (fix_of_mem hY.g0_6 180 rfl).unary (by decide)]
    rfl
  rw [e, rows4_apply]
  match a with
  | ⟨0, _⟩ => exact band_0_0 hY h c j k
  | ⟨1, _⟩ => exact band_0_1 hY h c j k
  | ⟨2, _⟩ => exact band_0_2 hY h c j k
  | ⟨3, _⟩ => exact band_0_3 hY h c j k

theorem tab_0 {Y : Valuation τ sig (Elt Ideal)} (hY : Good Y) :
    (Y (Proc.devRef .tc main_v334) : FVec Ideal S16x256x768 .f32) = maskedB (okB 0#32 0#32) (Y (Proc.devRef .tc main_v332)) := by
  rw [(fix_of_mem hY.g0_7 3 rfl).ternary (by decide) (by decide) (by decide), (fix_of_mem hY.g0_7 1 rfl).unary (by decide), (fix_of_mem hY.g0_7 2 rfl).unary (by decide), (fix_of_mem hY.g0_7 0 rfl).unary (by decide), (fix_of_mem hY.g0_6 184 rfl).nullary, (fix_of_mem hY.g0_6 183 rfl).unary (by decide), ok_0 hY]
  rfl

end Cert.NA
-- ==== Proof.Tab1.lean ====
/- The table of biases of variant 1, read off the host operations. -/
module

public import proofs.«01_k».proof.Proof.Tab
public import proofs.«01_k».proof.Proof.Toep

@[expose] public section

set_option maxRecDepth 16384

noncomputable section

namespace Cert.NA

open Idealize.ShloMosaic Idealize.ShloMosaic.TcCoe
open Cert.KernelIdeal Cert.KernelIdeal.Gen Cert.KernelIdeal.Hand

theorem ok_1 {Y : Valuation τ sig (Elt Ideal)} (hY : Good Y) : (Y (Proc.devRef .tc main_v379) : IVec S256x768 1) = okB 4#32 0#32 := by
  rw [(fix_of_mem hY.g0_12 28 rfl).binary (by decide) (by decide),
    (fix_of_mem hY.g0_12 27 rfl).binary (by decide) (by decide),
    (fix_of_mem hY.g0_12 26 rfl).unary (by decide),
    (fix_of_mem hY.g0_12 25 rfl).unary (by decide),
    (fix_of_mem hY.g0_12 24 rfl).binary (by decide) (by decide),
    (fix_of_mem hY.g0_12 23 rfl).unary (by decide),
    (fix_of_mem hY.g0_12 22 rfl).nullary,
    (fix_of_mem hY.g0_12 21 rfl).unary (by decide),
    (fix_of_mem hY.g0_12 20 rfl).unary (by decide),
    (fix_of_mem hY.g0_12 19 rfl).binary (by decide) (by decide),
    (fix_of_mem hY.g0_12 18 rfl).binary (by decide) (by decide),
    (fix_of_mem hY.g0_12 17 rfl).unary (by decide),
    (fix_of_mem hY.g0_12 16 rfl).unary (by decide),
    (fix_of_mem hY.g0_12 15 rfl).unary (by decide),
    (fix_of_mem hY.g0_12 14 rfl).unary (by decide),
    (fix_of_mem hY.g0_12 13 rfl).binary (by decide) (by decide),
    (fix_of_mem hY.g0_12 12 rfl).binary (by decide) (by decide),
    (fix_of_mem hY.g0_12 11 rfl).unary (by decide),
    (fix_of_mem hY.g0_12 10 rfl).unary (by decide),
    (fix_of_mem hY.g0_12 9 rfl).binary (by decide) (by decide),
    (fix_of_mem hY.g0_12 8 rfl).unary (by decide),
    (fix_of_mem hY.g0_12 7 rfl).nullary,
    (fix_of_mem hY.g0_12 6 rfl).unary (by decide),
    (fix_of_mem hY.g0_12 5 rfl).unary (by decide),
    (fix_of_mem hY.g0_12 4 rfl).binary (by decide) (by decide),
    (fix_of_mem hY.g0_12 3 rfl).unary (by decide),
    (fix_of_mem hY.g0_12 2 rfl).unary (by decide),
    (fix_of_mem hY.g0_12 1 rfl).unary (by decide),
    (fix_of_mem hY.g0_12 0 rfl).unary (by decide),
    (fix_of_mem hY.g0_11 5 rfl).binary (by decide) (by decide),
    (fix_of_mem hY.g0_11 4 rfl).unary (by decide),
    (fix_of_mem hY.g0_11 3 rfl).unary (by decide),
    (fix_of_mem hY.g0_11 2 rfl).binary (by decide) (by decide),
    (fix_of_mem hY.g0_11 1 rfl).unary (by decide),
    (fix_of_mem hY.g0_11 0 rfl).unary (by decide),
    (fix_of_mem hY.g0_10 4 rfl).nullary,
    (fix_of_mem hY.g0_10 3 rfl).nullary,
    (fix_of_mem hY.g0_10 2 rfl).binary (by decide) (by decide),
    (fix_of_mem hY.g0_10 1 rfl).unary (by decide),
    (fix_of_mem hY.g0_10 0 rfl).nullary,
    (fix_of_mem hY.g0_9 5 rfl).binary (by decide) (by decide),
    (fix_of_mem hY.g0_9 4 rfl).unary (by decide),
    (fix_of_mem hY.g0_9 3 rfl).unary (by decide),
    (fix_of_mem hY.g0_9 2 rfl).binary (by decide) (by decide),
    (fix_of_mem hY.g0_9 1 rfl).unary (by decide),
    (fix_of_mem hY.g0_9 0 rfl).unary (by decide),
    (fix_of_mem hY.g0_8 18 rfl).nullary,
    (fix_of_mem hY.g0_8 17 rfl).nullary,
    (fix_of_mem hY.g0_8 16 rfl).binary (by decide) (by decide),
    (fix_of_mem hY.g0_8 15 rfl).unary (by decide),
    (fix_of_mem hY.g0_8 14 rfl).nullary,
    (fix_of_mem hY.g0_8 13 rfl).reshape (by decide),
    (fix_of_mem hY.g0_8 12 rfl).nullary,
    (fix_of_mem hY.g0_8 11 rfl).binary (by decide) (by decide),
    (fix_of_mem hY.g0_8 10 rfl).unary (by decide),
    (fix_of_mem hY.g0_8 9 rfl).nullary,
    (fix_of_mem hY.g0_8 8 rfl).reshape (by decide),
    (fix_of_mem hY.g0_8 7 rfl).nullary,
    (fix_of_mem hY.g0_8 6 rfl).reshape (by decide),
    (fix_of_mem hY.g0_8 5 rfl).nullary,
    (fix_of_mem hY.g0_8 4 rfl).binary (by decide) (by decide),
    (fix_of_mem hY.g0_8 3 rfl).unary (by decide),
    (fix_of_mem hY.g0_8 2 rfl).nullary,
    (fix_of_mem hY.g0_8 1 rfl).reshape (by decide),
    (fix_of_mem hY.g0_8 0 rfl).nullary]
  rfl

theorem band_1_0 {Y : Valuation τ sig (Elt Ideal)} (hY : Good Y) (h : Fin 16) (c : Fin 64) (j : Fin 12) (k : Fin 64) :
    (Y (Proc.devRef .tc main_v416) : FVec Ideal S16x64x12x64 .f32) (ix4 h c j k) = toepB Y (ix4 h ⟨min 14 (0 + j.val + 7 - (4 + 0)), by omega⟩ c k) := by
  have e : (Y (Proc.devRef .tc main_v416) : FVec Ideal S16x64x12x64 .f32) = band12 ![slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y), slab 13 slices_S16x15x64x64_S16x1x64x64_0_13_0_0 (toepB Y), slab 14 slices_S16x15x64x64_S16x1x64x64_0_14_0_0 (toepB Y)] := by
    refine ((fix_of_mem hY.g0_12 65 rfl).nary (by decide)).trans ?_
    show band12 ![Y (Proc.devRef .tc main_v404), Y (Proc.devRef .tc main_v405), Y (Proc.devRef .tc main_v406), Y (Proc.devRef .tc main_v407), Y (Proc.devRef .tc main_v408), Y (Proc.devRef .tc main_v409), Y (Proc.devRef .tc main_v410), Y (Proc.devRef .tc main_v411), Y (Proc.devRef .tc main_v412), Y (Proc.devRef .tc main_v413), Y (Proc.devRef .tc main_v414), Y (Proc.devRef .tc main_v415)] = _
    rw [(fix_of_mem hY.g0_12 53 rfl).unary (by decide),
      (fix_of_mem hY.g0_12 30 rfl).reshape (by decide),
      (fix_of_mem hY.g0_12 29 rfl).unary (by decide),
      (fix_of_mem hY.g0_12 54 rfl).unary (by decide),
      (fix_of_mem hY.g0_12 32 rfl).reshape (by decide),
      (fix_of_mem hY.g0_12 31 rfl).unary (by decide),
      (fix_of_mem hY.g0_12 55 rfl).unary (by decide),
      (fix_of_mem hY.g0_12 34 rfl).reshape (by decide),
      (fix_of_mem hY.g0_12 33 rfl).unary (by decide),
      (fix_of_mem hY.g0_12 56 rfl).unary (by decide),
      (fix_of_mem hY.g0_12 36 rfl).reshape (by decide),
      (fix_of_mem hY.g0_12 35 rfl).unary (by decide),
      (fix_of_mem hY.g0_12 57 rfl).unary (by decide),
      (fix_of_mem hY.g0_12 38 rfl).reshape (by decide),
      (fix_of_mem hY.g0_12 37 rfl).unary (by decide),
      (fix_of_mem hY.g0_12 58 rfl).unary (by decide),
      (fix_of_mem hY.g0_12 40 rfl).reshape (by decide),
      (fix_of_mem hY.g0_12 39 rfl).unary (by decide),
      (fix_of_mem hY.g0_12 59 rfl).unary (by decide),
      (fix_of_mem hY.g0_12 42 rfl).reshape (by decide),
      (fix_of_mem hY.g0_12 41 rfl).unary (by decide),
      (fix_of_mem hY.g0_12 60 rfl).unary (by decide),
      (fix_of_mem hY.g0_12 44 rfl).reshape (by decide),
      (fix_of_mem hY.g0_12 43 rfl).unary (by decide),
      (fix_of_mem hY.g0_12 61 rfl).unary (by decide),
      (fix_of_mem hY.g0_12 46 rfl).reshape (by decide),
      (fix_of_mem hY.g0_12 45 rfl).unary (by decide),
      (fix_of_mem hY.g0_12 62 rfl).unary (by decide),
      (fix_of_mem hY.g0_12 48 rfl).reshape (by decide),
      (fix_of_mem hY.g0_12 47 rfl).unary (by decide),
      (fix_of_mem hY.g0_12 63 rfl).unary (by decide),
      (fix_of_mem hY.g0_12 50 rfl).reshape (by decide),
      (fix_of_mem hY.g0_12 49 rfl).unary (by decide),
      (fix_of_mem hY.g0_12 64 rfl).unary (by decide),
      (fix_of_mem hY.g0_12 52 rfl).reshape (by decide),
      (fix_of_mem hY.g0_12 51 rfl).unary (by decide)]
    rfl
  rw [e, band12_apply]
  match j with
  | ⟨0, _⟩ => exact slab_apply 3 (by decide) slices_S16x15x64x64_S16x1x64x64_0_3_0_0 _ h c 0 k
  | ⟨1, _⟩ => exact slab_apply 4 (by decide) slices_S16x15x64x64_S16x1x64x64_0_4_0_0 _ h c 0 k
  | ⟨2, _⟩ => exact slab_apply 5 (by decide) slices_S16x15x64x64_S16x1x64x64_0_5_0_0 _ h c 0 k
  | ⟨3, _⟩ => exact slab_apply 6 (by decide) slices_S16x15x64x64_S16x1x64x64_0_6_0_0 _ h c 0 k
  | ⟨4, _⟩ => exact slab_apply 7 (by decide) slices_S16x15x64x64_S16x1x64x64_0_7_0_0 _ h c 0 k
  | ⟨5, _⟩ => exact slab_apply 8 (by decide) slices_S16x15x64x64_S16x1x64x64_0_8_0_0 _ h c 0 k
  | ⟨6, _⟩ => exact slab_apply 9 (by decide) slices_S16x15x64x64_S16x1x64x64_0_9_0_0 _ h c 0 k
  | ⟨7, _⟩ => exact slab_apply 10 (by decide) slices_S16x15x64x64_S16x1x64x64_0_10_0_0 _ h c 0 k
  | ⟨8, _⟩ => exact slab_apply 11 (by decide) slices_S16x15x64x64_S16x1x64x64_0_11_0_0 _ h c 0 k
  | ⟨9, _⟩ => exact slab_apply 12 (by decide) slices_S16x15x64x64_S16x1x64x64_0_12_0_0 _ h c 0 k
  | ⟨10, _⟩ => exact slab_apply 13 (by decide) slices_S16x15x64x64_S16x1x64x64_0_13_0_0 _ h c 0 k
  | ⟨11, _⟩ => exact slab_apply 14 (by decide) slices_S16x15x64x64_S16x1x64x64_0_14_0_0 _ h c 0 k
  | ⟨n + 12, hn⟩ => exact absurd hn (by omega)

theorem band_1_1 {Y : Valuation τ sig (Elt Ideal)} (hY : Good Y) (h : Fin 16) (c : Fin 64) (j : Fin 12) (k : Fin 64) :
    (Y (Proc.devRef .tc main_v453) : FVec Ideal S16x64x12x64 .f32) (ix4 h c j k) = toepB Y (ix4 h ⟨min 14 (0 + j.val + 7 - (4 + 1)), by omega⟩ c k) := by
  have e : (Y (Proc.devRef .tc main_v453) : FVec Ideal S16x64x12x64 .f32) = band12 ![slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y), slab 13 slices_S16x15x64x64_S16x1x64x64_0_13_0_0 (toepB Y)] := by
    refine ((fix_of_mem hY.g0_12 102 rfl).nary (by decide)).trans ?_
    show band12 ![Y (Proc.devRef .tc main_v441), Y (Proc.devRef .tc main_v442), Y (Proc.devRef .tc main_v443), Y (Proc.devRef .tc main_v444), Y (Proc.devRef .tc main_v445), Y (Proc.devRef .tc main_v446), Y (Proc.devRef .tc main_v447), Y (Proc.devRef .tc main_v448), Y (Proc.devRef .tc main_v449), Y (Proc.devRef .tc main_v450), Y (Proc.devRef .tc main_v451), Y (Proc.devRef .tc main_v452)] = _
    rw [(fix_of_mem hY.g0_12 90 rfl).unary (by decide),
      (fix_of_mem hY.g0_12 67 rfl).reshape (by decide),
      (fix_of_mem hY.g0_12 66 rfl).unary (by decide),
      (fix_of_mem hY.g0_12 91 rfl).unary (by decide),
      (fix_of_mem hY.g0_12 69 rfl).reshape (by decide),
      (fix_of_mem hY.g0_12 68 rfl).unary (by decide),
      (fix_of_mem hY.g0_12 92 rfl).unary (by decide),
      (fix_of_mem hY.g0_12 71 rfl).reshape (by decide),
      (fix_of_mem hY.g0_12 70 rfl).unary (by decide),
      (fix_of_mem hY.g0_12 93 rfl).unary (by decide),
      (fix_of_mem hY.g0_12 73 rfl).reshape (by decide),
      (fix_of_mem hY.g0_12 72 rfl).unary (by decide),
      (fix_of_mem hY.g0_12 94 rfl).unary (by decide),
      (fix_of_mem hY.g0_12 75 rfl).reshape (by decide),
      (fix_of_mem hY.g0_12 74 rfl).unary (by decide),
      (fix_of_mem hY.g0_12 95 rfl).unary (by decide),
      (fix_of_mem hY.g0_12 77 rfl).reshape (by decide),
      (fix_of_mem hY.g0_12 76 rfl).unary (by decide),
      (fix_of_mem hY.g0_12 96 rfl).unary (by decide),
      (fix_of_mem hY.g0_12 79 rfl).reshape (by decide),
      (fix_of_mem hY.g0_12 78 rfl).unary (by decide),
      (fix_of_mem hY.g0_12 97 rfl).unary (by decide),
      (fix_of_mem hY.g0_12 81 rfl).reshape (by decide),
      (fix_of_mem hY.g0_12 80 rfl).unary (by decide),
      (fix_of_mem hY.g0_12 98 rfl).unary (by decide),
      (fix_of_mem hY.g0_12 83 rfl).reshape (by decide),
      (fix_of_mem hY.g0_12 82 rfl).unary (by decide),
      (fix_of_mem hY.g0_12 99 rfl).unary (by decide),
      (fix_of_mem hY.g0_12 85 rfl).reshape (by decide),
      (fix_of_mem hY.g0_12 84 rfl).unary (by decide),
      (fix_of_mem hY.g0_12 100 rfl).unary (by decide),
      (fix_of_mem hY.g0_12 87 rfl).reshape (by decide),
      (fix_of_mem hY.g0_12 86 rfl).unary (by decide),
      (fix_of_mem hY.g0_12 101 rfl).unary (by decide),
      (fix_of_mem hY.g0_12 89 rfl).reshape (by decide),
      (fix_of_mem hY.g0_12 88 rfl).unary (by decide)]
    rfl
  rw [e, band12_apply]
  match j with
  | ⟨0, _⟩ => exact slab_apply 2 (by decide) slices_S16x15x64x64_S16x1x64x64_0_2_0_0 _ h c 0 k
  | ⟨1, _⟩ => exact slab_apply 3 (by decide) slices_S16x15x64x64_S16x1x64x64_0_3_0_0 _ h c 0 k
  | ⟨2, _⟩ => exact slab_apply 4 (by decide) slices_S16x15x64x64_S16x1x64x64_0_4_0_0 _ h c 0 k
  | ⟨3, _⟩ => exact slab_apply 5 (by decide) slices_S16x15x64x64_S16x1x64x64_0_5_0_0 _ h c 0 k
  | ⟨4, _⟩ => exact slab_apply 6 (by decide) slices_S16x15x64x64_S16x1x64x64_0_6_0_0 _ h c 0 k
  | ⟨5, _⟩ => exact slab_apply 7 (by decide) slices_S16x15x64x64_S16x1x64x64_0_7_0_0 _ h c 0 k
  | ⟨6, _⟩ => exact slab_apply 8 (by decide) slices_S16x15x64x64_S16x1x64x64_0_8_0_0 _ h c 0 k
  | ⟨7, _⟩ => exact slab_apply 9 (by decide) slices_S16x15x64x64_S16x1x64x64_0_9_0_0 _ h c 0 k
  | ⟨8, _⟩ => exact slab_apply 10 (by decide) slices_S16x15x64x64_S16x1x64x64_0_10_0_0 _ h c 0 k
  | ⟨9, _⟩ => exact slab_apply 11 (by decide) slices_S16x15x64x64_S16x1x64x64_0_11_0_0 _ h c 0 k
  | ⟨10, _⟩ => exact slab_apply 12 (by decide) slices_S16x15x64x64_S16x1x64x64_0_12_0_0 _ h c 0 k
  | ⟨11, _⟩ => exact slab_apply 13 (by decide) slices_S16x15x64x64_S16x1x64x64_0_13_0_0 _ h c 0 k
  | ⟨n + 12, hn⟩ => exact absurd hn (by omega)

theorem band_1_2 {Y : Valuation τ sig (Elt Ideal)} (hY : Good Y) (h : Fin 16) (c : Fin 64) (j : Fin 12) (k : Fin 64) :
    (Y (Proc.devRef .tc main_v490) : FVec Ideal S16x64x12x64 .f32) (ix4 h c j k) = toepB Y (ix4 h ⟨min 14 (0 + j.val + 7 - (4 + 2)), by omega⟩ c k) := by
  have e : (Y (Proc.devRef .tc main_v490) : FVec Ideal S16x64x12x64 .f32) = band12 ![slab 1 slices_S16x15x64x64_S16x1x64x64_0_1_0_0 (toepB Y), slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y), slab 12 slices_S16x15x64x64_S16x1x64x64_0_12_0_0 (toepB Y)] := by
    refine ((fix_of_mem hY.g0_12 139 rfl).nary (by decide)).trans ?_
    show band12 ![Y (Proc.devRef .tc main_v478), Y (Proc.devRef .tc main_v479), Y (Proc.devRef .tc main_v480), Y (Proc.devRef .tc main_v481), Y (Proc.devRef .tc main_v482), Y (Proc.devRef .tc main_v483), Y (Proc.devRef .tc main_v484), Y (Proc.devRef .tc main_v485), Y (Proc.devRef .tc main_v486), Y (Proc.devRef .tc main_v487), Y (Proc.devRef .tc main_v488), Y (Proc.devRef .tc main_v489)] = _
    rw [(fix_of_mem hY.g0_12 127 rfl).unary (by decide),
      (fix_of_mem hY.g0_12 104 rfl).reshape (by decide),
      (fix_of_mem hY.g0_12 103 rfl).unary (by decide),
      (fix_of_mem hY.g0_12 128 rfl).unary (by decide),
      (fix_of_mem hY.g0_12 106 rfl).reshape (by decide),
      (fix_of_mem hY.g0_12 105 rfl).unary (by decide),
      (fix_of_mem hY.g0_12 129 rfl).unary (by decide),
      (fix_of_mem hY.g0_12 108 rfl).reshape (by decide),
      (fix_of_mem hY.g0_12 107 rfl).unary (by decide),
      (fix_of_mem hY.g0_12 130 rfl).unary (by decide),
      (fix_of_mem hY.g0_12 110 rfl).reshape (by decide),
      (fix_of_mem hY.g0_12 109 rfl).unary (by decide),
      (fix_of_mem hY.g0_12 131 rfl).unary (by decide),
      (fix_of_mem hY.g0_12 112 rfl).reshape (by decide),
      (fix_of_mem hY.g0_12 111 rfl).unary (by decide),
      (fix_of_mem hY.g0_12 132 rfl).unary (by decide),
      (fix_of_mem hY.g0_12 114 rfl).reshape (by decide),
      (fix_of_mem hY.g0_12 113 rfl).unary (by decide),
      (fix_of_mem hY.g0_12 133 rfl).unary (by decide),
      (fix_of_mem hY.g0_12 116 rfl).reshape (by decide),
      (fix_of_mem hY.g0_12 115 rfl).unary (by decide),
      (fix_of_mem hY.g0_12 134 rfl).unary (by decide),
      (fix_of_mem hY.g0_12 118 rfl).reshape (by decide),
      (fix_of_mem hY.g0_12 117 rfl).unary (by decide),
      (fix_of_mem hY.g0_12 135 rfl).unary (by decide),
      (fix_of_mem hY.g0_12 120 rfl).reshape (by decide),
      (fix_of_mem hY.g0_12 119 rfl).unary (by decide),
      (fix_of_mem hY.g0_12 136 rfl).unary (by decide),
      (fix_of_mem hY.g0_12 122 rfl).reshape (by decide),
      (fix_of_mem hY.g0_12 121 rfl).unary (by decide),
      (fix_of_mem hY.g0_12 137 rfl).unary (by decide),
      (fix_of_mem hY.g0_12 124 rfl).reshape (by decide),
      (fix_of_mem hY.g0_12 123 rfl).unary (by decide),
      (fix_of_mem hY.g0_12 138 rfl).unary (by decide),
      (fix_of_mem hY.g0_12 126 rfl).reshape (by decide),
      (fix_of_mem hY.g0_12 125 rfl).unary (by decide)]
    rfl
  rw [e, band12_apply]
  match j with
  | ⟨0, _⟩ => exact slab_apply 1 (by decide) slices_S16x15x64x64_S16x1x64x64_0_1_0_0 _ h c 0 k
  | ⟨1, _⟩ => exact slab_apply 2 (by decide) slices_S16x15x64x64_S16x1x64x64_0_2_0_0 _ h c 0 k
  | ⟨2, _⟩ => exact slab_apply 3 (by decide) slices_S16x15x64x64_S16x1x64x64_0_3_0_0 _ h c 0 k
  | ⟨3, _⟩ => exact slab_apply 4 (by decide) slices_S16x15x64x64_S16x1x64x64_0_4_0_0 _ h c 0 k
  | ⟨4, _⟩ => exact slab_apply 5 (by decide) slices_S16x15x64x64_S16x1x64x64_0_5_0_0 _ h c 0 k
  | ⟨5, _⟩ => exact slab_apply 6 (by decide) slices_S16x15x64x64_S16x1x64x64_0_6_0_0 _ h c 0 k
  | ⟨6, _⟩ => exact slab_apply 7 (by decide) slices_S16x15x64x64_S16x1x64x64_0_7_0_0 _ h c 0 k
  | ⟨7, _⟩ => exact slab_apply 8 (by decide) slices_S16x15x64x64_S16x1x64x64_0_8_0_0 _ h c 0 k
  | ⟨8, _⟩ => exact slab_apply 9 (by decide) slices_S16x15x64x64_S16x1x64x64_0_9_0_0 _ h c 0 k
  | ⟨9, _⟩ => exact slab_apply 10 (by decide) slices_S16x15x64x64_S16x1x64x64_0_10_0_0 _ h c 0 k
  | ⟨10, _⟩ => exact slab_apply 11 (by decide) slices_S16x15x64x64_S16x1x64x64_0_11_0_0 _ h c 0 k
  | ⟨11, _⟩ => exact slab_apply 12 (by decide) slices_S16x15x64x64_S16x1x64x64_0_12_0_0 _ h c 0 k
  | ⟨n + 12, hn⟩ => exact absurd hn (by omega)

theorem band_1_3 {Y : Valuation τ sig (Elt Ideal)} (hY : Good Y) (h : Fin 16) (c : Fin 64) (j : Fin 12) (k : Fin 64) :
    (Y (Proc.devRef .tc main_v527) : FVec Ideal S16x64x12x64 .f32) (ix4 h c j k) = toepB Y (ix4 h ⟨min 14 (0 + j.val + 7 - (4 + 3)), by omega⟩ c k) := by
  have e : (Y (Proc.devRef .tc main_v527) : FVec Ideal S16x64x12x64 .f32) = band12 ![slab 0 slices_S16x15x64x64_S16x1x64x64_0_0_0_0 (toepB Y), slab 1 slices_S16x15x64x64_S16x1x64x64_0_1_0_0 (toepB Y), slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y), slab 11 slices_S16x15x64x64_S16x1x64x64_0_11_0_0 (toepB Y)] := by
    refine ((fix_of_mem hY.g0_12 176 rfl).nary (by decide)).trans ?_
    show band12 ![Y (Proc.devRef .tc main_v515), Y (Proc.devRef .tc main_v516), Y (Proc.devRef .tc main_v517), Y (Proc.devRef .tc main_v518), Y (Proc.devRef .tc main_v519), Y (Proc.devRef .tc main_v520), Y (Proc.devRef .tc main_v521), Y (Proc.devRef .tc main_v522), Y (Proc.devRef .tc main_v523), Y (Proc.devRef .tc main_v524), Y (Proc.devRef .tc main_v525), Y (Proc.devRef .tc main_v526)] = _
    rw [(fix_of_mem hY.g0_12 164 rfl).unary (by decide),
      (fix_of_mem hY.g0_12 141 rfl).reshape (by decide),
      (fix_of_mem hY.g0_12 140 rfl).unary (by decide),
      (fix_of_mem hY.g0_12 165 rfl).unary (by decide),
      (fix_of_mem hY.g0_12 143 rfl).reshape (by decide),
      (fix_of_mem hY.g0_12 142 rfl).unary (by decide),
      (fix_of_mem hY.g0_12 166 rfl).unary (by decide),
      (fix_of_mem hY.g0_12 145 rfl).reshape (by decide),
      (fix_of_mem hY.g0_12 144 rfl).unary (by decide),
      (fix_of_mem hY.g0_12 167 rfl).unary (by decide),
      (fix_of_mem hY.g0_12 147 rfl).reshape (by decide),
      (fix_of_mem hY.g0_12 146 rfl).unary (by decide),
      (fix_of_mem hY.g0_12 168 rfl).unary (by decide),
      (fix_of_mem hY.g0_12 149 rfl).reshape (by decide),
      (fix_of_mem hY.g0_12 148 rfl).unary (by decide),
      (fix_of_mem hY.g0_12 169 rfl).unary (by decide),
      (fix_of_mem hY.g0_12 151 rfl).reshape (by decide),
      (fix_of_mem hY.g0_12 150 rfl).unary (by decide),
      (fix_of_mem hY.g0_12 170 rfl).unary (by decide),
      (fix_of_mem hY.g0_12 153 rfl).reshape (by decide),
      (fix_of_mem hY.g0_12 152 rfl).unary (by decide),
      (fix_of_mem hY.g0_12 171 rfl).unary (by decide),
      (fix_of_mem hY.g0_12 155 rfl).reshape (by decide),
      (fix_of_mem hY.g0_12 154 rfl).unary (by decide),
      (fix_of_mem hY.g0_12 172 rfl).unary (by decide),
      (fix_of_mem hY.g0_12 157 rfl).reshape (by decide),
      (fix_of_mem hY.g0_12 156 rfl).unary (by decide),
      (fix_of_mem hY.g0_12 173 rfl).unary (by decide),
      (fix_of_mem hY.g0_12 159 rfl).reshape (by decide),
      (fix_of_mem hY.g0_12 158 rfl).unary (by decide),
      (fix_of_mem hY.g0_12 174 rfl).unary (by decide),
      (fix_of_mem hY.g0_12 161 rfl).reshape (by decide),
      (fix_of_mem hY.g0_12 160 rfl).unary (by decide),
      (fix_of_mem hY.g0_12 175 rfl).unary (by decide),
      (fix_of_mem hY.g0_12 163 rfl).reshape (by decide),
      (fix_of_mem hY.g0_12 162 rfl).unary (by decide)]
    rfl
  rw [e, band12_apply]
  match j with
  | ⟨0, _⟩ => exact slab_apply 0 (by decide) slices_S16x15x64x64_S16x1x64x64_0_0_0_0 _ h c 0 k
  | ⟨1, _⟩ => exact slab_apply 1 (by decide) slices_S16x15x64x64_S16x1x64x64_0_1_0_0 _ h c 0 k
  | ⟨2, _⟩ => exact slab_apply 2 (by decide) slices_S16x15x64x64_S16x1x64x64_0_2_0_0 _ h c 0 k
  | ⟨3, _⟩ => exact slab_apply 3 (by decide) slices_S16x15x64x64_S16x1x64x64_0_3_0_0 _ h c 0 k
  | ⟨4, _⟩ => exact slab_apply 4 (by decide) slices_S16x15x64x64_S16x1x64x64_0_4_0_0 _ h c 0 k
  | ⟨5, _⟩ => exact slab_apply 5 (by decide) slices_S16x15x64x64_S16x1x64x64_0_5_0_0 _ h c 0 k
  | ⟨6, _⟩ => exact slab_apply 6 (by decide) slices_S16x15x64x64_S16x1x64x64_0_6_0_0 _ h c 0 k
  | ⟨7, _⟩ => exact slab_apply 7 (by decide) slices_S16x15x64x64_S16x1x64x64_0_7_0_0 _ h c 0 k
  | ⟨8, _⟩ => exact slab_apply 8 (by decide) slices_S16x15x64x64_S16x1x64x64_0_8_0_0 _ h c 0 k
  | ⟨9, _⟩ => exact slab_apply 9 (by decide) slices_S16x15x64x64_S16x1x64x64_0_9_0_0 _ h c 0 k
  | ⟨10, _⟩ => exact slab_apply 10 (by decide) slices_S16x15x64x64_S16x1x64x64_0_10_0_0 _ h c 0 k
  | ⟨11, _⟩ => exact slab_apply 11 (by decide) slices_S16x15x64x64_S16x1x64x64_0_11_0_0 _ h c 0 k
  | ⟨n + 12, hn⟩ => exact absurd hn (by omega)

theorem rows_1 {Y : Valuation τ sig (Elt Ideal)} (hY : Good Y) (h : Fin 16) (a : Fin 4) (c : Fin 64) (j : Fin 12) (k : Fin 64) :
    (Y (Proc.devRef .tc main_v533) : FVec Ideal S16x256x768 .f32) (ix3 h ⟨64 * a.val + c.val, by omega⟩ ⟨64 * j.val + k.val, by omega⟩)
      = toepB Y (ix4 h ⟨min 14 (0 + j.val + 7 - (4 + a.val)), by omega⟩ c k) := by
  have e : (Y (Proc.devRef .tc main_v533) : FVec Ideal S16x256x768 .f32) = rows4 ![Y (Proc.devRef .tc main_v416), Y (Proc.devRef .tc main_v453), Y (Proc.devRef .tc main_v490), Y (Proc.devRef .tc main_v527)] := by
    rw [(fix_of_mem hY.g0_12 182 rfl).reshape (by decide), (fix_of_mem hY.g0_12 181 rfl).nary (by decide)]
    show shapeCast S16x256x768 (concatenate S16x4x64x12x64 1 [⟨S16x1x64x12x64, (Y (Proc.devRef .tc main_v528) : FVec Ideal S16x1x64x12x64 .f32)⟩, ⟨S16x1x64x12x64, (Y (Proc.devRef .tc main_v529) : FVec Ideal S16x1x64x12x64 .f32)⟩, ⟨S16x1x64x12x64, (Y (Proc.devRef .tc main_v530) : FVec Ideal S16x1x64x12x64 .f32)⟩, ⟨S16x1x64x12x64, (Y (Proc.devRef .tc main_v531) : FVec Ideal S16x1x64x12x64 .f32)⟩] concatenates_S16x1x64x12x64_S16x1x64x12x64_S16x1x64x12x64_S16x1x64x12x64_S16x4x64x12x64_d1) shapeCasts_S16x4x64x12x64_S16x256x768 = _
    rw [(fix_of_mem hY.g0_12 177 rfl).unary (by decide), (fix_of_mem hY.g0_12 178 rfl).unary (by decide), (fix_of_mem hY.g0_12 179 rfl).unary (by decide), (fix_of_mem hY.g0_12 180 rfl).unary (by decide)]
    rfl
  rw [e, rows4_apply]
  match a with
  | ⟨0, _⟩ => exact band_1_0 hY h c j k
  | ⟨1, _⟩ => exact band_1_1 hY h c j k
  | ⟨2, _⟩ => exact band_1_2 hY h c j k
  | ⟨3, _⟩ => exact band_1_3 hY h c j k

theorem tab_1 {Y : Valuation τ sig (Elt Ideal)} (hY : Good Y) :
    (Y (Proc.devRef .tc main_v535) : FVec Ideal S16x256x768 .f32) = maskedB (okB 4#32 0#32) (Y (Proc.devRef .tc main_v533)) := by
  rw [(fix_of_mem hY.g0_13 3 rfl).ternary (by decide) (by decide) (by decide), (fix_of_mem hY.g0_13 1 rfl).unary (by decide), (fix_of_mem hY.g0_13 2 rfl).unary (by decide), (fix_of_mem hY.g0_13 0 rfl).unary (by decide), (fix_of_mem hY.g0_12 184 rfl).nullary, (fix_of_mem hY.g0_12 183 rfl).unary (by decide), ok_1 hY]
  rfl

end Cert.NA
-- ==== Proof.Tab2.lean ====
/- The table of biases of variant 2, read off the host operations. -/
module

public import proofs.«01_k».proof.Proof.Tab
public import proofs.«01_k».proof.Proof.Toep

@[expose] public section

set_option maxRecDepth 16384

noncomputable section

namespace Cert.NA

open Idealize.ShloMosaic Idealize.ShloMosaic.TcCoe
open Cert.KernelIdeal Cert.KernelIdeal.Gen Cert.KernelIdeal.Hand

theorem ok_2 {Y : Valuation τ sig (Elt Ideal)} (hY : Good Y) : (Y (Proc.devRef .tc main_v580) : IVec S256x768 1) = okB 28#32 20#32 := by
  rw [(fix_of_mem hY.g0_18 28 rfl).binary (by decide) (by decide),
    (fix_of_mem hY.g0_18 27 rfl).binary (by decide) (by decide),
    (fix_of_mem hY.g0_18 26 rfl).unary (by decide),
    (fix_of_mem hY.g0_18 25 rfl).unary (by decide),
    (fix_of_mem hY.g0_18 24 rfl).binary (by decide) (by decide),
    (fix_of_mem hY.g0_18 23 rfl).unary (by decide),
    (fix_of_mem hY.g0_18 22 rfl).nullary,
    (fix_of_mem hY.g0_18 21 rfl).unary (by decide),
    (fix_of_mem hY.g0_18 20 rfl).unary (by decide),
    (fix_of_mem hY.g0_18 19 rfl).binary (by decide) (by decide),
    (fix_of_mem hY.g0_18 18 rfl).binary (by decide) (by decide),
    (fix_of_mem hY.g0_18 17 rfl).unary (by decide),
    (fix_of_mem hY.g0_18 16 rfl).unary (by decide),
    (fix_of_mem hY.g0_18 15 rfl).unary (by decide),
    (fix_of_mem hY.g0_18 14 rfl).unary (by decide),
    (fix_of_mem hY.g0_18 13 rfl).binary (by decide) (by decide),
    (fix_of_mem hY.g0_18 12 rfl).binary (by decide) (by decide),
    (fix_of_mem hY.g0_18 11 rfl).unary (by decide),
    (fix_of_mem hY.g0_18 10 rfl).unary (by decide),
    (fix_of_mem hY.g0_18 9 rfl).binary (by decide) (by decide),
    (fix_of_mem hY.g0_18 8 rfl).unary (by decide),
    (fix_of_mem hY.g0_18 7 rfl).nullary,
    (fix_of_mem hY.g0_18 6 rfl).unary (by decide),
    (fix_of_mem hY.g0_18 5 rfl).unary (by decide),
    (fix_of_mem hY.g0_18 4 rfl).binary (by decide) (by decide),
    (fix_of_mem hY.g0_18 3 rfl).unary (by decide),
    (fix_of_mem hY.g0_18 2 rfl).unary (by decide),
    (fix_of_mem hY.g0_18 1 rfl).unary (by decide),
    (fix_of_mem hY.g0_18 0 rfl).unary (by decide),
    (fix_of_mem hY.g0_17 5 rfl).binary (by decide) (by decide),
    (fix_of_mem hY.g0_17 4 rfl).unary (by decide),
    (fix_of_mem hY.g0_17 3 rfl).unary (by decide),
    (fix_of_mem hY.g0_17 2 rfl).binary (by decide) (by decide),
    (fix_of_mem hY.g0_17 1 rfl).unary (by decide),
    (fix_of_mem hY.g0_17 0 rfl).unary (by decide),
    (fix_of_mem hY.g0_16 4 rfl).nullary,
    (fix_of_mem hY.g0_16 3 rfl).nullary,
    (fix_of_mem hY.g0_16 2 rfl).binary (by decide) (by decide),
    (fix_of_mem hY.g0_16 1 rfl).unary (by decide),
    (fix_of_mem hY.g0_16 0 rfl).nullary,
    (fix_of_mem hY.g0_15 5 rfl).binary (by decide) (by decide),
    (fix_of_mem hY.g0_15 4 rfl).unary (by decide),
    (fix_of_mem hY.g0_15 3 rfl).unary (by decide),
    (fix_of_mem hY.g0_15 2 rfl).binary (by decide) (by decide),
    (fix_of_mem hY.g0_15 1 rfl).unary (by decide),
    (fix_of_mem hY.g0_15 0 rfl).unary (by decide),
    (fix_of_mem hY.g0_14 18 rfl).nullary,
    (fix_of_mem hY.g0_14 17 rfl).nullary,
    (fix_of_mem hY.g0_14 16 rfl).binary (by decide) (by decide),
    (fix_of_mem hY.g0_14 15 rfl).unary (by decide),
    (fix_of_mem hY.g0_14 14 rfl).nullary,
    (fix_of_mem hY.g0_14 13 rfl).reshape (by decide),
    (fix_of_mem hY.g0_14 12 rfl).nullary,
    (fix_of_mem hY.g0_14 11 rfl).binary (by decide) (by decide),
    (fix_of_mem hY.g0_14 10 rfl).unary (by decide),
    (fix_of_mem hY.g0_14 9 rfl).nullary,
    (fix_of_mem hY.g0_14 8 rfl).reshape (by decide),
    (fix_of_mem hY.g0_14 7 rfl).nullary,
    (fix_of_mem hY.g0_14 6 rfl).reshape (by decide),
    (fix_of_mem hY.g0_14 5 rfl).nullary,
    (fix_of_mem hY.g0_14 4 rfl).binary (by decide) (by decide),
    (fix_of_mem hY.g0_14 3 rfl).unary (by decide),
    (fix_of_mem hY.g0_14 2 rfl).nullary,
    (fix_of_mem hY.g0_14 1 rfl).reshape (by decide),
    (fix_of_mem hY.g0_14 0 rfl).nullary]
  rfl

theorem band_2_0 {Y : Valuation τ sig (Elt Ideal)} (hY : Good Y) (h : Fin 16) (c : Fin 64) (j : Fin 12) (k : Fin 64) :
    (Y (Proc.devRef .tc main_v617) : FVec Ideal S16x64x12x64 .f32) (ix4 h c j k) = toepB Y (ix4 h ⟨min 14 (20 + j.val + 7 - (28 + 0)), by omega⟩ c k) := by
  have e : (Y (Proc.devRef .tc main_v617) : FVec Ideal S16x64x12x64 .f32) = band12 ![slab 0 slices_S16x15x64x64_S16x1x64x64_0_0_0_0 (toepB Y), slab 0 slices_S16x15x64x64_S16x1x64x64_0_0_0_0 (toepB Y), slab 1 slices_S16x15x64x64_S16x1x64x64_0_1_0_0 (toepB Y), slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y), slab 10 slices_S16x15x64x64_S16x1x64x64_0_10_0_0 (toepB Y)] := by
    refine ((fix_of_mem hY.g0_18 65 rfl).nary (by decide)).trans ?_
    show band12 ![Y (Proc.devRef .tc main_v605), Y (Proc.devRef .tc main_v606), Y (Proc.devRef .tc main_v607), Y (Proc.devRef .tc main_v608), Y (Proc.devRef .tc main_v609), Y (Proc.devRef .tc main_v610), Y (Proc.devRef .tc main_v611), Y (Proc.devRef .tc main_v612), Y (Proc.devRef .tc main_v613), Y (Proc.devRef .tc main_v614), Y (Proc.devRef .tc main_v615), Y (Proc.devRef .tc main_v616)] = _
    rw [(fix_of_mem hY.g0_18 53 rfl).unary (by decide),
      (fix_of_mem hY.g0_18 30 rfl).reshape (by decide),
      (fix_of_mem hY.g0_18 29 rfl).unary (by decide),
      (fix_of_mem hY.g0_18 54 rfl).unary (by decide),
      (fix_of_mem hY.g0_18 32 rfl).reshape (by decide),
      (fix_of_mem hY.g0_18 31 rfl).unary (by decide),
      (fix_of_mem hY.g0_18 55 rfl).unary (by decide),
      (fix_of_mem hY.g0_18 34 rfl).reshape (by decide),
      (fix_of_mem hY.g0_18 33 rfl).unary (by decide),
      (fix_of_mem hY.g0_18 56 rfl).unary (by decide),
      (fix_of_mem hY.g0_18 36 rfl).reshape (by decide),
      (fix_of_mem hY.g0_18 35 rfl).unary (by decide),
      (fix_of_mem hY.g0_18 57 rfl).unary (by decide),
      (fix_of_mem hY.g0_18 38 rfl).reshape (by decide),
      (fix_of_mem hY.g0_18 37 rfl).unary (by decide),
      (fix_of_mem hY.g0_18 58 rfl).unary (by decide),
      (fix_of_mem hY.g0_18 40 rfl).reshape (by decide),
      (fix_of_mem hY.g0_18 39 rfl).unary (by decide),
      (fix_of_mem hY.g0_18 59 rfl).unary (by decide),
      (fix_of_mem hY.g0_18 42 rfl).reshape (by decide),
      (fix_of_mem hY.g0_18 41 rfl).unary (by decide),
      (fix_of_mem hY.g0_18 60 rfl).unary (by decide),
      (fix_of_mem hY.g0_18 44 rfl).reshape (by decide),
      (fix_of_mem hY.g0_18 43 rfl).unary (by decide),
      (fix_of_mem hY.g0_18 61 rfl).unary (by decide),
      (fix_of_mem hY.g0_18 46 rfl).reshape (by decide),
      (fix_of_mem hY.g0_18 45 rfl).unary (by decide),
      (fix_of_mem hY.g0_18 62 rfl).unary (by decide),
      (fix_of_mem hY.g0_18 48 rfl).reshape (by decide),
      (fix_of_mem hY.g0_18 47 rfl).unary (by decide),
      (fix_of_mem hY.g0_18 63 rfl).unary (by decide),
      (fix_of_mem hY.g0_18 50 rfl).reshape (by decide),
      (fix_of_mem hY.g0_18 49 rfl).unary (by decide),
      (fix_of_mem hY.g0_18 64 rfl).unary (by decide),
      (fix_of_mem hY.g0_18 52 rfl).reshape (by decide),
      (fix_of_mem hY.g0_18 51 rfl).unary (by decide)]
    rfl
  rw [e, band12_apply]
  match j with
  | ⟨0, _⟩ => exact slab_apply 0 (by decide) slices_S16x15x64x64_S16x1x64x64_0_0_0_0 _ h c 0 k
  | ⟨1, _⟩ => exact slab_apply 0 (by decide) slices_S16x15x64x64_S16x1x64x64_0_0_0_0 _ h c 0 k
  | ⟨2, _⟩ => exact slab_apply 1 (by decide) slices_S16x15x64x64_S16x1x64x64_0_1_0_0 _ h c 0 k
  | ⟨3, _⟩ => exact slab_apply 2 (by decide) slices_S16x15x64x64_S16x1x64x64_0_2_0_0 _ h c 0 k
  | ⟨4, _⟩ => exact slab_apply 3 (by decide) slices_S16x15x64x64_S16x1x64x64_0_3_0_0 _ h c 0 k
  | ⟨5, _⟩ => exact slab_apply 4 (by decide) slices_S16x15x64x64_S16x1x64x64_0_4_0_0 _ h c 0 k
  | ⟨6, _⟩ => exact slab_apply 5 (by decide) slices_S16x15x64x64_S16x1x64x64_0_5_0_0 _ h c 0 k
  | ⟨7, _⟩ => exact slab_apply 6 (by decide) slices_S16x15x64x64_S16x1x64x64_0_6_0_0 _ h c 0 k
  | ⟨8, _⟩ => exact slab_apply 7 (by decide) slices_S16x15x64x64_S16x1x64x64_0_7_0_0 _ h c 0 k
  | ⟨9, _⟩ => exact slab_apply 8 (by decide) slices_S16x15x64x64_S16x1x64x64_0_8_0_0 _ h c 0 k
  | ⟨10, _⟩ => exact slab_apply 9 (by decide) slices_S16x15x64x64_S16x1x64x64_0_9_0_0 _ h c 0 k
  | ⟨11, _⟩ => exact slab_apply 10 (by decide) slices_S16x15x64x64_S16x1x64x64_0_10_0_0 _ h c 0 k
  | ⟨n + 12, hn⟩ => exact absurd hn (by omega)

theorem band_2_1 {Y : Valuation τ sig (Elt Ideal)} (hY : Good Y) (h : Fin 16) (c : Fin 64) (j : Fin 12) (k : Fin 64) :
    (Y (Proc.devRef .tc main_v654) : FVec Ideal S16x64x12x64 .f32) (ix4 h c j k) = toepB Y (ix4 h ⟨min 14 (20 + j.val + 7 - (28 + 1)), by omega⟩ c k) := by
  have e : (Y (Proc.devRef .tc main_v654) : FVec Ideal S16x64x12x64 .f32) = band12 ![slab 0 slices_S16x15x64x64_S16x1x64x64_0_0_0_0 (toepB Y), slab 0 slices_S16x15x64x64_S16x1x64x64_0_0_0_0 (toepB Y), slab 0 slices_S16x15x64x64_S16x1x64x64_0_0_0_0 (toepB Y), slab 1 slices_S16x15x64x64_S16x1x64x64_0_1_0_0 (toepB Y), slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y), slab 9 slices_S16x15x64x64_S16x1x64x64_0_9_0_0 (toepB Y)] := by
    refine ((fix_of_mem hY.g0_18 102 rfl).nary (by decide)).trans ?_
    show band12 ![Y (Proc.devRef .tc main_v642), Y (Proc.devRef .tc main_v643), Y (Proc.devRef .tc main_v644), Y (Proc.devRef .tc main_v645), Y (Proc.devRef .tc main_v646), Y (Proc.devRef .tc main_v647), Y (Proc.devRef .tc main_v648), Y (Proc.devRef .tc main_v649), Y (Proc.devRef .tc main_v650), Y (Proc.devRef .tc main_v651), Y (Proc.devRef .tc main_v652), Y (Proc.devRef .tc main_v653)] = _
    rw [(fix_of_mem hY.g0_18 90 rfl).unary (by decide),
      (fix_of_mem hY.g0_18 67 rfl).reshape (by decide),
      (fix_of_mem hY.g0_18 66 rfl).unary (by decide),
      (fix_of_mem hY.g0_18 91 rfl).unary (by decide),
      (fix_of_mem hY.g0_18 69 rfl).reshape (by decide),
      (fix_of_mem hY.g0_18 68 rfl).unary (by decide),
      (fix_of_mem hY.g0_18 92 rfl).unary (by decide),
      (fix_of_mem hY.g0_18 71 rfl).reshape (by decide),
      (fix_of_mem hY.g0_18 70 rfl).unary (by decide),
      (fix_of_mem hY.g0_18 93 rfl).unary (by decide),
      (fix_of_mem hY.g0_18 73 rfl).reshape (by decide),
      (fix_of_mem hY.g0_18 72 rfl).unary (by decide),
      (fix_of_mem hY.g0_18 94 rfl).unary (by decide),
      (fix_of_mem hY.g0_18 75 rfl).reshape (by decide),
      (fix_of_mem hY.g0_18 74 rfl).unary (by decide),
      (fix_of_mem hY.g0_18 95 rfl).unary (by decide),
      (fix_of_mem hY.g0_18 77 rfl).reshape (by decide),
      (fix_of_mem hY.g0_18 76 rfl).unary (by decide),
      (fix_of_mem hY.g0_18 96 rfl).unary (by decide),
      (fix_of_mem hY.g0_18 79 rfl).reshape (by decide),
      (fix_of_mem hY.g0_18 78 rfl).unary (by decide),
      (fix_of_mem hY.g0_18 97 rfl).unary (by decide),
      (fix_of_mem hY.g0_18 81 rfl).reshape (by decide),
      (fix_of_mem hY.g0_18 80 rfl).unary (by decide),
      (fix_of_mem hY.g0_18 98 rfl).unary (by decide),
      (fix_of_mem hY.g0_18 83 rfl).reshape (by decide),
      (fix_of_mem hY.g0_18 82 rfl).unary (by decide),
      (fix_of_mem hY.g0_18 99 rfl).unary (by decide),
      (fix_of_mem hY.g0_18 85 rfl).reshape (by decide),
      (fix_of_mem hY.g0_18 84 rfl).unary (by decide),
      (fix_of_mem hY.g0_18 100 rfl).unary (by decide),
      (fix_of_mem hY.g0_18 87 rfl).reshape (by decide),
      (fix_of_mem hY.g0_18 86 rfl).unary (by decide),
      (fix_of_mem hY.g0_18 101 rfl).unary (by decide),
      (fix_of_mem hY.g0_18 89 rfl).reshape (by decide),
      (fix_of_mem hY.g0_18 88 rfl).unary (by decide)]
    rfl
  rw [e, band12_apply]
  match j with
  | ⟨0, _⟩ => exact slab_apply 0 (by decide) slices_S16x15x64x64_S16x1x64x64_0_0_0_0 _ h c 0 k
  | ⟨1, _⟩ => exact slab_apply 0 (by decide) slices_S16x15x64x64_S16x1x64x64_0_0_0_0 _ h c 0 k
  | ⟨2, _⟩ => exact slab_apply 0 (by decide) slices_S16x15x64x64_S16x1x64x64_0_0_0_0 _ h c 0 k
  | ⟨3, _⟩ => exact slab_apply 1 (by decide) slices_S16x15x64x64_S16x1x64x64_0_1_0_0 _ h c 0 k
  | ⟨4, _⟩ => exact slab_apply 2 (by decide) slices_S16x15x64x64_S16x1x64x64_0_2_0_0 _ h c 0 k
  | ⟨5, _⟩ => exact slab_apply 3 (by decide) slices_S16x15x64x64_S16x1x64x64_0_3_0_0 _ h c 0 k
  | ⟨6, _⟩ => exact slab_apply 4 (by decide) slices_S16x15x64x64_S16x1x64x64_0_4_0_0 _ h c 0 k
  | ⟨7, _⟩ => exact slab_apply 5 (by decide) slices_S16x15x64x64_S16x1x64x64_0_5_0_0 _ h c 0 k
  | ⟨8, _⟩ => exact slab_apply 6 (by decide) slices_S16x15x64x64_S16x1x64x64_0_6_0_0 _ h c 0 k
  | ⟨9, _⟩ => exact slab_apply 7 (by decide) slices_S16x15x64x64_S16x1x64x64_0_7_0_0 _ h c 0 k
  | ⟨10, _⟩ => exact slab_apply 8 (by decide) slices_S16x15x64x64_S16x1x64x64_0_8_0_0 _ h c 0 k
  | ⟨11, _⟩ => exact slab_apply 9 (by decide) slices_S16x15x64x64_S16x1x64x64_0_9_0_0 _ h c 0 k
  | ⟨n + 12, hn⟩ => exact absurd hn (by omega)

theorem band_2_2 {Y : Valuation τ sig (Elt Ideal)} (hY : Good Y) (h : Fin 16) (c : Fin 64) (j : Fin 12) (k : Fin 64) :
    (Y (Proc.devRef .tc main_v691) : FVec Ideal S16x64x12x64 .f32) (ix4 h c j k) = toepB Y (ix4 h ⟨min 14 (20 + j.val + 7 - (28 + 2)), by omega⟩ c k) := by
  have e : (Y (Proc.devRef .tc main_v691) : FVec Ideal S16x64x12x64 .f32) = band12 ![slab 0 slices_S16x15x64x64_S16x1x64x64_0_0_0_0 (toepB Y), slab 0 slices_S16x15x64x64_S16x1x64x64_0_0_0_0 (toepB Y), slab 0 slices_S16x15x64x64_S16x1x64x64_0_0_0_0 (toepB Y), slab 0 slices_S16x15x64x64_S16x1x64x64_0_0_0_0 (toepB Y), slab 1 slices_S16x15x64x64_S16x1x64x64_0_1_0_0 (toepB Y), slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y), slab 8 slices_S16x15x64x64_S16x1x64x64_0_8_0_0 (toepB Y)] := by
    refine ((fix_of_mem hY.g0_18 139 rfl).nary (by decide)).trans ?_
    show band12 ![Y (Proc.devRef .tc main_v679), Y (Proc.devRef .tc main_v680), Y (Proc.devRef .tc main_v681), Y (Proc.devRef .tc main_v682), Y (Proc.devRef .tc main_v683), Y (Proc.devRef .tc main_v684), Y (Proc.devRef .tc main_v685), Y (Proc.devRef .tc main_v686), Y (Proc.devRef .tc main_v687), Y (Proc.devRef .tc main_v688), Y (Proc.devRef .tc main_v689), Y (Proc.devRef .tc main_v690)] = _
    rw [(fix_of_mem hY.g0_18 127 rfl).unary (by decide),
      (fix_of_mem hY.g0_18 104 rfl).reshape (by decide),
      (fix_of_mem hY.g0_18 103 rfl).unary (by decide),
      (fix_of_mem hY.g0_18 128 rfl).unary (by decide),
      (fix_of_mem hY.g0_18 106 rfl).reshape (by decide),
      (fix_of_mem hY.g0_18 105 rfl).unary (by decide),
      (fix_of_mem hY.g0_18 129 rfl).unary (by decide),
      (fix_of_mem hY.g0_18 108 rfl).reshape (by decide),
      (fix_of_mem hY.g0_18 107 rfl).unary (by decide),
      (fix_of_mem hY.g0_18 130 rfl).unary (by decide),
      (fix_of_mem hY.g0_18 110 rfl).reshape (by decide),
      (fix_of_mem hY.g0_18 109 rfl).unary (by decide),
      (fix_of_mem hY.g0_18 131 rfl).unary (by decide),
      (fix_of_mem hY.g0_18 112 rfl).reshape (by decide),
      (fix_of_mem hY.g0_18 111 rfl).unary (by decide),
      (fix_of_mem hY.g0_18 132 rfl).unary (by decide),
      (fix_of_mem hY.g0_18 114 rfl).reshape (by decide),
      (fix_of_mem hY.g0_18 113 rfl).unary (by decide),
      (fix_of_mem hY.g0_18 133 rfl).unary (by decide),
      (fix_of_mem hY.g0_18 116 rfl).reshape (by decide),
      (fix_of_mem hY.g0_18 115 rfl).unary (by decide),
      (fix_of_mem hY.g0_18 134 rfl).unary (by decide),
      (fix_of_mem hY.g0_18 118 rfl).reshape (by decide),
      (fix_of_mem hY.g0_18 117 rfl).unary (by decide),
      (fix_of_mem hY.g0_18 135 rfl).unary (by decide),
      (fix_of_mem hY.g0_18 120 rfl).reshape (by decide),
      (fix_of_mem hY.g0_18 119 rfl).unary (by decide),
      (fix_of_mem hY.g0_18 136 rfl).unary (by decide),
      (fix_of_mem hY.g0_18 122 rfl).reshape (by decide),
      (fix_of_mem hY.g0_18 121 rfl).unary (by decide),
      (fix_of_mem hY.g0_18 137 rfl).unary (by decide),
      (fix_of_mem hY.g0_18 124 rfl).reshape (by decide),
      (fix_of_mem hY.g0_18 123 rfl).unary (by decide),
      (fix_of_mem hY.g0_18 138 rfl).unary (by decide),
      (fix_of_mem hY.g0_18 126 rfl).reshape (by decide),
      (fix_of_mem hY.g0_18 125 rfl).unary (by decide)]
    rfl
  rw [e, band12_apply]
  match j with
  | ⟨0, _⟩ => exact slab_apply 0 (by decide) slices_S16x15x64x64_S16x1x64x64_0_0_0_0 _ h c 0 k
  | ⟨1, _⟩ => exact slab_apply 0 (by decide) slices_S16x15x64x64_S16x1x64x64_0_0_0_0 _ h c 0 k
  | ⟨2, _⟩ => exact slab_apply 0 (by decide) slices_S16x15x64x64_S16x1x64x64_0_0_0_0 _ h c 0 k
  | ⟨3, _⟩ => exact slab_apply 0 (by decide) slices_S16x15x64x64_S16x1x64x64_0_0_0_0 _ h c 0 k
  | ⟨4, _⟩ => exact slab_apply 1 (by decide) slices_S16x15x64x64_S16x1x64x64_0_1_0_0 _ h c 0 k
  | ⟨5, _⟩ => exact slab_apply 2 (by decide) slices_S16x15x64x64_S16x1x64x64_0_2_0_0 _ h c 0 k
  | ⟨6, _⟩ => exact slab_apply 3 (by decide) slices_S16x15x64x64_S16x1x64x64_0_3_0_0 _ h c 0 k
  | ⟨7, _⟩ => exact slab_apply 4 (by decide) slices_S16x15x64x64_S16x1x64x64_0_4_0_0 _ h c 0 k
  | ⟨8, _⟩ => exact slab_apply 5 (by decide) slices_S16x15x64x64_S16x1x64x64_0_5_0_0 _ h c 0 k
  | ⟨9, _⟩ => exact slab_apply 6 (by decide) slices_S16x15x64x64_S16x1x64x64_0_6_0_0 _ h c 0 k
  | ⟨10, _⟩ => exact slab_apply 7 (by decide) slices_S16x15x64x64_S16x1x64x64_0_7_0_0 _ h c 0 k
  | ⟨11, _⟩ => exact slab_apply 8 (by decide) slices_S16x15x64x64_S16x1x64x64_0_8_0_0 _ h c 0 k
  | ⟨n + 12, hn⟩ => exact absurd hn (by omega)

theorem band_2_3 {Y : Valuation τ sig (Elt Ideal)} (hY : Good Y) (h : Fin 16) (c : Fin 64) (j : Fin 12) (k : Fin 64) :
    (Y (Proc.devRef .tc main_v728) : FVec Ideal S16x64x12x64 .f32) (ix4 h c j k) = toepB Y (ix4 h ⟨min 14 (20 + j.val + 7 - (28 + 3)), by omega⟩ c k) := by
  have e : (Y (Proc.devRef .tc main_v728) : FVec Ideal S16x64x12x64 .f32) = band12 ![slab 0 slices_S16x15x64x64_S16x1x64x64_0_0_0_0 (toepB Y), slab 0 slices_S16x15x64x64_S16x1x64x64_0_0_0_0 (toepB Y), slab 0 slices_S16x15x64x64_S16x1x64x64_0_0_0_0 (toepB Y), slab 0 slices_S16x15x64x64_S16x1x64x64_0_0_0_0 (toepB Y), slab 0 slices_S16x15x64x64_S16x1x64x64_0_0_0_0 (toepB Y), slab 1 slices_S16x15x64x64_S16x1x64x64_0_1_0_0 (toepB Y), slab 2 slices_S16x15x64x64_S16x1x64x64_0_2_0_0 (toepB Y), slab 3 slices_S16x15x64x64_S16x1x64x64_0_3_0_0 (toepB Y), slab 4 slices_S16x15x64x64_S16x1x64x64_0_4_0_0 (toepB Y), slab 5 slices_S16x15x64x64_S16x1x64x64_0_5_0_0 (toepB Y), slab 6 slices_S16x15x64x64_S16x1x64x64_0_6_0_0 (toepB Y), slab 7 slices_S16x15x64x64_S16x1x64x64_0_7_0_0 (toepB Y)] := by
    refine ((fix_of_mem hY.g0_18 176 rfl).nary (by decide)).trans ?_
    show band12 ![Y (Proc.devRef .tc main_v716), Y (Proc.devRef .tc main_v717), Y (Proc.devRef .tc main_v718), Y (Proc.devRef .tc main_v719), Y (Proc.devRef .tc main_v720), Y (Proc.devRef .tc main_v721), Y (Proc.devRef .tc main_v722), Y (Proc.devRef .tc main_v723), Y (Proc.devRef .tc main_v724), Y (Proc.devRef .tc main_v725), Y (Proc.devRef .tc main_v726), Y (Proc.devRef .tc main_v727)] = _
    rw [(fix_of_mem hY.g0_18 164 rfl).unary (by decide),
      (fix_of_mem hY.g0_18 141 rfl).reshape (by decide),
      (fix_of_mem hY.g0_18 140 rfl).unary (by decide),
      (fix_of_mem hY.g0_18 165 rfl).unary (by decide),
      (fix_of_mem hY.g0_18 143 rfl).reshape (by decide),
      (fix_of_mem hY.g0_18 142 rfl).unary (by decide),
      (fix_of_mem hY.g0_18 166 rfl).unary (by decide),
      (fix_of_mem hY.g0_18 145 rfl).reshape (by decide),
      (fix_of_mem hY.g0_18 144 rfl).unary (by decide),
      (fix_of_mem hY.g0_18 167 rfl).unary (by decide),
      (fix_of_mem hY.g0_18 147 rfl).reshape (by decide),
      (fix_of_mem hY.g0_18 146 rfl).unary (by decide),
      (fix_of_mem hY.g0_18 168 rfl).unary (by decide),
      (fix_of_mem hY.g0_18 149 rfl).reshape (by decide),
      (fix_of_mem hY.g0_18 148 rfl).unary (by decide),
      (fix_of_mem hY.g0_18 169 rfl).unary (by decide),
      (fix_of_mem hY.g0_18 151 rfl).reshape (by decide),
      (fix_of_mem hY.g0_18 150 rfl).unary (by decide),
      (fix_of_mem hY.g0_18 170 rfl).unary (by decide),
      (fix_of_mem hY.g0_18 153 rfl).reshape (by decide),
      (fix_of_mem hY.g0_18 152 rfl).unary (by decide),
      (fix_of_mem hY.g0_18 171 rfl).unary (by decide),
      (fix_of_mem hY.g0_18 155 rfl).reshape (by decide),
      (fix_of_mem hY.g0_18 154 rfl).unary (by decide),
      (fix_of_mem hY.g0_18 172 rfl).unary (by decide),
      (fix_of_mem hY.g0_18 157 rfl).reshape (by decide),
      (fix_of_mem hY.g0_18 156 rfl).unary (by decide),
      (fix_of_mem hY.g0_18 173 rfl).unary (by decide),
      (fix_of_mem hY.g0_18 159 rfl).reshape (by decide),
      (fix_of_mem hY.g0_18 158 rfl).unary (by decide),
      (fix_of_mem hY.g0_18 174 rfl).unary (by decide),
      (fix_of_mem hY.g0_18 161 rfl).reshape (by decide),
      (fix_of_mem hY.g0_18 160 rfl).unary (by decide),
      (fix_of_mem hY.g0_18 175 rfl).unary (by decide),
      (fix_of_mem hY.g0_18 163 rfl).reshape (by decide),
      (fix_of_mem hY.g0_18 162 rfl).unary (by decide)]
    rfl
  rw [e, band12_apply]
  match j with
  | ⟨0, _⟩ => exact slab_apply 0 (by decide) slices_S16x15x64x64_S16x1x64x64_0_0_0_0 _ h c 0 k
  | ⟨1, _⟩ => exact slab_apply 0 (by decide) slices_S16x15x64x64_S16x1x64x64_0_0_0_0 _ h c 0 k
  | ⟨2, _⟩ => exact slab_apply 0 (by decide) slices_S16x15x64x64_S16x1x64x64_0_0_0_0 _ h c 0 k
  | ⟨3, _⟩ => exact slab_apply 0 (by decide) slices_S16x15x64x64_S16x1x64x64_0_0_0_0 _ h c 0 k
  | ⟨4, _⟩ => exact slab_apply 0 (by decide) slices_S16x15x64x64_S16x1x64x64_0_0_0_0 _ h c 0 k
  | ⟨5, _⟩ => exact slab_apply 1 (by decide) slices_S16x15x64x64_S16x1x64x64_0_1_0_0 _ h c 0 k
  | ⟨6, _⟩ => exact slab_apply 2 (by decide) slices_S16x15x64x64_S16x1x64x64_0_2_0_0 _ h c 0 k
  | ⟨7, _⟩ => exact slab_apply 3 (by decide) slices_S16x15x64x64_S16x1x64x64_0_3_0_0 _ h c 0 k
  | ⟨8, _⟩ => exact slab_apply 4 (by decide) slices_S16x15x64x64_S16x1x64x64_0_4_0_0 _ h c 0 k
  | ⟨9, _⟩ => exact slab_apply 5 (by decide) slices_S16x15x64x64_S16x1x64x64_0_5_0_0 _ h c 0 k
  | ⟨10, _⟩ => exact slab_apply 6 (by decide) slices_S16x15x64x64_S16x1x64x64_0_6_0_0 _ h c 0 k
  | ⟨11, _⟩ => exact slab_apply 7 (by decide) slices_S16x15x64x64_S16x1x64x64_0_7_0_0 _ h c 0 k
  | ⟨n + 12, hn⟩ => exact absurd hn (by omega)

theorem rows_2 {Y : Valuation τ sig (Elt Ideal)} (hY : Good Y) (h : Fin 16) (a : Fin 4) (c : Fin 64) (j : Fin 12) (k : Fin 64) :
    (Y (Proc.devRef .tc main_v734) : FVec Ideal S16x256x768 .f32) (ix3 h ⟨64 * a.val + c.val, by omega⟩ ⟨64 * j.val + k.val, by omega⟩)
      = toepB Y (ix4 h ⟨min 14 (20 + j.val + 7 - (28 + a.val)), by omega⟩ c k) := by
  have e : (Y (Proc.devRef .tc main_v734) : FVec Ideal S16x256x768 .f32) = rows4 ![Y (Proc.devRef .tc main_v617), Y (Proc.devRef .tc main_v654), Y (Proc.devRef .tc main_v691), Y (Proc.devRef .tc main_v728)] := by
    rw [(fix_of_mem hY.g0_18 182 rfl).reshape (by decide), (fix_of_mem hY.g0_18 181 rfl).nary (by decide)]
    show shapeCast S16x256x768 (concatenate S16x4x64x12x64 1 [⟨S16x1x64x12x64, (Y (Proc.devRef .tc main_v729) : FVec Ideal S16x1x64x12x64 .f32)⟩, ⟨S16x1x64x12x64, (Y (Proc.devRef .tc main_v730) : FVec Ideal S16x1x64x12x64 .f32)⟩, ⟨S16x1x64x12x64, (Y (Proc.devRef .tc main_v731) : FVec Ideal S16x1x64x12x64 .f32)⟩, ⟨S16x1x64x12x64, (Y (Proc.devRef .tc main_v732) : FVec Ideal S16x1x64x12x64 .f32)⟩] concatenates_S16x1x64x12x64_S16x1x64x12x64_S16x1x64x12x64_S16x1x64x12x64_S16x4x64x12x64_d1) shapeCasts_S16x4x64x12x64_S16x256x768 = _
    rw [(fix_of_mem hY.g0_18 177 rfl).unary (by decide), (fix_of_mem hY.g0_18 178 rfl).unary (by decide), (fix_of_mem hY.g0_18 179 rfl).unary (by decide), (fix_of_mem hY.g0_18 180 rfl).unary (by decide)]
    rfl
  rw [e, rows4_apply]
  match a with
  | ⟨0, _⟩ => exact band_2_0 hY h c j k
  | ⟨1, _⟩ => exact band_2_1 hY h c j k
  | ⟨2, _⟩ => exact band_2_2 hY h c j k
  | ⟨3, _⟩ => exact band_2_3 hY h c j k

theorem tab_2 {Y : Valuation τ sig (Elt Ideal)} (hY : Good Y) :
    (Y (Proc.devRef .tc main_v736) : FVec Ideal S16x256x768 .f32) = maskedB (okB 28#32 20#32) (Y (Proc.devRef .tc main_v734)) := by
  rw [(fix_of_mem hY.g0_19 3 rfl).ternary (by decide) (by decide) (by decide), (fix_of_mem hY.g0_19 1 rfl).unary (by decide), (fix_of_mem hY.g0_19 2 rfl).unary (by decide), (fix_of_mem hY.g0_19 0 rfl).unary (by decide), (fix_of_mem hY.g0_18 184 rfl).nullary, (fix_of_mem hY.g0_18 183 rfl).unary (by decide), ok_2 hY]
  rfl

end Cert.NA
-- ==== Proof.Block.lean ====
/- One grid point of the kernel, read at one query row and one lane. -/
module

public import Idealize.ShloMosaic.Lib.Pipeline.ValueKit
public import Idealize.ShloMosaic.Lib.Pointwise
public import proofs.«01_k».proof.Proof.Gen.KernelIdeal.Skeleton
public import proofs.«01_k».proof.Proof.Soft

@[expose] public section

set_option maxRecDepth 16384

noncomputable section

namespace Cert.NA

open Idealize.ShloMosaic Idealize.ShloMosaic.TcCoe
open Cert.KernelIdeal Cert.KernelIdeal.Gen

/-- The greater of the two row maxima. -/
def mx (S : FVec Ideal S256x768 .f32) (C : FVec Ideal S256x256 .f32) : FVec Ideal S256x1 .f32 :=
  maximumf (shapeCast S256x1 (multiReduction .maximumf [1] S256 S 0xFF800000#32 reduces_S256x768_S256 (.inl rfl) rfl) shapeCasts_S256_S256x1)
    (shapeCast S256x1 (multiReduction .maximumf [1] S256 C 0xFF800000#32 reduces_S256x256_S256 (.inl rfl) rfl) shapeCasts_S256_S256x1)

/-- The exponentials of the band's scores less the maximum `M`. -/
def es (S : FVec Ideal S256x768 .f32) (M : FVec Ideal S256x1 .f32) : FVec Ideal S256x768 .f32 :=
  exp (subf S (broadcastTo S256x768 M broadcasts_S256x1_S256x768))

/-- The exponentials of the context's scores less the maximum `M`. -/
def ec (C : FVec Ideal S256x256 .f32) (M : FVec Ideal S256x1 .f32) : FVec Ideal S256x256 .f32 :=
  exp (subf C (broadcastTo S256x256 M broadcasts_S256x1_S256x256))

/-- The sum of both rows of exponentials. -/
def dn (E : FVec Ideal S256x768 .f32) (G : FVec Ideal S256x256 .f32) : FVec Ideal S256x1 .f32 :=
  addf (shapeCast S256x1 (multiReduction .add [1] S256 E 0x00000000#32 reduces_S256x768_S256 (.inl rfl) rfl) shapeCasts_S256_S256x1)
    (shapeCast S256x1 (multiReduction .add [1] S256 G 0x00000000#32 reduces_S256x256_S256 (.inl rfl) rfl) shapeCasts_S256_S256x1)

/-- Weighted values divided by the sum of the weights. -/
def qt (E : FVec Ideal S256x768 .f32) (G : FVec Ideal S256x256 .f32) (V : FVec Ideal S768x128 .bf16) (W : FVec Ideal S256x128 .bf16) : FVec Ideal S256x128 .f32 :=
  divf (addf (matmul dot_S256x768_S768x128_S256x128_1_0_0_1_n_n none (truncf .bf16 E bitsLt_bf16_f32) V (constant S256x128 .f32 0x00000000#32))
      (matmul dot_S256x256_S256x128_S256x128_1_0_0_1_n_n none (truncf .bf16 G bitsLt_bf16_f32) W (constant S256x128 .f32 0x00000000#32)))
    (broadcastTo S256x128 (dn E G) broadcasts_S256x1_S256x128)

/-- The attention of one head over score arrays. -/
def core (S : FVec Ideal S256x768 .f32) (C : FVec Ideal S256x256 .f32) (V : FVec Ideal S768x128 .bf16) (W : FVec Ideal S256x128 .bf16) : FVec Ideal S256x128 .f32 :=
  qt (es S (mx S C)) (ec C (mx S C)) V W

theorem ninf : (Ideal.ofBits .f32 0xFF800000#32 : EReal) = ⊥ := by simp [Ideal.ofBits, Ideal.ieee]

theorem mx_apply (S : FVec Ideal S256x768 .f32) (C : FVec Ideal S256x256 .f32) (r : Fin 256) (z : Fin 1) :
    mx S C (ix2 r z) = top2 (fun k : Fin 768 => (S (ix2 r k) : EReal)) (fun l : Fin 256 => (C (ix2 r l) : EReal)) := by
  unfold mx top2
  pointwise [ninf]

theorem es_apply (S : FVec Ideal S256x768 .f32) (M : FVec Ideal S256x1 .f32) (r : Fin 256) (k : Fin 768) :
    es S M (ix2 r k) = Ideal.exp (S (ix2 r k) - M (ix2 r 0)) := by
  unfold es
  pointwise

theorem ec_apply (C : FVec Ideal S256x256 .f32) (M : FVec Ideal S256x1 .f32) (r : Fin 256) (l : Fin 256) :
    ec C M (ix2 r l) = Ideal.exp (C (ix2 r l) - M (ix2 r 0)) := by
  unfold ec
  pointwise

theorem dn_apply (E : FVec Ideal S256x768 .f32) (G : FVec Ideal S256x256 .f32) (r : Fin 256) (z : Fin 1) :
    dn E G (ix2 r z) = (∑ k : Fin 768, (E (ix2 r k) : EReal)) + ∑ l : Fin 256, (G (ix2 r l) : EReal) := by
  unfold dn
  pointwise

theorem qt_apply (E : FVec Ideal S256x768 .f32) (G : FVec Ideal S256x256 .f32) (V : FVec Ideal S768x128 .bf16) (W : FVec Ideal S256x128 .bf16) (r : Fin 256) (l : Fin 128) :
    qt E G V W (ix2 r l) = Ideal.div ((∑ k : Fin 768, (E (ix2 r k) : EReal) * V (ix2 k l)) + ∑ j : Fin 256, (G (ix2 r j) : EReal) * W (ix2 j l))
      ((∑ k : Fin 768, (E (ix2 r k) : EReal)) + ∑ l : Fin 256, (G (ix2 r l) : EReal)) := by
  rw [← dn_apply E G r 0]
  unfold qt
  generalize dn E G = D
  pointwise

theorem core_apply (S : FVec Ideal S256x768 .f32) (C : FVec Ideal S256x256 .f32) (V : FVec Ideal S768x128 .bf16) (W : FVec Ideal S256x128 .bf16) (r : Fin 256) (l : Fin 128) :
    core S C V W (ix2 r l) = att (fun k : Fin 768 => (S (ix2 r k) : EReal)) (fun j : Fin 256 => (C (ix2 r j) : EReal))
      (fun k : Fin 768 => (V (ix2 k l) : EReal)) (fun j : Fin 256 => (W (ix2 j l) : EReal)) := by
  unfold core
  rw [qt_apply]
  simp only [es_apply, ec_apply, mx_apply]
  unfold att den2
  with_reducible rfl

/-- The queries with the lanes outside one head put to zero. -/
def qm (q : FVec Ideal S256x128 .bf16) (b : IVec S256x128 1) : FVec Ideal S256x128 .bf16 :=
  select b q (broadcast S256x128 (Scalar.truncf .bf16 bitsLt_bf16_f32 (Scalar.ofBits .f32 0x00000000#32)))

/-- The band's scores with the bias added. -/
def sc (q : FVec Ideal S256x128 .bf16) (k : FVec Ideal S768x128 .bf16) (b : FVec Ideal S1x1x1x256x768 .f32) : FVec Ideal S256x768 .f32 :=
  addf (matmul dot_S256x128_S768x128_S256x768_1_1_0_0_n_n none q k (constant S256x768 .f32 0x00000000#32)) (shapeCast S256x768 b shapeCasts_S1x1x1x256x768_S256x768)

/-- The context's scores. -/
def cc (q : FVec Ideal S256x128 .bf16) (k : FVec Ideal S256x128 .bf16) : FVec Ideal S256x256 .f32 :=
  matmul dot_S256x128_S256x128_S256x256_1_1_0_0_n_n none q k (constant S256x256 .f32 0x00000000#32)

theorem pay10_eq (v13 : FVec Ideal S256x128 .bf16) (v16 v19 : FVec Ideal S768x128 .bf16) (v21 v23 : FVec Ideal S256x128 .bf16) (v25 : FVec Ideal S256x128 .f32) (v27 v29 : IVec S256x128 1) (v36 : FVec Ideal S1x1x1x256x768 .f32) :
    k0_pay10 v13 v16 v19 v21 v23 v25 v27 v29 v36
      = select (andi v27 v29) (core (sc (qm v13 (andi v27 v29)) v16 v36) (cc (qm v13 (andi v27 v29)) v21) v19 v23) v25 := by
  unfold k0_pay10 core qt dn es ec mx sc cc qm
  with_reducible rfl

theorem pay1_eq (v19 : FVec Ideal S768x128 .bf16) (v21 v23 : FVec Ideal S256x128 .bf16) (v63 : FVec Ideal S256x128 .f32) (v68 : IVec S256x128 1) (v71 : FVec Ideal S256x128 .bf16) (v13 : FVec Ideal S256x128 .bf16) (v16 : FVec Ideal S768x128 .bf16) (v24 : IVec S256x128 32) (v74 : FVec Ideal S1x1x1x256x768 .f32) :
    k0_pay1 v19 v21 v23 v63 (k0_pay11 v24) (k0_pay12 v13 v24) (k0_pay13 v13 v16 v24) v74
      = shapeCast S1x256x128 (truncf .bf16 (select (k0_pay11 v24) (core (sc (qm v13 (k0_pay11 v24)) v16 v74) (cc (qm v13 (k0_pay11 v24)) v21) v19 v23) v63) bitsLt_bf16_f32) shapeCasts_S256x128_S1x256x128 := by
  unfold k0_pay1 k0_pay13 k0_pay12 core qt dn es ec mx sc cc qm
  with_reducible rfl

end Cert.NA
-- ==== Proof.BiasTab.lean ====
/- The bias table as the call gets it, entry by entry: the table's entry where the key lies in the query's window, minus infinity elsewhere. -/
module

public import proofs.«01_k».proof.Proof.Tab0
public import proofs.«01_k».proof.Proof.Tab1
public import proofs.«01_k».proof.Proof.Tab2
public import proofs.«01_k».proof.Proof.Block
public import Idealize.ShloMosaic.Lib.KernelVsHost

@[expose] public section

set_option maxRecDepth 16384

noncomputable section

namespace Cert.NA

open Idealize.ShloMosaic Idealize.ShloMosaic.TcCoe
open Cert.KernelIdeal Cert.KernelIdeal.Gen Cert.KernelIdeal.Hand

theorem padB_apply {Y : Valuation τ sig (Elt Ideal)} (hY : Good Y) (x2 : FVec Ideal S16x15x31 .f32) (hx : (Y (Proc.devRef .tc main_arg2) : FVec Ideal S16x15x31 .f32) = x2)
    (h : Fin 16) (x : Fin 15) (c : Fin 31) : padB Y (ix3 h x ⟨64 + c.val, by omega⟩) = x2 (ix3 h x c) := by
  have e : ∃ (v : FVec Ideal S_ .f32), padB Y = pad S16x15x159 ![0, 0, 64] ![0, 0, 64] ![0, 0, 0] x2 v pads_S16x15x31_S16x15x159_000_000_64640 h_S_ := by
    refine ⟨Y (Proc.devRef .tc main_call0_v0), ((fix_of_mem hY.g0_1 1 rfl).binary (by decide) (by decide)).trans ?_⟩
    rw [← hx]
    rfl
  obtain ⟨v, e⟩ := e
  rw [e]
  refine pad_apply_of_inside _ _ _ x2 v _ _ _ (ix3 h x c) fun a => ?_
  match a with
  | ⟨0, _⟩ => show h.val = 0 + h.val * (0 + 1); omega
  | ⟨1, _⟩ => show x.val = 0 + x.val * (0 + 1); omega
  | ⟨2, _⟩ => show 64 + c.val = 64 + c.val * (0 + 1); omega

/-- One entry of a band: the entry where the mask holds. -/
abbrev biasAt (x2 : FVec Ideal S16x15x31 .f32) (rs st : Nat) (h : Fin 16) (q k : Nat) : EReal :=
  if NearB rs st q k then rp x2 h (st + k / 64 + 7 - (rs + q / 64)) (k % 64 + 15 - q % 64) else ⊥

theorem masked_apply {Y : Valuation τ sig (Elt Ideal)} (hY : Good Y) (x2 : FVec Ideal S16x15x31 .f32) (hx : (Y (Proc.devRef .tc main_arg2) : FVec Ideal S16x15x31 .f32) = x2)
    (rs st : Nat) (hr : rs ≤ 28) (hs : st ≤ 20) (T : FVec Ideal S16x256x768 .f32)
    (hT : ∀ (h : Fin 16) (a : Fin 4) (c : Fin 64) (j : Fin 12) (k : Fin 64), T (ix3 h ⟨64 * a.val + c.val, by omega⟩ ⟨64 * j.val + k.val, by omega⟩)
      = toepB Y (ix4 h ⟨min 14 (st + j.val + 7 - (rs + a.val)), by omega⟩ c k))
    (h : Fin 16) (q : Fin 256) (k : Fin 768) :
    maskedB (okB (BitVec.ofNat 32 rs) (BitVec.ofNat 32 st)) T (ix3 h q k) = biasAt x2 rs st h q.val k.val := by
  rw [maskedB_apply, okB_apply rs st hr hs, ninf]
  unfold biasAt
  by_cases H : NearB rs st q.val k.val
  · rw [if_pos H, decide_eq_true H]
    show T (ix3 h q k) = _
    have h1 := H.1
    have h2 := H.2
    unfold row0 at h1
    unfold col0 at h2
    have hb : st + k.val / 64 + 7 - (rs + q.val / 64) < 15 ∧ k.val % 64 + 15 - q.val % 64 < 31 := by omega
    have hq : q = ⟨64 * (⟨q.val / 64, by omega⟩ : Fin 4).val + (⟨q.val % 64, by omega⟩ : Fin 64).val, by show 64 * (q.val / 64) + q.val % 64 < 256; omega⟩ :=
      Fin.ext (by show q.val = 64 * (q.val / 64) + q.val % 64; omega)
    have hk : k = ⟨64 * (⟨k.val / 64, by omega⟩ : Fin 12).val + (⟨k.val % 64, by omega⟩ : Fin 64).val, by show 64 * (k.val / 64) + k.val % 64 < 768; omega⟩ :=
      Fin.ext (by show k.val = 64 * (k.val / 64) + k.val % 64; omega)
    have eT := hT h ⟨q.val / 64, by omega⟩ ⟨q.val % 64, by omega⟩ ⟨k.val / 64, by omega⟩ ⟨k.val % 64, by omega⟩
    rw [← hq, ← hk] at eT
    rw [eT, toepB_apply hY]
    unfold rp
    rw [dif_pos hb, ← padB_apply hY x2 hx]
    congr 1
    refine congrArg₂ (fun a b => ix3 h a b) (Fin.ext ?_) (Fin.ext ?_)
    · show min 14 (st + k.val / 64 + 7 - (rs + q.val / 64)) = _
      show _ = st + k.val / 64 + 7 - (rs + q.val / 64)
      omega
    · show 79 - q.val % 64 + k.val % 64 = 64 + (k.val % 64 + 15 - q.val % 64)
      omega
  · rw [if_neg H, decide_eq_false H]
    rfl

/-- The first query row and the first key row of a variant. -/
abbrev rsV : Fin 3 → Nat := ![0, 4, 28]
@[inherit_doc rsV]
abbrev stV : Fin 3 → Nat := ![0, 0, 20]

/-- The three variants, as the call reads them. -/
def stack3 (u : Fin 3 → FVec Ideal S16x256x768 .f32) : FVec Ideal S3x8x2x256x768 .f32 :=
  shapeCast S3x8x2x256x768 (concatenate S3x16x256x768 0
    (List.ofFn fun n : Fin 3 => (⟨S1x16x256x768, broadcastInDim S1x16x256x768 ![1, 2, 3] bcast_S16x256x768_S1x16x256x768_1_2_3 (u n)⟩ :
      (s : Shape) × (s.Idx → Elt Ideal .f32))) concatenates_S1x16x256x768_S1x16x256x768_S1x16x256x768_S3x16x256x768_d0) shapeCasts_S3x16x256x768_S3x8x2x256x768

theorem stack3_apply (u : Fin 3 → FVec Ideal S16x256x768 .f32) (v : Fin 3) (c : Fin 8) (g : Fin 2) (q : Fin 256) (k : Fin 768) :
    stack3 u (ix5 v c g q k) = u v (ix3 ⟨2 * c.val + g.val, by omega⟩ q k) := by
  unfold stack3
  have e : ∀ w : FVec Ideal S3x16x256x768 .f32, shapeCast S3x8x2x256x768 w shapeCasts_S3x16x256x768_S3x8x2x256x768
      (ix5 v c g q k) = w (ix4 v ⟨2 * c.val + g.val, by omega⟩ q k) := by
    intro w
    pointwise
    exact congrArg (fun n => w (ix4 v n q k)) (Fin.ext (by show c.val * 2 + g.val = 2 * c.val + g.val; omega))
  rw [e]
  refine (concatenate_ofFn_unit_apply (t := S3x16x256x768) (s₁ := S1x16x256x768) 0 (fun n => broadcastInDim S1x16x256x768 ![1, 2, 3] bcast_S16x256x768_S1x16x256x768_1_2_3 (u n)) _ rfl rfl
    (ix4 v ⟨2 * c.val + g.val, by omega⟩ q k) v rfl (ix4 0 ⟨2 * c.val + g.val, by omega⟩ q k) fun b hb => ?_).trans ?_
  · match b with
    | ⟨0, _⟩ => exact absurd rfl hb
    | ⟨1, _⟩ => rfl
    | ⟨2, _⟩ => rfl
    | ⟨3, _⟩ => rfl
  pointwise

/-- The table the call gets. -/
def biasB (Y : Valuation τ sig (Elt Ideal)) : FVec Ideal S3x8x2x256x768 .f32 := Y (Proc.devRef .tc main_v741)

theorem biasB_apply {Y : Valuation τ sig (Elt Ideal)} (hY : Good Y) (x2 : FVec Ideal S16x15x31 .f32) (hx : (Y (Proc.devRef .tc main_arg2) : FVec Ideal S16x15x31 .f32) = x2)
    (v : Fin 3) (c : Fin 8) (g : Fin 2) (q : Fin 256) (k : Fin 768) :
    biasB Y (ix5 v c g q k) = biasAt x2 (rsV v) (stV v) ⟨2 * c.val + g.val, by omega⟩ q.val k.val := by
  have e : biasB Y = stack3 ![Y (Proc.devRef .tc main_v334), Y (Proc.devRef .tc main_v535), Y (Proc.devRef .tc main_v736)] := by
    unfold biasB
    rw [(fix_of_mem hY.g0_20 4 rfl).reshape (by decide), (fix_of_mem hY.g0_20 3 rfl).nary (by decide)]
    show shapeCast S3x8x2x256x768 (concatenate S3x16x256x768 0 [⟨S1x16x256x768, (Y (Proc.devRef .tc main_v737) : FVec Ideal S1x16x256x768 .f32)⟩, ⟨S1x16x256x768, (Y (Proc.devRef .tc main_v738) : FVec Ideal S1x16x256x768 .f32)⟩, ⟨S1x16x256x768, (Y (Proc.devRef .tc main_v739) : FVec Ideal S1x16x256x768 .f32)⟩] concatenates_S1x16x256x768_S1x16x256x768_S1x16x256x768_S3x16x256x768_d0) shapeCasts_S3x16x256x768_S3x8x2x256x768 = _
    rw [(fix_of_mem hY.g0_20 0 rfl).unary (by decide), (fix_of_mem hY.g0_20 1 rfl).unary (by decide), (fix_of_mem hY.g0_20 2 rfl).unary (by decide)]
    rfl
  rw [e, stack3_apply]
  match v with
  | ⟨0, _⟩ =>
    show (Y (Proc.devRef .tc main_v334) : FVec Ideal S16x256x768 .f32) _ = _
    rw [tab_0 hY]
    exact masked_apply hY x2 hx 0 0 (by decide) (by decide) _ (rows_0 hY) _ q k
  | ⟨1, _⟩ =>
    show (Y (Proc.devRef .tc main_v535) : FVec Ideal S16x256x768 .f32) _ = _
    rw [tab_1 hY]
    exact masked_apply hY x2 hx 4 0 (by decide) (by decide) _ (rows_1 hY) _ q k
  | ⟨2, _⟩ =>
    show (Y (Proc.devRef .tc main_v736) : FVec Ideal S16x256x768 .f32) _ = _
    rw [tab_2 hY]
    exact masked_apply hY x2 hx 28 20 (by decide) (by decide) _ (rows_2 hY) _ q k

end Cert.NA
-- ==== Proof.RefVal.lean ====
/- What the reference computes, read at one index. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.Soft

@[expose] public section

set_option maxRecDepth 16384

noncomputable section

namespace Cert.NA

open Idealize.ShloMosaic Idealize.ShloMosaic.TcCoe

/-- The projections of the latent tokens (bf16, three times sixteen heads of 64 lanes). -/
abbrev XQ := (⟨3, ![16, 2048, 3072]⟩ : Shape).Idx → EReal
/-- The projections of the context tokens. -/
abbrev XC := (⟨3, ![16, 256, 3072]⟩ : Shape).Idx → EReal
/-- The table of relative position biases, one for each head. -/
abbrev XB := (⟨3, ![16, 15, 31]⟩ : Shape).Idx → EReal

/-- The scale of the queries, one eighth. -/
def eighth : EReal := Ideal.ofBits .f32 0x3E000000#32

/-- A query, scaled. -/
def qv (x0 : XQ) (b h : Fin 16) (q : Fin 2048) (d : Fin 64) : EReal := x0 (ix3 b q ⟨64 * h.val + d.val, by omega⟩) * eighth
/-- A key. -/
def kv (x0 : XQ) (b h : Fin 16) (j : Fin 2048) (d : Fin 64) : EReal := x0 (ix3 b j ⟨1024 + (64 * h.val + d.val), by omega⟩)
/-- A value. -/
def vv (x0 : XQ) (b h : Fin 16) (j : Fin 2048) (d : Fin 64) : EReal := x0 (ix3 b j ⟨2048 + (64 * h.val + d.val), by omega⟩)
/-- A key of the context. -/
def kc (x1 : XC) (b h : Fin 16) (l : Fin 256) (d : Fin 64) : EReal := x1 (ix3 b l ⟨1024 + (64 * h.val + d.val), by omega⟩)
/-- A value of the context. -/
def vc (x1 : XC) (b h : Fin 16) (l : Fin 256) (d : Fin 64) : EReal := x1 (ix3 b l ⟨2048 + (64 * h.val + d.val), by omega⟩)

/-- The score of a key: the product plus the bias in the window, minus infinity outside. -/
def sAll (x0 : XQ) (x2 : XB) (b h : Fin 16) (q j : Fin 2048) : EReal :=
  if Near q.val j.val then (∑ d, qv x0 b h q d * kv x0 b h j d) + rp x2 h (j.val / 64 + 7 - q.val / 64) (j.val % 64 + 15 - q.val % 64)
  else ⊥
/-- The score of a key of the context. -/
def sCtx (x0 : XQ) (x1 : XC) (b h : Fin 16) (q : Fin 2048) (l : Fin 256) : EReal := ∑ d, qv x0 b h q d * kc x1 b h l d

theorem fold_split (f : Fin 2048 → EReal) (g : Fin 256 → EReal) (F : Fin 2304 → EReal)
    (hf : ∀ j : Fin 2048, F ⟨j.val, by omega⟩ = f j) (hg : ∀ l : Fin 256, F ⟨2048 + l.val, by omega⟩ = g l) :
    Finset.univ.fold max ⊥ F = max (Finset.univ.fold max ⊥ f) (Finset.univ.fold max ⊥ g) := by
  rw [fold_eq_sup, fold_eq_sup, fold_eq_sup]
  apply le_antisymm
  · refine Finset.sup_le fun k _ => ?_
    by_cases hk : k.val < 2048
    · exact le_max_of_le_left (le_trans (le_of_eq (hf ⟨k.val, hk⟩)) (Finset.le_sup (f := f) (Finset.mem_univ _)))
    · have e : F k = g ⟨k.val - 2048, by omega⟩ := by
        rw [← hg]; congr 1; apply Fin.ext; dsimp only; omega
      exact le_max_of_le_right (le_trans (le_of_eq e) (Finset.le_sup (f := g) (Finset.mem_univ _)))
  · refine max_le (Finset.sup_le fun j _ => ?_) (Finset.sup_le fun l _ => ?_)
    · rw [← hf]; exact Finset.le_sup (f := F) (Finset.mem_univ _)
    · rw [← hg]; exact Finset.le_sup (f := F) (Finset.mem_univ _)

open Cert.ReferenceIdeal Cert.ReferenceIdeal.Gen Cert.ReferenceIdeal.Read

theorem q_apply (x0 : XQ) (b : Fin 16) (n : Fin 2048) (h : Fin 16) (d : Fin 64) :
    val_main_v7 (F := Ideal) x0 (ix4 b n h d) = qv x0 b h n d := by
  unfold val_main_v7 val_main_v6 val_main_v5 val_main_v4 val_main_v1 val_main_v0 val_main_cst qv eighth
  pointwise
  congr 3
  all_goals (apply Fin.ext; dsimp only; omega)
theorem k_apply (x0 : XQ) (b : Fin 16) (n : Fin 2048) (h : Fin 16) (d : Fin 64) :
    val_main_v9 (F := Ideal) x0 (ix4 b n h d) = kv x0 b h n d := by
  unfold val_main_v9 val_main_v8 val_main_v1 val_main_v0 kv
  pointwise
  congr 2
  all_goals (apply Fin.ext; dsimp only; omega)
theorem v_apply (x0 : XQ) (b : Fin 16) (n : Fin 2048) (h : Fin 16) (d : Fin 64) :
    val_main_v11 (F := Ideal) x0 (ix4 b n h d) = vv x0 b h n d := by
  unfold val_main_v11 val_main_v10 val_main_v1 val_main_v0 vv
  pointwise
  congr 2
  all_goals (apply Fin.ext; dsimp only; omega)
theorem kc_apply (x1 : XC) (b : Fin 16) (n : Fin 256) (h : Fin 16) (d : Fin 64) :
    val_main_v13 (F := Ideal) x1 (ix4 b n h d) = kc x1 b h n d := by
  unfold val_main_v13 val_main_v12 val_main_v3 val_main_v2 kc
  pointwise
  congr 2
  all_goals (apply Fin.ext; dsimp only; omega)
theorem vc_apply (x1 : XC) (b : Fin 16) (n : Fin 256) (h : Fin 16) (d : Fin 64) :
    val_main_v15 (F := Ideal) x1 (ix4 b n h d) = vc x1 b h n d := by
  unfold val_main_v15 val_main_v14 val_main_v3 val_main_v2 vc
  pointwise
  congr 2
  all_goals (apply Fin.ext; dsimp only; omega)

theorem ofBits_neg_inf_f32 : Ideal.ofBits .f32 0xFF800000#32 = ⊥ := by
  simp [Ideal.ofBits, Ideal.ieee]

end Cert.NA
-- ==== Proof.RefScore.lean ====
/- The reference's scores. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.RefVal

@[expose] public section

set_option maxRecDepth 16384

noncomputable section

namespace Cert.NA

open Idealize.ShloMosaic Idealize.ShloMosaic.TcCoe

open Cert.ReferenceIdeal Cert.ReferenceIdeal.Gen Cert.ReferenceIdeal.Read

theorem s_apply (x0 : XQ) (x2 : XB) (b h : Fin 16) (q j : Fin 2048) :
    val_main_v85 (F := Ideal) x0 x2 (ix4 b h q j) = sAll x0 x2 b h q j := by
  unfold val_main_v85 val_main_call4_v2 val_main_call4_v1 val_main_call4_v0 val_main_cst_17 val_main_v84 val_main_v83 val_main_v82 val_main_v81
  pointwise [near_apply, q_apply, k_apply]
  unfold sAll
  by_cases H : Near q.val j.val
  · simp only [if_pos H, bias_apply x2 h q j H]
  · simp only [if_neg H]
    exact ofBits_neg_inf_f32

theorem c_apply (x0 : XQ) (x1 : XC) (b h : Fin 16) (q : Fin 2048) (l : Fin 256) :
    val_main_v86 (F := Ideal) x0 x1 (ix4 b h q l) = sCtx x0 x1 b h q l := by
  unfold val_main_v86
  pointwise [q_apply, kc_apply]
  rfl

end Cert.NA
-- ==== Proof.RefCat.lean ====
/- The reference's scores of all keys and of the context, side by side. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.RefScore

@[expose] public section

set_option maxRecDepth 16384

noncomputable section

namespace Cert.NA

open Idealize.ShloMosaic Idealize.ShloMosaic.TcCoe

open Cert.ReferenceIdeal Cert.ReferenceIdeal.Gen Cert.ReferenceIdeal.Read

theorem cat_apply_s (x0 : XQ) (x1 : XC) (x2 : XB) (b h : Fin 16) (q : Fin 2048) (j : Fin 2048) :
    val_main_v87 (F := Ideal) x0 x1 x2 (ix4 b h q ⟨j.val, by omega⟩) = sAll x0 x2 b h q j := by
  unfold val_main_v87
  pointwise [s_apply]
theorem cat_apply_c (x0 : XQ) (x1 : XC) (x2 : XB) (b h : Fin 16) (q : Fin 2048) (l : Fin 256) :
    val_main_v87 (F := Ideal) x0 x1 x2 (ix4 b h q ⟨2048 + l.val, by omega⟩) = sCtx x0 x1 b h q l := by
  unfold val_main_v87
  pointwise [c_apply]

end Cert.NA
-- ==== Proof.RefRed.lean ====
/- What the reference computes, read at one index. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.RefCat

@[expose] public section

set_option maxRecDepth 16384

noncomputable section

namespace Cert.NA

open Idealize.ShloMosaic Idealize.ShloMosaic.TcCoe

open Cert.ReferenceIdeal Cert.ReferenceIdeal.Gen Cert.ReferenceIdeal.Read

theorem reduce_max_apply (y : FVec Ideal S16x16x2048x2304 .f32) (init : FVec Ideal S_ .f32) (b h : Fin 16) (q : Fin 2048) :
    Host.reduce FloatOps.maximumf y init reducesTo_S16x16x2048x2304_S16x16x2048_d3 h_S_ (ix3 b h q)
      = Finset.univ.fold (max : EReal → EReal → EReal) (init (Shape.Idx.first h_S_) : EReal) fun k : Fin 2304 => (y (ix4 b h q k) : EReal) := by
  rw [Host.reduce_eq_fold_single FloatOps.maximumf y init reducesTo_S16x16x2048x2304_S16x16x2048_d3 (by decide) h_S_]
  refine Finset.fold_congr (op := (max : EReal → EReal → EReal)) (g := fun k : Fin 2304 => (y (ix4 b h q k) : EReal)) fun k _ => ?_
  exact congrArg y (funext fun a => Fin.ext (by match a with | ⟨0, _⟩ => rfl | ⟨1, _⟩ => rfl | ⟨2, _⟩ => rfl | ⟨3, _⟩ => rfl))

theorem reduce_add_apply (y : FVec Ideal S16x16x2048x2304 .f32) (init : FVec Ideal S_ .f32) (b h : Fin 16) (q : Fin 2048) :
    Host.reduceAdd y init reducesTo_S16x16x2048x2304_S16x16x2048_d3 h_S_ (ix3 b h q)
      = init (Shape.Idx.first h_S_) + ∑ k : Fin 2304, y (ix4 b h q k) := by
  simp only [Host.reduceAdd, Ideal.hostReduceAdd_def]
  rw [Ideal.hostReduceAdd_single reducesTo_S16x16x2048x2304_S16x16x2048_d3 (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl))

end Cert.NA
-- ==== Proof.RefMax.lean ====
/- What the reference computes, read at one index. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.RefCat
public import proofs.«01_k».proof.Proof.RefRed

@[expose] public section

set_option maxRecDepth 16384

noncomputable section

namespace Cert.NA

open Idealize.ShloMosaic Idealize.ShloMosaic.TcCoe

open Cert.ReferenceIdeal Cert.ReferenceIdeal.Gen Cert.ReferenceIdeal.Read

theorem red_apply (x0 : XQ) (x1 : XC) (x2 : XB) (b h : Fin 16) (q : Fin 2048) :
    val_main_v88 (F := Ideal) x0 x1 x2 (ix3 b h q) = top2 (sAll x0 x2 b h q) (sCtx x0 x1 b h q) := by
  have H := fold_split (sAll x0 x2 b h q) (sCtx x0 x1 b h q) (fun k => val_main_v87 (F := Ideal) x0 x1 x2 (ix4 b h q k))
    (fun j => cat_apply_s x0 x1 x2 b h q j) (fun l => cat_apply_c x0 x1 x2 b h q l)
  have e0 : (val_main_cst_18 (F := Ideal) (Shape.Idx.first h_S_) : EReal) = (⊥ : EReal) := ofBits_neg_inf_f32
  unfold val_main_v88
  generalize val_main_v87 (F := Ideal) x0 x1 x2 = y at H ⊢
  rw [reduce_max_apply, e0]
  unfold top2
  with_reducible exact H

end Cert.NA
-- ==== Proof.RefMaxB.lean ====
/- What the reference computes, read at one index. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.RefCat
public import proofs.«01_k».proof.Proof.RefMax

@[expose] public section

set_option maxRecDepth 16384

noncomputable section

namespace Cert.NA

open Idealize.ShloMosaic Idealize.ShloMosaic.TcCoe

open Cert.ReferenceIdeal Cert.ReferenceIdeal.Gen Cert.ReferenceIdeal.Read

theorem bot89 (i) : val_main_v89 (F := Ideal) i = (⊥ : EReal) := by
  rw [val_main_v89_apply]
  unfold val_main_cst_19
  exact ofBits_neg_inf_f32
theorem max_apply (x0 : XQ) (x1 : XC) (x2 : XB) (b h : Fin 16) (q : Fin 2048) :
    val_main_v90 (F := Ideal) x0 x1 x2 (ix3 b h q) = top2 (sAll x0 x2 b h q) (sCtx x0 x1 b h q) := by
  rw [val_main_v90_apply, red_apply, bot89]
  generalize top2 (sAll x0 x2 b h q) (sCtx x0 x1 b h q) = t
  rw [Ideal.maximumf_def]
  exact max_bot_left t

end Cert.NA
-- ==== Proof.RefSoft.lean ====
/- What the reference computes, read at one index. -/
module

public import Idealize.ShloMosaic.Lib.Pipeline.ValueKit
public import Idealize.ShloMosaic.Lib.Pointwise
public import proofs.«01_k».proof.Proof.Gen.ReferenceIdeal.Read
public import proofs.«01_k».proof.Proof.RefMask
public import proofs.«01_k».proof.Proof.RefMaxB

@[expose] public section

set_option maxRecDepth 16384

noncomputable section

namespace Cert.NA

open Idealize.ShloMosaic Idealize.ShloMosaic.TcCoe

open Cert.ReferenceIdeal Cert.ReferenceIdeal.Gen Cert.ReferenceIdeal.Read

theorem exp_apply (x0 : XQ) (x1 : XC) (x2 : XB) (b h : Fin 16) (q : Fin 2048) (k : Fin 2304) :
    val_main_v94 (F := Ideal) x0 x1 x2 (ix4 b h q k)
      = Ideal.exp (val_main_v87 (F := Ideal) x0 x1 x2 (ix4 b h q k) - top2 (sAll x0 x2 b h q) (sCtx x0 x1 b h q)) := by
  unfold val_main_v94 val_main_v93 val_main_v92 val_main_v91
  rw [← max_apply]
  generalize val_main_v87 (F := Ideal) x0 x1 x2 = y
  generalize val_main_v90 (F := Ideal) x0 x1 x2 = z
  pointwise

theorem sum_two {a b N : Nat} (hN : N = a + b) (f : Fin a → EReal) (g : Fin b → EReal) (F : Fin N → EReal)
    (hf : ∀ j : Fin a, F ⟨j.val, by omega⟩ = f j) (hg : ∀ l : Fin b, F ⟨a + l.val, by omega⟩ = g l) :
    ∑ k, F k = (∑ j, f j) + ∑ l, g l := by
  subst hN
  rw [Fin.sum_univ_add]
  exact congrArg₂ (· + ·) (Finset.sum_congr rfl fun j _ => hf j) (Finset.sum_congr rfl fun l _ => hg l)

theorem sum_split (f : Fin 2048 → EReal) (g : Fin 256 → EReal) (F : Fin 2304 → EReal)
    (hf : ∀ j : Fin 2048, F ⟨j.val, by omega⟩ = f j) (hg : ∀ l : Fin 256, F ⟨2048 + l.val, by omega⟩ = g l) :
    ∑ k, F k = (∑ j, f j) + ∑ l, g l :=
  sum_two (by decide) f g F hf hg

theorem den_apply (x0 : XQ) (x1 : XC) (x2 : XB) (b h : Fin 16) (q : Fin 2048) :
    val_main_v95 (F := Ideal) x0 x1 x2 (ix3 b h q)
      = den2 (sAll x0 x2 b h q) (sCtx x0 x1 b h q) (top2 (sAll x0 x2 b h q) (sCtx x0 x1 b h q)) := by
  have H := sum_split (fun j => Ideal.exp (sAll x0 x2 b h q j - top2 (sAll x0 x2 b h q) (sCtx x0 x1 b h q)))
    (fun l => Ideal.exp (sCtx x0 x1 b h q l - top2 (sAll x0 x2 b h q) (sCtx x0 x1 b h q)))
    (fun k => val_main_v94 (F := Ideal) x0 x1 x2 (ix4 b h q k))
    (fun j => by rw [exp_apply, cat_apply_s]) (fun l => by rw [exp_apply, cat_apply_c])
  have e0 : val_main_cst_20 (F := Ideal) (Shape.Idx.first h_S_) = 0 := Ideal.ofBits_zero_f32
  unfold val_main_v95 den2
  generalize val_main_v94 (F := Ideal) x0 x1 x2 = y at H ⊢
  rw [reduce_add_apply, e0, zero_add]
  with_reducible exact H

theorem w_apply (x0 : XQ) (x1 : XC) (x2 : XB) (b h : Fin 16) (q : Fin 2048) (k : Fin 2304) :
    val_main_v98 (F := Ideal) x0 x1 x2 (ix4 b h q k)
      = Ideal.div (Ideal.exp (val_main_v87 (F := Ideal) x0 x1 x2 (ix4 b h q k) - top2 (sAll x0 x2 b h q) (sCtx x0 x1 b h q)))
          (den2 (sAll x0 x2 b h q) (sCtx x0 x1 b h q) (top2 (sAll x0 x2 b h q) (sCtx x0 x1 b h q))) := by
  unfold val_main_v98 val_main_v97 val_main_v96
  rw [← exp_apply, ← den_apply]
  generalize val_main_v94 (F := Ideal) x0 x1 x2 = y
  generalize val_main_v95 (F := Ideal) x0 x1 x2 = z
  pointwise

theorem wv_apply (x0 : XQ) (x1 : XC) (x2 : XB) (b h : Fin 16) (q : Fin 2048) (d : Fin 64) :
    val_main_v100 (F := Ideal) x0 x1 x2 (ix4 b h d q)
      = ∑ j : Fin 2048, vv x0 b h j d * val_main_v98 (F := Ideal) x0 x1 x2 (ix4 b h q ⟨j.val, by omega⟩) := by
  unfold val_main_v100 val_main_v99
  simp only [← v_apply]
  generalize val_main_v98 (F := Ideal) x0 x1 x2 = y
  generalize val_main_v11 (F := Ideal) x0 = z
  pointwise
theorem wc_apply (x0 : XQ) (x1 : XC) (x2 : XB) (b h : Fin 16) (q : Fin 2048) (d : Fin 64) :
    val_main_v103 (F := Ideal) x0 x1 x2 (ix4 b h d q)
      = ∑ l : Fin 256, vc x1 b h l d * val_main_v98 (F := Ideal) x0 x1 x2 (ix4 b h q ⟨2048 + l.val, by omega⟩) := by
  unfold val_main_v103 val_main_v102
  simp only [← vc_apply]
  generalize val_main_v98 (F := Ideal) x0 x1 x2 = y
  generalize val_main_v15 (F := Ideal) x1 = z
  pointwise

/-- THE REFERENCE at an index: head `h`, lane `d` of query `q` holds the softmax over all keys and the context of its values. -/
theorem ref_apply (x0 : XQ) (x1 : XC) (x2 : XB) (b h : Fin 16) (q : Fin 2048) (d : Fin 64) :
    val_main_v107 (F := Ideal) x0 x1 x2 (ix3 b q ⟨64 * h.val + d.val, by omega⟩)
      = softAtt (sAll x0 x2 b h q) (sCtx x0 x1 b h q) (fun j => vv x0 b h j d) (fun l => vc x1 b h l d) := by
  have e : val_main_v107 (F := Ideal) x0 x1 x2 (ix3 b q ⟨64 * h.val + d.val, by omega⟩)
      = val_main_v100 (F := Ideal) x0 x1 x2 (ix4 b h d q) + val_main_v103 (F := Ideal) x0 x1 x2 (ix4 b h d q) := by
    unfold val_main_v107 val_main_v106 val_main_v105 val_main_v104 val_main_v101
    generalize val_main_v100 (F := Ideal) x0 x1 x2 = y
    generalize val_main_v103 (F := Ideal) x0 x1 x2 = z
    pointwise
  rw [e, wv_apply, wc_apply]
  unfold softAtt
  congr 1
  · refine Finset.sum_congr rfl fun j _ => ?_
    rw [w_apply, cat_apply_s, mul_comm]
  · refine Finset.sum_congr rfl fun l _ => ?_
    rw [w_apply, cat_apply_c, mul_comm]

end Cert.NA
-- ==== Proof.Block2.lean ====
/- One grid point of the kernel: the value of head `h` at one query row and one channel. -/
module

public import proofs.«01_k».proof.Proof.Block
public import proofs.«01_k».proof.Proof.RefVal
public import proofs.«01_k».proof.Proof.RefSoft

@[expose] public section

set_option maxRecDepth 16384

noncomputable section

namespace Cert.NA

open Idealize.ShloMosaic Idealize.ShloMosaic.TcCoe
open Cert.KernelIdeal Cert.KernelIdeal.Gen

/-- The lane numbers. -/
abbrev lanes : IVec S256x128 32 := iota .tc S256x128 32 [1] iota_S256x128_d1_w32

theorem mask0 (r : Fin 256) (l : Fin 128) : andi (k0_pay8) (k0_pay9) (ix2 r l) = BitVec.ofBool (decide (l.val < 64)) := by
  unfold k0_pay8 k0_pay9
  pointwise
  have h1 := sge_nat l.val 0 (by omega) (by omega)
  have h2 := slt_nat l.val 64 (by omega) (by omega)
  rw [h1, h2, andi_bool]
  exact congrArg BitVec.ofBool (decide_eq_decide.2 (by omega))

theorem mask1 (r : Fin 256) (l : Fin 128) : k0_pay11 lanes (ix2 r l) = BitVec.ofBool (decide (64 ≤ l.val)) := by
  unfold k0_pay11 lanes
  pointwise
  have h1 := sge_nat l.val 64 (by omega) (by omega)
  have h2 := slt_nat l.val 128 (by omega) (by omega)
  rw [h1, h2, andi_bool]
  exact congrArg BitVec.ofBool (decide_eq_decide.2 (by omega))

theorem sc_apply (q : FVec Ideal S256x128 .bf16) (m : IVec S256x128 1) (k : FVec Ideal S768x128 .bf16) (b : FVec Ideal S1x1x1x256x768 .f32) (r : Fin 256) (j : Fin 768) :
    sc (qm q m) k b (ix2 r j) = (∑ l : Fin 128, Scalar.select (m (ix2 r l)) (q (ix2 r l) * k (ix2 j l) : EReal) 0) + b (ix5 0 0 0 r j) := by
  unfold sc qm
  pointwise

theorem cc_apply (q : FVec Ideal S256x128 .bf16) (m : IVec S256x128 1) (k : FVec Ideal S256x128 .bf16) (r : Fin 256) (j : Fin 256) :
    cc (qm q m) k (ix2 r j) = (∑ l : Fin 128, Scalar.select (m (ix2 r l)) (q (ix2 r l) * k (ix2 j l) : EReal) 0) := by
  unfold cc qm
  pointwise

theorem pay2_apply (q : FVec Ideal S1x256x128 .bf16) (r : Fin 256) (l : Fin 128) : k0_pay2 q (ix2 r l) = q (ix3 0 r l) * Ideal.ofBits .f32 0x3E000000#32 := by
  have e : (Ideal.ofBits .bf16 0x3E00#16 : EReal) = Ideal.ofBits .f32 0x3E000000#32 := by
    simp [Ideal.ofBits, Ideal.ieee]
    rw [← EReal.coe_mul, ← EReal.coe_mul]
    norm_num
  unfold k0_pay2
  pointwise
  rw [e]

theorem half0 (f g : Fin 128 → EReal) : (∑ l : Fin 128, Scalar.select (BitVec.ofBool (decide (l.val < 64))) (f l * g l) 0)
    = ∑ d : Fin 64, f ⟨64 * (0 : Fin 2).val + d.val, by omega⟩ * g ⟨64 * (0 : Fin 2).val + d.val, by omega⟩ := by
  rw [sum_two (a := 64) (b := 64) rfl (fun d : Fin 64 => f ⟨64 * (0 : Fin 2).val + d.val, by omega⟩ * g ⟨64 * (0 : Fin 2).val + d.val, by omega⟩) (fun _ => 0) _ ?_ ?_]
  · simp
  · intro j
    simp [Scalar.select]
  · intro l
    simp [Scalar.select]

theorem half1 (f g : Fin 128 → EReal) : (∑ l : Fin 128, Scalar.select (BitVec.ofBool (decide (64 ≤ l.val))) (f l * g l) 0)
    = ∑ d : Fin 64, f ⟨64 * (1 : Fin 2).val + d.val, by omega⟩ * g ⟨64 * (1 : Fin 2).val + d.val, by omega⟩ := by
  rw [sum_two (a := 64) (b := 64) rfl (fun _ => 0) (fun d : Fin 64 => f ⟨64 * (1 : Fin 2).val + d.val, by omega⟩ * g ⟨64 * (1 : Fin 2).val + d.val, by omega⟩) _ ?_ ?_]
  · simp
  · intro j
    have : ¬ 64 ≤ j.val := by omega
    simp [this, Scalar.select]
  · intro l
    simp [Scalar.select]

/-- What a point stores, over the blocks it loads. -/
def pay (q : FVec Ideal S1x256x128 .bf16) (k v : FVec Ideal S1x768x128 .bf16) (kc vc : FVec Ideal S1x256x128 .bf16) (b0 b1 : FVec Ideal S1x1x1x256x768 .f32) : FVec Ideal S1x256x128 .bf16 :=
  k0_pay1 (k0_pay4 v) (k0_pay5 kc) (k0_pay6 vc)
    (k0_pay10 (k0_pay2 q) (k0_pay3 k) (k0_pay4 v) (k0_pay5 kc) (k0_pay6 vc) (k0_pay7 (F := Ideal)) (k0_pay8) (k0_pay9) b0)
    (k0_pay11 lanes) (k0_pay12 (k0_pay2 q) lanes) (k0_pay13 (k0_pay2 q) (k0_pay3 k) lanes) b1

/-- The value of head `h` of the point at row `r` and channel `d`. -/
def headVal (q : FVec Ideal S1x256x128 .bf16) (k v : FVec Ideal S1x768x128 .bf16) (kc vc : FVec Ideal S1x256x128 .bf16) (b : FVec Ideal S1x1x1x256x768 .f32) (h : Fin 2) (r : Fin 256) (d : Fin 64) : EReal :=
  att (fun j : Fin 768 => (∑ e : Fin 64, (q (ix3 0 r ⟨64 * h.val + e.val, by omega⟩) * Ideal.ofBits .f32 0x3E000000#32) * k (ix3 0 j ⟨64 * h.val + e.val, by omega⟩)) + b (ix5 0 0 0 r j))
    (fun l : Fin 256 => ∑ e : Fin 64, (q (ix3 0 r ⟨64 * h.val + e.val, by omega⟩) * Ideal.ofBits .f32 0x3E000000#32) * kc (ix3 0 l ⟨64 * h.val + e.val, by omega⟩))
    (fun j : Fin 768 => v (ix3 0 j ⟨64 * h.val + d.val, by omega⟩)) (fun l : Fin 256 => vc (ix3 0 l ⟨64 * h.val + d.val, by omega⟩))

theorem pay3_apply (k : FVec Ideal S1x768x128 .bf16) (j : Fin 768) (l : Fin 128) : k0_pay3 k (ix2 j l) = k (ix3 0 j l) := by
  unfold k0_pay3; pointwise
theorem pay4_apply (k : FVec Ideal S1x768x128 .bf16) (j : Fin 768) (l : Fin 128) : k0_pay4 k (ix2 j l) = k (ix3 0 j l) := by
  unfold k0_pay4; pointwise
theorem pay5_apply (k : FVec Ideal S1x256x128 .bf16) (j : Fin 256) (l : Fin 128) : k0_pay5 k (ix2 j l) = k (ix3 0 j l) := by
  unfold k0_pay5; pointwise
theorem pay6_apply (k : FVec Ideal S1x256x128 .bf16) (j : Fin 256) (l : Fin 128) : k0_pay6 k (ix2 j l) = k (ix3 0 j l) := by
  unfold k0_pay6; pointwise

theorem core0 (q : FVec Ideal S1x256x128 .bf16) (k v : FVec Ideal S1x768x128 .bf16) (kc vc : FVec Ideal S1x256x128 .bf16) (b : FVec Ideal S1x1x1x256x768 .f32) (r : Fin 256) (d : Fin 64) :
    core (sc (qm (k0_pay2 q) (andi (k0_pay8) (k0_pay9))) (k0_pay3 k) b) (cc (qm (k0_pay2 q) (andi (k0_pay8) (k0_pay9))) (k0_pay5 kc)) (k0_pay4 v) (k0_pay6 vc) (ix2 r ⟨64 * (0 : Fin 2).val + d.val, by omega⟩)
      = headVal q k v kc vc b 0 r d := by
  rw [core_apply]
  unfold headVal
  simp only [sc_apply, cc_apply, mask0, pay2_apply, pay3_apply, pay4_apply, pay5_apply, pay6_apply]
  refine congrArg₂ (fun s c => att s c (fun j : Fin 768 => (v (ix3 0 j ⟨64 * (0 : Fin 2).val + d.val, by omega⟩) : EReal))
    (fun j : Fin 256 => (vc (ix3 0 j ⟨64 * (0 : Fin 2).val + d.val, by omega⟩) : EReal))) (funext fun j => ?_) (funext fun j => ?_)
  · rw [half0 (fun l => (q (ix3 0 r l) * Ideal.ofBits .f32 0x3E000000#32 : EReal)) (fun l => (k (ix3 0 j l) : EReal))]
  · rw [half0 (fun l => (q (ix3 0 r l) * Ideal.ofBits .f32 0x3E000000#32 : EReal)) (fun l => (kc (ix3 0 j l) : EReal))]

theorem core1 (q : FVec Ideal S1x256x128 .bf16) (k v : FVec Ideal S1x768x128 .bf16) (kc vc : FVec Ideal S1x256x128 .bf16) (b : FVec Ideal S1x1x1x256x768 .f32) (r : Fin 256) (d : Fin 64) :
    core (sc (qm (k0_pay2 q) (k0_pay11 lanes)) (k0_pay3 k) b) (cc (qm (k0_pay2 q) (k0_pay11 lanes)) (k0_pay5 kc)) (k0_pay4 v) (k0_pay6 vc) (ix2 r ⟨64 * (1 : Fin 2).val + d.val, by omega⟩)
      = headVal q k v kc vc b 1 r d := by
  rw [core_apply]
  unfold headVal
  simp only [sc_apply, cc_apply, mask1, pay2_apply, pay3_apply, pay4_apply, pay5_apply, pay6_apply]
  refine congrArg₂ (fun s c => att s c (fun j : Fin 768 => (v (ix3 0 j ⟨64 * (1 : Fin 2).val + d.val, by omega⟩) : EReal))
    (fun j : Fin 256 => (vc (ix3 0 j ⟨64 * (1 : Fin 2).val + d.val, by omega⟩) : EReal))) (funext fun j => ?_) (funext fun j => ?_)
  · rw [half1 (fun l => (q (ix3 0 r l) * Ideal.ofBits .f32 0x3E000000#32 : EReal)) (fun l => (k (ix3 0 j l) : EReal))]
  · rw [half1 (fun l => (q (ix3 0 r l) * Ideal.ofBits .f32 0x3E000000#32 : EReal)) (fun l => (kc (ix3 0 j l) : EReal))]

theorem pay_apply0 (q : FVec Ideal S1x256x128 .bf16) (k v : FVec Ideal S1x768x128 .bf16) (kc vc : FVec Ideal S1x256x128 .bf16) (b0 b1 : FVec Ideal S1x1x1x256x768 .f32) (r : Fin 256) (d : Fin 64) (z : Fin 1) :
    pay q k v kc vc b0 b1 (ix3 z r ⟨64 * (0 : Fin 2).val + d.val, by omega⟩) = headVal q k v kc vc b0 0 r d := by
  rw [← core0]
  unfold pay
  rw [pay1_eq _ _ _ _ (k0_pay11 lanes) (k0_pay12 (k0_pay2 q) lanes) (k0_pay2 q) (k0_pay3 k) lanes b1, pay10_eq]
  have m0 := mask0 r
  have m1 := mask1 r
  generalize core _ _ _ _ = A
  generalize core _ _ _ _ = B
  generalize andi (k0_pay8) (k0_pay9) = M at m0 ⊢
  generalize k0_pay11 lanes = N at m1 ⊢
  pointwise
  have hd : ¬ 64 ≤ d.val := by omega
  simp [m0, m1, Scalar.select, hd]

theorem pay_apply1 (q : FVec Ideal S1x256x128 .bf16) (k v : FVec Ideal S1x768x128 .bf16) (kc vc : FVec Ideal S1x256x128 .bf16) (b0 b1 : FVec Ideal S1x1x1x256x768 .f32) (r : Fin 256) (d : Fin 64) (z : Fin 1) :
    pay q k v kc vc b0 b1 (ix3 z r ⟨64 * (1 : Fin 2).val + d.val, by omega⟩) = headVal q k v kc vc b1 1 r d := by
  rw [← core1]
  unfold pay
  rw [pay1_eq _ _ _ _ (k0_pay11 lanes) (k0_pay12 (k0_pay2 q) lanes) (k0_pay2 q) (k0_pay3 k) lanes b1, pay10_eq]
  have m1 := mask1 r
  generalize core _ _ _ _ = A
  generalize core _ _ _ _ = B
  generalize k0_pay11 lanes = N at m1 ⊢
  pointwise
  simp [m1, Scalar.select]

end Cert.NA
-- ==== Proof.Eqn.lean ====
/- One head of one point of the grid against the reference: the band's weights are those of all the keys, since a key outside the
   band lies in no window of the point's queries. -/
module

public import proofs.«01_k».proof.Proof.BiasTab
public import proofs.«01_k».proof.Proof.Block2
public import proofs.«01_k».proof.Proof.RefSoft

@[expose] public section

set_option maxRecDepth 16384

noncomputable section

namespace Cert.NA

open Idealize.ShloMosaic Idealize.ShloMosaic.TcCoe
open Cert.KernelIdeal.Gen

/-- The first row of the band of the point of rows `4 * n` to `4 * n + 3`. -/
abbrev bandRow (n : Nat) : Nat := min 20 (4 * n - 4)
/-- The variant of the bias table of a point. -/
def variant (n : Fin 8) : Fin 3 := if n.val = 0 then 0 else if n.val = 7 then 2 else 1

/-- The mask of the band is that of the grid. -/
theorem near_band (n : Fin 8) (r : Fin 256) (k : Fin 768) :
    (NearB (rsV (variant n)) (stV (variant n)) r.val k.val ↔ Near (256 * n.val + r.val) (64 * bandRow n.val + k.val)) ∧
    (NearB (rsV (variant n)) (stV (variant n)) r.val k.val →
      stV (variant n) + k.val / 64 + 7 - (rsV (variant n) + r.val / 64) = (64 * bandRow n.val + k.val) / 64 + 7 - (256 * n.val + r.val) / 64 ∧
      k.val % 64 + 15 - r.val % 64 = (64 * bandRow n.val + k.val) % 64 + 15 - (256 * n.val + r.val) % 64) := by
  have hr := r.isLt
  have hk := k.isLt
  have hn := n.isLt
  have e1 : (256 * n.val + r.val) / 64 = 4 * n.val + r.val / 64 := by omega
  have e2 : (256 * n.val + r.val) % 64 = r.val % 64 := by omega
  have e3 : (64 * bandRow n.val + k.val) / 64 = bandRow n.val + k.val / 64 := by omega
  have e4 : (64 * bandRow n.val + k.val) % 64 = k.val % 64 := by omega
  unfold Near NearB
  rw [e1, e2, e3, e4]
  have hv : (rsV (variant n) = 4 * n.val ∧ stV (variant n) = min 20 (4 * n.val - 4)) ∨
      (rsV (variant n) = 4 ∧ stV (variant n) = 0 ∧ 1 ≤ n.val ∧ n.val ≤ 6) := by
    clear e1 e2 e3 e4 hn
    revert n
    decide
  generalize rsV (variant n) = rs at hv ⊢
  generalize stV (variant n) = st at hv ⊢
  clear e1 e2 e3 e4
  unfold bandRow row0
  generalize col0 (r.val % 64) = cl
  constructor
  · refine and_congr ?_ Iff.rfl
    omega
  · intro _
    refine ⟨?_, rfl⟩
    omega

/-- A key that sees the query lies in the band. -/
theorem near_in (n : Fin 8) (r : Fin 256) (j : Fin 2048) (h : Near (256 * n.val + r.val) j.val) :
    64 * bandRow n.val ≤ j.val ∧ j.val < 64 * bandRow n.val + 768 := by
  have h1 := h.1
  have hr := r.isLt
  have hn := n.isLt
  unfold row0 at h1
  have e1 : (256 * n.val + r.val) / 64 = 4 * n.val + r.val / 64 := by omega
  rw [e1] at h1
  unfold bandRow
  omega

/-- A real number. -/
def Re (x : EReal) : Prop := x ≠ ⊤ ∧ x ≠ ⊥

theorem Re.exists {x : EReal} (h : Re x) : ∃ r : ℝ, x = r := ⟨x.toReal, (EReal.coe_toReal h.1 h.2).symm⟩
theorem re_coe (r : ℝ) : Re (r : EReal) := ⟨EReal.coe_ne_top r, EReal.coe_ne_bot r⟩
theorem Re.mul {x y : EReal} (h : Re x) (h' : Re y) : Re (x * y) := by
  obtain ⟨a, rfl⟩ := h.exists
  obtain ⟨b, rfl⟩ := h'.exists
  rw [← EReal.coe_mul]
  exact re_coe _
theorem Re.add {x y : EReal} (h : Re x) (h' : Re y) : Re (x + y) := by
  obtain ⟨a, rfl⟩ := h.exists
  obtain ⟨b, rfl⟩ := h'.exists
  rw [← EReal.coe_add]
  exact re_coe _
theorem re_sum {n : Nat} (f : Fin n → EReal) (h : ∀ i, Re (f i)) : Re (∑ i, f i) :=
  Finset.sum_induction f Re (fun _ _ => Re.add) (re_coe 0) fun i _ => h i
theorem re_eighth : Re eighth := by
  have h : eighth = ((8388608 * 2 ^ ((1040187392 >>> 23 % 256 : Nat) - 127 - 23 : Int) : ℝ) : EReal) := by
    unfold eighth
    simp [Ideal.ofBits, Ideal.ieee]
  rw [h]
  exact re_coe _

variable (x0 : XQ) (x1 : XC) (x2 : XB) (h0 : ∀ i, Re (x0 i)) (h1 : ∀ i, Re (x1 i)) (h2 : ∀ i, Re (x2 i))

include h2 in
theorem re_rp (h : Fin 16) (a c : Nat) : Re (rp x2 h a c) := by
  unfold rp
  split_ifs
  · exact h2 _
  · exact re_coe 0

include h0 in
theorem re_qv (b h : Fin 16) (q : Fin 2048) (d : Fin 64) : Re (qv x0 b h q d) := (h0 _).mul re_eighth

include h0 h1 in
theorem re_ctx (b h : Fin 16) (q : Fin 2048) (l : Fin 256) : Re (sCtx x0 x1 b h q l) :=
  re_sum _ fun d => (re_qv x0 h0 b h q d).mul (h1 _)

include h0 h2 in
theorem all_ne_top (b h : Fin 16) (q j : Fin 2048) : sAll x0 x2 b h q j ≠ ⊤ := by
  unfold sAll
  split_ifs
  · exact ((re_sum _ fun d => (re_qv x0 h0 b h q d).mul (h0 _)).add (re_rp x2 h2 _ _ _)).1
  · exact bot_ne_top

include h0 h1 h2 in
/-- One head of one point. -/
theorem head_eq (b : Fin 16) (cc : Fin 8) (n : Fin 8) (g : Fin 2) (q : FVec Ideal Cert.KernelIdeal.S1x256x128 .bf16) (k v : FVec Ideal Cert.KernelIdeal.S1x768x128 .bf16) (kb vb : FVec Ideal Cert.KernelIdeal.S1x256x128 .bf16)
    (bb : FVec Ideal Cert.KernelIdeal.S1x1x1x256x768 .f32)
    (hq : ∀ (r : Fin 256) (l : Fin 128), q (ix3 0 r l) = x0 (ix3 b ⟨256 * n.val + r.val, by omega⟩ ⟨128 * cc.val + l.val, by omega⟩))
    (hk : ∀ (j : Fin 768) (l : Fin 128), k (ix3 0 j l) = x0 (ix3 b ⟨64 * bandRow n.val + j.val, by unfold bandRow; omega⟩ ⟨1024 + (128 * cc.val + l.val), by omega⟩))
    (hv : ∀ (j : Fin 768) (l : Fin 128), v (ix3 0 j l) = x0 (ix3 b ⟨64 * bandRow n.val + j.val, by unfold bandRow; omega⟩ ⟨2048 + (128 * cc.val + l.val), by omega⟩))
    (hkc : ∀ (j : Fin 256) (l : Fin 128), kb (ix3 0 j l) = x1 (ix3 b j ⟨1024 + (128 * cc.val + l.val), by omega⟩))
    (hvc : ∀ (j : Fin 256) (l : Fin 128), vb (ix3 0 j l) = x1 (ix3 b j ⟨2048 + (128 * cc.val + l.val), by omega⟩))
    (hb : ∀ (r : Fin 256) (j : Fin 768), bb (ix5 0 0 0 r j) = biasAt x2 (rsV (variant n)) (stV (variant n)) ⟨2 * cc.val + g.val, by omega⟩ r.val j.val)
    (r : Fin 256) (d : Fin 64) :
    headVal q k v kb vb bb g r d
      = softAtt (sAll x0 x2 b ⟨2 * cc.val + g.val, by omega⟩ ⟨256 * n.val + r.val, by omega⟩) (sCtx x0 x1 b ⟨2 * cc.val + g.val, by omega⟩ ⟨256 * n.val + r.val, by omega⟩)
          (fun j => vv x0 b ⟨2 * cc.val + g.val, by omega⟩ j d) (fun l => vc x1 b ⟨2 * cc.val + g.val, by omega⟩ l d) := by
  have hch : ∀ (o : Nat) (e : Fin 64), o + (128 * cc.val + (64 * g.val + e.val)) = o + (64 * (2 * cc.val + g.val) + e.val) := fun o e => by omega
  have ectx : (fun l : Fin 256 => ∑ e : Fin 64, (q (ix3 0 r ⟨64 * g.val + e.val, by omega⟩) * Ideal.ofBits .f32 0x3E000000#32) * kb (ix3 0 l ⟨64 * g.val + e.val, by omega⟩))
      = sCtx x0 x1 b ⟨2 * cc.val + g.val, by omega⟩ ⟨256 * n.val + r.val, by omega⟩ := by
    funext l
    unfold sCtx
    refine Finset.sum_congr rfl fun e _ => ?_
    rw [hq, hkc]
    unfold qv kc eighth
    congr 3
    · exact congrArg (ix3 b _) (Fin.ext (by show 128 * cc.val + (64 * g.val + e.val) = 64 * (2 * cc.val + g.val) + e.val; omega))
    · exact Fin.ext (hch 1024 e)
  have ew : (fun l : Fin 256 => vb (ix3 0 l ⟨64 * g.val + d.val, by omega⟩)) = fun l => vc x1 b ⟨2 * cc.val + g.val, by omega⟩ l d := by
    funext l
    rw [hvc]
    unfold vc
    exact congrArg (fun w => x1 (ix3 b l w)) (Fin.ext (hch 2048 d))
  unfold headVal
  rw [ectx, ew]
  refine att_band _ _ _ _ _ _ (fun k : Fin 768 => (⟨64 * bandRow n.val + k.val, by unfold bandRow; omega⟩ : Fin 2048)) ?_ ?_ ?_ ?_ ?_ ?_ 0 ?_
  · intro a a' h
    have := congrArg Fin.val h
    dsimp only at this
    exact Fin.ext (by omega)
  · intro j
    rw [hb]
    obtain ⟨hN, hI⟩ := near_band n r j
    unfold biasAt sAll
    by_cases H : NearB (rsV (variant n)) (stV (variant n)) r.val j.val
    · rw [if_pos H, if_pos (hN.1 H), (hI H).1, (hI H).2]
      refine congrArg (· + _) (Finset.sum_congr rfl fun e _ => ?_)
      rw [hq, hk]
      unfold qv kv eighth
      congr 3
      · exact congrArg (ix3 b _) (Fin.ext (by show 128 * cc.val + (64 * g.val + e.val) = 64 * (2 * cc.val + g.val) + e.val; omega))
      · exact Fin.ext (hch 1024 e)
    · rw [if_neg H, if_neg (fun h => H (hN.2 h)), EReal.add_bot]
  · intro j
    rw [hv]
    unfold vv
    exact congrArg (fun w => x0 (ix3 b _ w)) (Fin.ext (hch 2048 d))
  · intro j hj
    unfold sAll
    refine if_neg fun H => ?_
    have := near_in n r j H
    exact hj ⟨j.val - 64 * bandRow n.val, by omega⟩ (Fin.ext (by show 64 * bandRow n.val + (j.val - 64 * bandRow n.val) = j.val; omega))
  · exact fun j => all_ne_top x0 x2 h0 h2 _ _ _ j
  · exact fun l => (re_ctx x0 x1 h0 h1 _ _ _ l).1
  · exact (re_ctx x0 x1 h0 h1 _ _ _ 0).2

end Cert.NA
-- ==== Proof.Idx.lean ====
/- Which block of its array each window holds at a point of the grid. -/
module

public import proofs.«01_k».proof.Proof.IdealValue
public import proofs.«01_k».proof.Proof.BiasTab
public import proofs.«01_k».proof.Proof.Eqn
public import Idealize.ShloMosaic.Lib.Pipeline.ValueKit
public import Idealize.ShloMosaic.Lib.Pipeline.Covers

@[expose] public section

set_option maxRecDepth 16384

noncomputable section

namespace Cert.NA

open Idealize.ShloMosaic Idealize.ShloMosaic.TcCoe
open Idealize.SL.Sem
open Idealize.ShloMosaic.Pipeline (Dat)
open Cert.KernelIdeal Cert.KernelIdeal.Gen Cert.KernelIdeal.Hand Cert.KernelIdeal.HandValue

variable (m : (ℓ : Loc nD τ sig) → Buf (Elt Ideal) ℓ)

theorem idx : ∀ t : Fin cfg0.N, win0_0.index t = ![(grid0.coords t 1).val, (grid0.coords t 2).val, (grid0.coords t 0).val]
    ∧ win0_1.index t = ![(grid0.coords t 1).val, 0, 8 + (grid0.coords t 0).val]
    ∧ win0_2.index t = ![(grid0.coords t 1).val, 0, 16 + (grid0.coords t 0).val]
    ∧ win0_3.index t = ![(grid0.coords t 1).val, 0, 8 + (grid0.coords t 0).val]
    ∧ win0_4.index t = ![(grid0.coords t 1).val, 0, 16 + (grid0.coords t 0).val]
    ∧ win0_5.index t = ![0, (grid0.coords t 0).val, 0, 0, 0]
    ∧ win0_6.index t = ![(grid0.coords t 1).val, (grid0.coords t 2).val, (grid0.coords t 0).val] :=
  (by decide +kernel : ∀ t : Fin grid0.N, _)

/-- The column block, the batch and the tile of rows of a point. -/
abbrev pc (t : Fin cfg0.N) : Fin 8 := grid0.coords t 0
abbrev pb (t : Fin cfg0.N) : Fin 16 := grid0.coords t 1
abbrev pr (t : Fin cfg0.N) : Fin 8 := grid0.coords t 2

theorem off1 (i : grid0.Coords) : k0_off1 i = ![0, 64 * bandRow (i 2).val, 0] := by
  unfold k0_off1
  dsimp only
  generalize i 2 = n
  revert n
  decide +kernel
theorem off2 (i : grid0.Coords) : k0_off2 i = ![(variant (i 2)).val, 0, 0, 0, 0] := by
  unfold k0_off2
  dsimp only
  generalize i 2 = n
  revert n
  decide +kernel
theorem off3 (i : grid0.Coords) : k0_off3 i = ![(variant (i 2)).val, 0, 1, 0, 0] := by
  unfold k0_off3
  dsimp only
  generalize i 2 = n
  revert n
  decide +kernel

theorem covers : (cfg0.win 6).Covers := by decide +kernel

end Cert.NA
-- ==== Proof.Reads.lean ====
/- A block of an array at a point of the grid, at coordinates. -/
module

public import proofs.«01_k».proof.Proof.Idx

@[expose] public section

set_option maxRecDepth 16384

noncomputable section

namespace Cert.NA

open Idealize.ShloMosaic Idealize.ShloMosaic.TcCoe
open Idealize.SL.Sem
open Idealize.ShloMosaic.Pipeline (Dat)
open Cert.KernelIdeal Cert.KernelIdeal.Gen Cert.KernelIdeal.Hand Cert.KernelIdeal.HandValue

theorem emb0 {α : Type} (X : S16x2048x3072.Idx → α) (t : Fin cfg0.N) (r : Fin 256) (l : Fin 128) :
    X ((win0_0.blk t).view.emb (ix3 0 r l)) = X (ix3 (pb t) ⟨256 * (pr t).val + r.val, by omega⟩ ⟨128 * (pc t).val + l.val, by omega⟩) := by
  have hi := (idx t).1
  blk_ext [hi, pb, pc, pr]

theorem read0 (X : FVec Ideal S16x2048x3072 .bf16) (t : Fin cfg0.N) (r : Fin 256) (l : Fin 128) :
    (View.read (Elt Ideal) ((cfg0.win 0).blk t).view X : FVec Ideal S1x256x128 .bf16) (ix3 0 r l) = X (ix3 (pb t) ⟨256 * (pr t).val + r.val, by omega⟩ ⟨128 * (pc t).val + l.val, by omega⟩) :=
  emb0 _ t r l

theorem emb1 {α : Type} (X : S16x2048x3072.Idx → α) (t : Fin cfg0.N) (r : Fin 2048) (l : Fin 128) :
    X ((win0_1.blk t).view.emb (ix3 0 r l)) = X (ix3 (pb t) r ⟨1024 + (128 * (pc t).val + l.val), by omega⟩) := by
  have hi := (idx t).2.1
  blk_ext [hi, pb, pc, pr]

theorem read1 (X : FVec Ideal S16x2048x3072 .bf16) (t : Fin cfg0.N) (r : Fin 2048) (l : Fin 128) :
    (View.read (Elt Ideal) ((cfg0.win 1).blk t).view X : FVec Ideal S1x2048x128 .bf16) (ix3 0 r l) = X (ix3 (pb t) r ⟨1024 + (128 * (pc t).val + l.val), by omega⟩) :=
  emb1 _ t r l

theorem emb2 {α : Type} (X : S16x2048x3072.Idx → α) (t : Fin cfg0.N) (r : Fin 2048) (l : Fin 128) :
    X ((win0_2.blk t).view.emb (ix3 0 r l)) = X (ix3 (pb t) r ⟨2048 + (128 * (pc t).val + l.val), by omega⟩) := by
  have hi := (idx t).2.2.1
  blk_ext [hi, pb, pc, pr]

theorem read2 (X : FVec Ideal S16x2048x3072 .bf16) (t : Fin cfg0.N) (r : Fin 2048) (l : Fin 128) :
    (View.read (Elt Ideal) ((cfg0.win 2).blk t).view X : FVec Ideal S1x2048x128 .bf16) (ix3 0 r l) = X (ix3 (pb t) r ⟨2048 + (128 * (pc t).val + l.val), by omega⟩) :=
  emb2 _ t r l

theorem emb3 {α : Type} (X : S16x256x3072.Idx → α) (t : Fin cfg0.N) (r : Fin 256) (l : Fin 128) :
    X ((win0_3.blk t).view.emb (ix3 0 r l)) = X (ix3 (pb t) r ⟨1024 + (128 * (pc t).val + l.val), by omega⟩) := by
  have hi := (idx t).2.2.2.1
  blk_ext [hi, pb, pc, pr]

theorem read3 (X : FVec Ideal S16x256x3072 .bf16) (t : Fin cfg0.N) (r : Fin 256) (l : Fin 128) :
    (View.read (Elt Ideal) ((cfg0.win 3).blk t).view X : FVec Ideal S1x256x128 .bf16) (ix3 0 r l) = X (ix3 (pb t) r ⟨1024 + (128 * (pc t).val + l.val), by omega⟩) :=
  emb3 _ t r l

theorem emb4 {α : Type} (X : S16x256x3072.Idx → α) (t : Fin cfg0.N) (r : Fin 256) (l : Fin 128) :
    X ((win0_4.blk t).view.emb (ix3 0 r l)) = X (ix3 (pb t) r ⟨2048 + (128 * (pc t).val + l.val), by omega⟩) := by
  have hi := (idx t).2.2.2.2.1
  blk_ext [hi, pb, pc, pr]

theorem read4 (X : FVec Ideal S16x256x3072 .bf16) (t : Fin cfg0.N) (r : Fin 256) (l : Fin 128) :
    (View.read (Elt Ideal) ((cfg0.win 4).blk t).view X : FVec Ideal S1x256x128 .bf16) (ix3 0 r l) = X (ix3 (pb t) r ⟨2048 + (128 * (pc t).val + l.val), by omega⟩) :=
  emb4 _ t r l

theorem emb5 {α : Type} (X : S3x8x2x256x768.Idx → α) (t : Fin cfg0.N) (v : Fin 3) (g : Fin 2) (q : Fin 256) (k : Fin 768) :
    X ((win0_5.blk t).view.emb (ix5 v 0 g q k)) = X (ix5 v (pc t) g q k) := by
  have hi := (idx t).2.2.2.2.2.1
  blk_ext [hi, pb, pc, pr]

theorem read5 (X : FVec Ideal S3x8x2x256x768 .f32) (t : Fin cfg0.N) (v : Fin 3) (g : Fin 2) (q : Fin 256) (k : Fin 768) :
    (View.read (Elt Ideal) ((cfg0.win 5).blk t).view X : FVec Ideal S3x1x2x256x768 .f32) (ix5 v 0 g q k) = X (ix5 v (pc t) g q k) :=
  emb5 _ t v g q k

theorem emb6 {α : Type} (X : S16x2048x1024.Idx → α) (t : Fin cfg0.N) (z : Fin 1) (r : Fin 256) (l : Fin 128) :
    X ((win0_6.blk t).view.emb (ix3 z r l)) = X (ix3 (pb t) ⟨256 * (pr t).val + r.val, by omega⟩ ⟨128 * (pc t).val + l.val, by omega⟩) := by
  have hi := (idx t).2.2.2.2.2.2
  blk_ext [hi, pb, pc, pr]

theorem ld1 (X : FVec Ideal S16x2048x3072 .bf16) (t : Fin cfg0.N) (j : Fin 768) (l : Fin 128) (h) :
    (View.ld (View.read (Elt Ideal) ((cfg0.win 1).blk t).view X : FVec Ideal S1x2048x128 .bf16) (Rect.unit (k0_off1 (grid0.coords t)) ![1, 768, 128] h) : FVec Ideal S1x768x128 .bf16) (ix3 0 j l)
      = X (ix3 (pb t) ⟨64 * bandRow (pr t).val + j.val, by unfold bandRow; omega⟩ ⟨1024 + (128 * (pc t).val + l.val), by omega⟩) := by
  refine (View.ld_unit_apply_of _ _ _ _ _ (ix3 0 (⟨64 * bandRow (pr t).val + j.val, by unfold bandRow; omega⟩ : Fin 2048) l) ?_).trans (read1 X t _ l)
  intro a
  have ho := congrFun (off1 (grid0.coords t)) a
  match a with
  | ⟨0, _⟩ => exact (congrArg (· + 0) ho).symm
  | ⟨1, _⟩ => exact (congrArg (· + j.val) ho).symm
  | ⟨2, _⟩ => exact ((congrArg (· + l.val) ho).trans (Nat.zero_add _)).symm

theorem ld2 (X : FVec Ideal S16x2048x3072 .bf16) (t : Fin cfg0.N) (j : Fin 768) (l : Fin 128) (h) :
    (View.ld (View.read (Elt Ideal) ((cfg0.win 2).blk t).view X : FVec Ideal S1x2048x128 .bf16) (Rect.unit (k0_off1 (grid0.coords t)) ![1, 768, 128] h) : FVec Ideal S1x768x128 .bf16) (ix3 0 j l)
      = X (ix3 (pb t) ⟨64 * bandRow (pr t).val + j.val, by unfold bandRow; omega⟩ ⟨2048 + (128 * (pc t).val + l.val), by omega⟩) := by
  refine (View.ld_unit_apply_of _ _ _ _ _ (ix3 0 (⟨64 * bandRow (pr t).val + j.val, by unfold bandRow; omega⟩ : Fin 2048) l) ?_).trans (read2 X t _ l)
  intro a
  have ho := congrFun (off1 (grid0.coords t)) a
  match a with
  | ⟨0, _⟩ => exact (congrArg (· + 0) ho).symm
  | ⟨1, _⟩ => exact (congrArg (· + j.val) ho).symm
  | ⟨2, _⟩ => exact ((congrArg (· + l.val) ho).trans (Nat.zero_add _)).symm

theorem ldb0 (X : FVec Ideal S3x8x2x256x768 .f32) (t : Fin cfg0.N) (q : Fin 256) (k : Fin 768) (h) :
    (View.ld (View.read (Elt Ideal) ((cfg0.win 5).blk t).view X : FVec Ideal S3x1x2x256x768 .f32) (Rect.unit (k0_off2 (grid0.coords t)) ![1, 1, 1, 256, 768] h) : FVec Ideal S1x1x1x256x768 .f32) (ix5 0 0 0 q k)
      = X (ix5 (variant (pr t)) (pc t) 0 q k) := by
  refine (View.ld_unit_apply_of _ _ _ _ _ (ix5 (variant (pr t)) 0 0 q k) ?_).trans (read5 X t _ 0 q k)
  intro a
  have ho := congrFun (off2 (grid0.coords t)) a
  match a with
  | ⟨0, _⟩ => exact (congrArg (· + 0) ho).symm
  | ⟨1, _⟩ => exact (congrArg (· + 0) ho).symm
  | ⟨2, _⟩ => exact (congrArg (· + 0) ho).symm
  | ⟨3, _⟩ => exact ((congrArg (· + q.val) ho).trans (Nat.zero_add _)).symm
  | ⟨4, _⟩ => exact ((congrArg (· + k.val) ho).trans (Nat.zero_add _)).symm

theorem ldb1 (X : FVec Ideal S3x8x2x256x768 .f32) (t : Fin cfg0.N) (q : Fin 256) (k : Fin 768) (h) :
    (View.ld (View.read (Elt Ideal) ((cfg0.win 5).blk t).view X : FVec Ideal S3x1x2x256x768 .f32) (Rect.unit (k0_off3 (grid0.coords t)) ![1, 1, 1, 256, 768] h) : FVec Ideal S1x1x1x256x768 .f32) (ix5 0 0 0 q k)
      = X (ix5 (variant (pr t)) (pc t) 1 q k) := by
  refine (View.ld_unit_apply_of _ _ _ _ _ (ix5 (variant (pr t)) 0 1 q k) ?_).trans (read5 X t _ 1 q k)
  intro a
  have ho := congrFun (off3 (grid0.coords t)) a
  match a with
  | ⟨0, _⟩ => exact (congrArg (· + 0) ho).symm
  | ⟨1, _⟩ => exact (congrArg (· + 0) ho).symm
  | ⟨2, _⟩ => exact (congrArg (· + 0) ho).symm
  | ⟨3, _⟩ => exact ((congrArg (· + q.val) ho).trans (Nat.zero_add _)).symm
  | ⟨4, _⟩ => exact ((congrArg (· + k.val) ho).trans (Nat.zero_add _)).symm

end Cert.NA
-- ==== Proof.Pre.lean ====
/- What the precondition says: every entry of the three arguments is a real number. -/
module

public import proofs.«01_k».proof.Proof.Eqn
public import proofs.«01_k».proof.Pre_finite
public import Idealize.ShloMosaic.Lib.Pointwise

@[expose] public section

set_option maxRecDepth 16384

noncomputable section

namespace Cert.NA

open Idealize.ShloMosaic Idealize.ShloMosaic.TcCoe

theorem pre_facts : Cert.Pre_finite.Facts := by
  constructor <;> decide

theorem re_of_lt {x y : EReal} (hy : y = ⊤) (h : BitVec.ofBool (decide (max x (-x) < y)) = 1#1) : Re x := by
  subst hy
  have hlt : max x (-x) < ⊤ := by
    by_contra hn
    rw [decide_eq_false hn] at h
    exact absurd h (by decide)
  constructor
  · rintro rfl
    simp at hlt
  · rintro rfl
    simp at hlt

theorem pinf_bf16 : (Ideal.ofBits .bf16 0x7F80#16 : EReal) = ⊤ := by simp [Ideal.ofBits, Ideal.ieee]
theorem pinf_f32 : (Ideal.ofBits .f32 0x7F800000#32 : EReal) = ⊤ := by simp [Ideal.ofBits, Ideal.ieee]

theorem pre_re [hp : Cert.Pre_finite.Facts] (x0 : XQ) (x1 : XC) (x2 : XB)
    (h : (Cert.Pre_finite.fn (F := Ideal) x0 x1 x2).1 = (fun _ => 1#1) ∧ (Cert.Pre_finite.fn (F := Ideal) x0 x1 x2).2.1 = (fun _ => 1#1)
      ∧ (Cert.Pre_finite.fn (F := Ideal) x0 x1 x2).2.2 = (fun _ => 1#1)) :
    (∀ i, Re (x0 i)) ∧ (∀ i, Re (x1 i)) ∧ (∀ i, Re (x2 i)) := by
  obtain ⟨h0, h1, h2⟩ := h
  refine ⟨fun i => ?_, fun i => ?_, fun i => ?_⟩
  · exact re_of_lt pinf_bf16 (congrFun h0 i)
  · exact re_of_lt pinf_bf16 (congrFun h1 i)
  · exact re_of_lt pinf_f32 (congrFun h2 i)

end Cert.NA
-- ==== Proof.Point.lean ====
/- What a point of the grid writes, against the reference: over any arrays, the bias table being the one of the host operations. -/
module

public import proofs.«01_k».proof.Proof.Reads
public import proofs.«01_k».proof.Proof.Pre

@[expose] public section

set_option maxRecDepth 16384

noncomputable section

namespace Cert.NA

open Idealize.ShloMosaic Idealize.ShloMosaic.TcCoe
open Idealize.SL.Sem
open Idealize.ShloMosaic.Pipeline (Dat)
open Cert.KernelIdeal Cert.KernelIdeal.Gen Cert.KernelIdeal.Hand Cert.KernelIdeal.HandValue

variable (x0 : XQ) (x1 : XC) (x2 : XB) (h0 : ∀ i, Re (x0 i)) (h1 : ∀ i, Re (x1 i)) (h2 : ∀ i, Re (x2 i))
variable (X : FVec Ideal S3x8x2x256x768 .f32) (hX : ∀ (v : Fin 3) (c : Fin 8) (g : Fin 2) (q : Fin 256) (k : Fin 768), X (ix5 v c g q k) = biasAt x2 (rsV v) (stV v) ⟨2 * c.val + g.val, by omega⟩ q.val k.val)

/-- The reference at the place of a point's entry. -/
theorem ref_at (t : Fin cfg0.N) (z : Fin 1) (r : Fin 256) (g : Fin 2) (d : Fin 64) :
    (Cert.ReferenceIdeal.Read.val_main_v107 (F := Ideal) x0 x1 x2 : FVec Ideal S16x2048x1024 .bf16) ((win0_6.blk t).view.emb (ix3 z r ⟨64 * g.val + d.val, by omega⟩))
      = softAtt (sAll x0 x2 (pb t) ⟨2 * (pc t).val + g.val, by omega⟩ ⟨256 * (pr t).val + r.val, by omega⟩) (sCtx x0 x1 (pb t) ⟨2 * (pc t).val + g.val, by omega⟩ ⟨256 * (pr t).val + r.val, by omega⟩)
          (fun j => vv x0 (pb t) ⟨2 * (pc t).val + g.val, by omega⟩ j d) (fun l => vc x1 (pb t) ⟨2 * (pc t).val + g.val, by omega⟩ l d) := by
  refine Eq.trans (emb6 _ t z r ⟨64 * g.val + d.val, by omega⟩) ?_
  refine Eq.trans ?_ (ref_apply x0 x1 x2 (pb t) ⟨2 * (pc t).val + g.val, by omega⟩ ⟨256 * (pr t).val + r.val, by omega⟩ d)
  exact congrArg (fun w => Cert.ReferenceIdeal.Read.val_main_v107 (F := Ideal) x0 x1 x2 (ix3 (pb t) ⟨256 * (pr t).val + r.val, by omega⟩ w))
    (Fin.ext (by show 128 * (pc t).val + (64 * g.val + d.val) = 64 * (2 * (pc t).val + g.val) + d.val; omega))

include h0 h1 h2 hX in
theorem point0 (t : Fin cfg0.N) (h h' hb hb') (z : Fin 1) (r : Fin 256) (d : Fin 64) :
    pay (View.read (Elt Ideal) ((cfg0.win 0).blk t).view x0)
      (View.ld (View.read (Elt Ideal) ((cfg0.win 1).blk t).view x0 : FVec Ideal S1x2048x128 .bf16) (Rect.unit (k0_off1 (grid0.coords t)) ![1, 768, 128] h))
      (View.ld (View.read (Elt Ideal) ((cfg0.win 2).blk t).view x0 : FVec Ideal S1x2048x128 .bf16) (Rect.unit (k0_off1 (grid0.coords t)) ![1, 768, 128] h'))
      (View.read (Elt Ideal) ((cfg0.win 3).blk t).view x1) (View.read (Elt Ideal) ((cfg0.win 4).blk t).view x1)
      (View.ld (View.read (Elt Ideal) ((cfg0.win 5).blk t).view X : FVec Ideal S3x1x2x256x768 .f32) (Rect.unit (k0_off2 (grid0.coords t)) ![1, 1, 1, 256, 768] hb))
      (View.ld (View.read (Elt Ideal) ((cfg0.win 5).blk t).view X : FVec Ideal S3x1x2x256x768 .f32) (Rect.unit (k0_off3 (grid0.coords t)) ![1, 1, 1, 256, 768] hb')) (ix3 z r ⟨64 * (0 : Fin 2).val + d.val, by omega⟩)
      = (Cert.ReferenceIdeal.Read.val_main_v107 (F := Ideal) x0 x1 x2 : FVec Ideal S16x2048x1024 .bf16) ((win0_6.blk t).view.emb (ix3 z r ⟨64 * (0 : Fin 2).val + d.val, by omega⟩)) := by
  refine Eq.trans (pay_apply0 _ _ _ _ _ _ _ r d z) (Eq.trans ?_ (ref_at x0 x1 x2 t z r 0 d).symm)
  refine head_eq x0 x1 x2 h0 h1 h2 (pb t) (pc t) (pr t) 0 _ _ _ _ _ _ ?_ ?_ ?_ ?_ ?_ ?_ r d
  · exact fun r l => read0 x0 t r l
  · exact fun j l => ld1 x0 t j l h
  · exact fun j l => ld2 x0 t j l h'
  · exact fun j l => read3 x1 t j l
  · exact fun j l => read4 x1 t j l
  · exact fun q k => (ldb0 X t q k hb).trans (hX (variant (pr t)) (pc t) 0 q k)

include h0 h1 h2 hX in
theorem point1 (t : Fin cfg0.N) (h h' hb hb') (z : Fin 1) (r : Fin 256) (d : Fin 64) :
    pay (View.read (Elt Ideal) ((cfg0.win 0).blk t).view x0)
      (View.ld (View.read (Elt Ideal) ((cfg0.win 1).blk t).view x0 : FVec Ideal S1x2048x128 .bf16) (Rect.unit (k0_off1 (grid0.coords t)) ![1, 768, 128] h))
      (View.ld (View.read (Elt Ideal) ((cfg0.win 2).blk t).view x0 : FVec Ideal S1x2048x128 .bf16) (Rect.unit (k0_off1 (grid0.coords t)) ![1, 768, 128] h'))
      (View.read (Elt Ideal) ((cfg0.win 3).blk t).view x1) (View.read (Elt Ideal) ((cfg0.win 4).blk t).view x1)
      (View.ld (View.read (Elt Ideal) ((cfg0.win 5).blk t).view X : FVec Ideal S3x1x2x256x768 .f32) (Rect.unit (k0_off2 (grid0.coords t)) ![1, 1, 1, 256, 768] hb))
      (View.ld (View.read (Elt Ideal) ((cfg0.win 5).blk t).view X : FVec Ideal S3x1x2x256x768 .f32) (Rect.unit (k0_off3 (grid0.coords t)) ![1, 1, 1, 256, 768] hb')) (ix3 z r ⟨64 * (1 : Fin 2).val + d.val, by omega⟩)
      = (Cert.ReferenceIdeal.Read.val_main_v107 (F := Ideal) x0 x1 x2 : FVec Ideal S16x2048x1024 .bf16) ((win0_6.blk t).view.emb (ix3 z r ⟨64 * (1 : Fin 2).val + d.val, by omega⟩)) := by
  refine Eq.trans (pay_apply1 _ _ _ _ _ _ _ r d z) (Eq.trans ?_ (ref_at x0 x1 x2 t z r 1 d).symm)
  refine head_eq x0 x1 x2 h0 h1 h2 (pb t) (pc t) (pr t) 1 _ _ _ _ _ _ ?_ ?_ ?_ ?_ ?_ ?_ r d
  · exact fun r l => read0 x0 t r l
  · exact fun j l => ld1 x0 t j l h
  · exact fun j l => ld2 x0 t j l h'
  · exact fun j l => read3 x1 t j l
  · exact fun j l => read4 x1 t j l
  · exact fun q k => (ldb1 X t q k hb').trans (hX (variant (pr t)) (pc t) 1 q k)

include h0 h1 h2 hX in
/-- A point of the grid writes the reference's values. -/
theorem point (t : Fin cfg0.N) (h h' hb hb') (y : S1x256x128.Idx) :
    pay (View.read (Elt Ideal) ((cfg0.win 0).blk t).view x0)
      (View.ld (View.read (Elt Ideal) ((cfg0.win 1).blk t).view x0 : FVec Ideal S1x2048x128 .bf16) (Rect.unit (k0_off1 (grid0.coords t)) ![1, 768, 128] h))
      (View.ld (View.read (Elt Ideal) ((cfg0.win 2).blk t).view x0 : FVec Ideal S1x2048x128 .bf16) (Rect.unit (k0_off1 (grid0.coords t)) ![1, 768, 128] h'))
      (View.read (Elt Ideal) ((cfg0.win 3).blk t).view x1) (View.read (Elt Ideal) ((cfg0.win 4).blk t).view x1)
      (View.ld (View.read (Elt Ideal) ((cfg0.win 5).blk t).view X : FVec Ideal S3x1x2x256x768 .f32) (Rect.unit (k0_off2 (grid0.coords t)) ![1, 1, 1, 256, 768] hb))
      (View.ld (View.read (Elt Ideal) ((cfg0.win 5).blk t).view X : FVec Ideal S3x1x2x256x768 .f32) (Rect.unit (k0_off3 (grid0.coords t)) ![1, 1, 1, 256, 768] hb')) y
      = (Cert.ReferenceIdeal.Read.val_main_v107 (F := Ideal) x0 x1 x2 : FVec Ideal S16x2048x1024 .bf16) ((win0_6.blk t).view.emb y) := by
  obtain ⟨z, r, l, rfl⟩ : ∃ (z : Fin 1) (r : Fin 256) (l : Fin 128), y = ix3 z r l := ⟨y 0, y 1, y 2, eq_ix3 y⟩
  by_cases hl : l.val < 64
  · have e : l = ⟨64 * (0 : Fin 2).val + (⟨l.val, hl⟩ : Fin 64).val, by show 0 + l.val < 128; omega⟩ := Fin.ext (Nat.zero_add _).symm
    rw [e]
    exact point0 x0 x1 x2 h0 h1 h2 X hX t h h' hb hb' z r ⟨l.val, hl⟩
  · have e : l = ⟨64 * (1 : Fin 2).val + (⟨l.val - 64, by omega⟩ : Fin 64).val, by show 64 + (l.val - 64) < 128; omega⟩ := Fin.ext (by show l.val = 64 + (l.val - 64); omega)
    rw [e]
    exact point1 x0 x1 x2 h0 h1 h2 X hX t h h' hb hb' z r ⟨l.val - 64, by omega⟩

section

variable (m : (ℓ : Loc nD τ sig) → Buf (Elt Ideal) ℓ)

theorem iblk_0 (c : Dev nD) (t : Fin cfg0.N) : iblk m c 0 t = View.read (Elt Ideal) ((cfg0.win 0).blk t).view (m (c, main_arg0)) :=
  congrArg (View.read (Elt Ideal) ((cfg0.win 0).blk t).view) (V_main_arg0 m c)
theorem iblk_1 (c : Dev nD) (t : Fin cfg0.N) : iblk m c 1 t = View.read (Elt Ideal) ((cfg0.win 1).blk t).view (m (c, main_arg0)) :=
  congrArg (View.read (Elt Ideal) ((cfg0.win 1).blk t).view) (V_main_arg0 m c)
theorem iblk_2 (c : Dev nD) (t : Fin cfg0.N) : iblk m c 2 t = View.read (Elt Ideal) ((cfg0.win 2).blk t).view (m (c, main_arg0)) :=
  congrArg (View.read (Elt Ideal) ((cfg0.win 2).blk t).view) (V_main_arg0 m c)
theorem iblk_3 (c : Dev nD) (t : Fin cfg0.N) : iblk m c 3 t = View.read (Elt Ideal) ((cfg0.win 3).blk t).view (m (c, main_arg1)) :=
  congrArg (View.read (Elt Ideal) ((cfg0.win 3).blk t).view) (V_main_arg1 m c)
theorem iblk_4 (c : Dev nD) (t : Fin cfg0.N) : iblk m c 4 t = View.read (Elt Ideal) ((cfg0.win 4).blk t).view (m (c, main_arg1)) :=
  congrArg (View.read (Elt Ideal) ((cfg0.win 4).blk t).view) (V_main_arg1 m c)

/-- The bias table the region finds. -/
theorem V_bias (c : Dev nD) (v : Fin 3) (k : Fin 8) (g : Fin 2) (q : Fin 256) (j : Fin 768) :
    biasB (StableHlo.after hosts (fun b => m (c, b))) (ix5 v k g q j) = biasAt (m (c, main_arg2)) (rsV v) (stV v) ⟨2 * k.val + g.val, by omega⟩ q.val j.val :=
  biasB_apply (good_after _) _ (after_arg _ main_arg2 (by decide)) v k g q j

theorem iblk_5 (c : Dev nD) (t : Fin cfg0.N) : iblk m c 5 t = View.read (Elt Ideal) ((cfg0.win 5).blk t).view (biasB (StableHlo.after hosts (fun b => m (c, b)))) := rfl

theorem final (c : Dev nD) (h0 : ∀ i, Re ((m (c, main_arg0) : XQ) i)) (h1 : ∀ i, Re ((m (c, main_arg1) : XC) i)) (h2 : ∀ i, Re ((m (c, main_arg2) : XB) i)) :
    (dats m 0 c).arrAt 6 cfg0.N = (Cert.ReferenceIdeal.Read.val_main_v107 (F := Ideal) (m (c, main_arg0)) (m (c, main_arg1)) (m (c, main_arg2)) : FVec Ideal S16x2048x1024 .bf16) := by
  refine (dats m 0 c).arrAt_eq_of_covers 6 _ covers fun t hf y => ?_
  have hp := fun h h' hb hb' => point _ _ _ h0 h1 h2 _ (V_bias m c) t h h' hb hb' y
  generalize (Cert.ReferenceIdeal.Read.val_main_v107 (F := Ideal) (m (c, main_arg0)) (m (c, main_arg1)) (m (c, main_arg2)) : FVec Ideal S16x2048x1024 .bf16) = G at hp ⊢
  blk_simp
  rw [after0_6]
  unfold outsAt0
  frame_out
  rw [iblk_0, iblk_1, iblk_2, iblk_3, iblk_4, iblk_5]
  unfold pay lanes at hp
  exact hp _ _ _ _

end

end Cert.NA
-- ==== Proof.Tok.lean ====
/- The reference of the expert call at an index, and what the precondition says of the token it reads. -/
module

public import proofs.«01_k».proof.Proof.Gen.Reference2Ideal
public import proofs.«01_k».proof.Proof.Gen.Reference2Ideal.Read
public import proofs.«01_k».proof.Pre_routed
public import Idealize.ShloMosaic.Lib.Pointwise

@[expose] public section

set_option maxRecDepth 16384

noncomputable section

namespace Cert.Exp

open Idealize.ShloMosaic Idealize.ShloMosaic.TcCoe Idealize.SL.Sem
open scoped BigOperators
open Cert.Reference2Ideal Cert.Reference2Ideal.Read

/-- The token a start-index word names: read signed, kept between 0 and 2047. -/
def tok (w : BitVec 32) : Fin 2048 := ⟨min w.toInt.toNat 2047, by omega⟩

/-- The gather of token rows, at an index. -/
theorem gather_rows {α : Type} (x : S16x2048x1024.Idx → α) (idx : IVec S16x16x256x1 32) (b e : Fin 16) (s : Fin 256) (k : Fin 1024) :
    Host.gather gather_S16x2048x1024_S16x16x256x1_S16x16x256x1024_3_1_0_0_1_3_111024 x idx (ix4 b e s k)
      = x (ix3 b (tok (idx (ix4 b e s 0))) k) := by
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.start, dif_neg (by decide), GatherDims.offCoord_eq_zero _ _ _ (by decide), GatherDims.batchCoord, dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide), GatherDims.start, dif_pos (by decide)]
    simp only [Nat.add_zero]
    refine congrArg (fun w : BitVec 32 => min w.toInt.toNat 2047) (congrArg idx ?_)
    funext j
    refine Fin.ext ?_
    match j with
    | ⟨0, _⟩ => rfl
    | ⟨1, _⟩ => rfl
    | ⟨2, _⟩ => rfl
    | ⟨3, _⟩ => rfl
  | ⟨2, _⟩ =>
    show GatherDims.start _ _ idx 2 + GatherDims.batchCoord _ _ 2 + GatherDims.offCoord _ _ 2 = k.val
    rw [GatherDims.start, dif_neg (by decide), GatherDims.batchCoord_eq_zero _ _ _ (by decide), GatherDims.offCoord, dif_pos (by decide)]
    simp only [Nat.zero_add, Nat.add_zero]
    rfl

/-- The gather of gates, at an index. -/
theorem gather_gates {α : Type} (x : S16x16x2048.Idx → α) (idx : IVec S16x16x256x1 32) (b e : Fin 16) (s : Fin 256) :
    Host.gather gather_S16x16x2048_S16x16x256x1_S16x16x256_n_2_01_01_2_3_111 x idx (ix3 b e s)
      = x (ix3 b e (tok (idx (ix4 b e s 0)))) := by
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.start, dif_neg (by decide), GatherDims.offCoord_eq_zero _ _ _ (by decide), GatherDims.batchCoord, dif_pos (by decide)]
    simp only [Nat.zero_add, Nat.add_zero]
    rfl
  | ⟨1, _⟩ =>
    show GatherDims.start _ _ idx 1 + GatherDims.batchCoord _ _ 1 + GatherDims.offCoord _ _ 1 = e.val
    rw [GatherDims.start, dif_neg (by decide), GatherDims.offCoord_eq_zero _ _ _ (by decide), GatherDims.batchCoord, dif_pos (by decide)]
    simp only [Nat.zero_add, Nat.add_zero]
    rfl
  | ⟨2, _⟩ =>
    show GatherDims.start _ _ idx 2 + GatherDims.batchCoord _ _ 2 + GatherDims.offCoord _ _ 2 = _
    rw [GatherDims.batchCoord_eq_zero _ _ _ (by decide), GatherDims.offCoord_eq_zero _ _ _ (by decide), GatherDims.start, dif_pos (by decide)]
    simp only [Nat.add_zero]
    refine congrArg (fun w : BitVec 32 => min w.toInt.toNat 2047) (congrArg idx ?_)
    funext j
    refine Fin.ext ?_
    match j with
    | ⟨0, _⟩ => rfl
    | ⟨1, _⟩ => rfl
    | ⟨2, _⟩ => rfl
    | ⟨3, _⟩ => rfl

/-- A word between 0 and 2047, read signed. -/
theorem word_range {w : BitVec 32} (h0 : IntOp.cmpi .sge w 0#32 = 1#1) (h1 : IntOp.cmpi .slt w 2048#32 = 1#1) : w.toNat < 2048 := by
  have a0 : BitVec.ofBool (BitVec.sle 0#32 w) = 1#1 := h0
  have a1 : BitVec.ofBool (BitVec.slt w 2048#32) = 1#1 := h1
  have b0 : BitVec.sle 0#32 w = true := by
    cases hh : BitVec.sle 0#32 w
    · rw [hh] at a0; exact absurd a0 (by decide)
    · rfl
  have b1 : BitVec.slt w 2048#32 = true := by
    cases hh : BitVec.slt w 2048#32
    · rw [hh] at a1; exact absurd a1 (by decide)
    · rfl
  rw [BitVec.sle_iff_toInt_le] at b0
  rw [BitVec.slt_iff_toInt_lt] at b1
  have c0 : (0#32 : BitVec 32).toInt = 0 := by decide
  have c1 : (2048#32 : BitVec 32).toInt = 2048 := by decide
  rw [c0] at b0
  rw [c1] at b1
  rw [BitVec.toInt_eq_toNat_cond] at b0 b1
  have := w.isLt
  split_ifs at b0 b1 <;> omega

/-- The token of such a word, after the shift of negative words. -/
theorem tok_wrap {w : BitVec 32} (hw : w.toNat < 2048) :
    (tok (Scalar.select (IntOp.cmpi .slt w 0#32) (IntOp.addi w 2048#32) w)).val = w.toNat := by
  have hi : w.toInt = w.toNat := by
    rw [BitVec.toInt_eq_toNat_cond, if_pos (by omega)]
  have hs : BitVec.slt w 0#32 = false := by
    cases hh : BitVec.slt w 0#32
    · rfl
    · rw [BitVec.slt_iff_toInt_lt, hi] at hh
      have c0 : (0#32 : BitVec 32).toInt = 0 := by decide
      omega
  have hc : IntOp.cmpi .slt w 0#32 = 0#1 := by
    show BitVec.ofBool (BitVec.slt w 0#32) = 0#1
    rw [hs]; rfl
  rw [hc]
  show min w.toInt.toNat 2047 = w.toNat
  rw [hi]
  omega

theorem routed_facts : Cert.Pre_routed.Facts := by
  constructor <;> decide

theorem noti_xori {a b : BitVec 1} (h : ~~~(a ^^^ b) = 1#1) : a = b := by
  revert h; revert a b; decide

/-- The precondition: the listed token is one of the 2048, and a token holds a slot exactly when the slot lists it. -/
theorem routed [hp : Cert.Pre_routed.Facts] (x0) (x1 : IVec S16x16x2048 32) (x2) (x3 : IVec S16x16x256 32) (x4 x5 x6)
    (h : (Cert.Pre_routed.fn (F := Ideal) x0 x1 x2 x3 x4 x5 x6).1 = (fun _ => 1#1) ∧ (Cert.Pre_routed.fn (F := Ideal) x0 x1 x2 x3 x4 x5 x6).2.1 = (fun _ => 1#1)
      ∧ (Cert.Pre_routed.fn (F := Ideal) x0 x1 x2 x3 x4 x5 x6).2.2 = (fun _ => 1#1)) (b e : Fin 16) (s : Fin 256) :
    (x3 (ix3 b e s)).toNat < 2048
      ∧ ∀ t : Fin 2048, IntOp.cmpi .eq (x1 (ix3 b e t)) (BitVec.ofNat 32 s.val) = IntOp.cmpi .eq (x3 (ix3 b e s)) (BitVec.ofNat 32 t.val) := by
  obtain ⟨h0, h1, h2⟩ := h
  refine ⟨word_range (congrFun h0 (ix3 b e s)) (congrFun h1 (ix3 b e s)), fun t => ?_⟩
  have h := congrFun h2 (ix4 b e s t)
  unfold Cert.Pre_routed.fn at h
  simp only [] at h
  pointwise [] at h
  exact noti_xori h

/-- One entry of the expert's feed-forward of a token `a`: the hidden row `silu (a Wg) * (a Wu)` against a column of the last weight. -/
def ffn (a : Fin 1024 → EReal) (wg wu : Fin 1024 → Fin 2048 → EReal) (wd : Fin 2048 → EReal) : EReal :=
  ∑ f, ((∑ k, a k * wg k f) * Ideal.div 1 (1 + Ideal.exp (-∑ k, a k * wg k f)) * ∑ k, a k * wu k f) * wd f

/-- The sum of `v t` over the tokens `t` whose slot word is `s`. -/
def inSlot (w : Fin 2048 → BitVec 32) (s : ℕ) (v : Fin 2048 → EReal) : EReal :=
  ∑ t, Scalar.select (IntOp.cmpi .eq (w t) (BitVec.ofNat 32 s)) (v t) 0

/-- A sum over the tokens with a slot is the value at the token the slot lists. -/
theorem inSlot_eq {w : Fin 2048 → BitVec 32} {s : ℕ} {i : BitVec 32} (hi : i.toNat < 2048)
    (h : ∀ t : Fin 2048, IntOp.cmpi .eq (w t) (BitVec.ofNat 32 s) = IntOp.cmpi .eq i (BitVec.ofNat 32 t.val)) (v : Fin 2048 → EReal) :
    inSlot w s v = v (tok (Scalar.select (IntOp.cmpi .slt i 0#32) (IntOp.addi i 2048#32) i)) := by
  have ht := tok_wrap hi
  generalize tok (Scalar.select (IntOp.cmpi .slt i 0#32) (IntOp.addi i 2048#32) i) = a at ht ⊢
  have hc : ∀ t : Fin 2048, IntOp.cmpi .eq i (BitVec.ofNat 32 t.val) = if t = a then 1#1 else 0#1 := by
    intro t
    show BitVec.ofBool (i == BitVec.ofNat 32 t.val) = _
    by_cases hta : t = a
    · subst hta
      rw [if_pos rfl, show i = BitVec.ofNat 32 t.val from BitVec.eq_of_toNat_eq (by rw [BitVec.toNat_ofNat]; omega)]
      simp
    · rw [if_neg hta]
      have hne : i ≠ BitVec.ofNat 32 t.val := by
        intro he
        apply hta
        apply Fin.ext
        rw [ht, he, BitVec.toNat_ofNat]
        have := t.isLt
        omega
      rw [beq_eq_false_iff_ne.mpr hne]
      rfl
  unfold inSlot
  rw [Finset.sum_eq_single a]
  · rw [h, hc, if_pos rfl]
    rfl
  · intro t _ hta
    rw [h, hc, if_neg hta]
    rfl
  · intro hn
    exact absurd (Finset.mem_univ a) hn

theorem v14_apply (x0 : FVec Ideal S16x2048x1024 .bf16) (x3 : IVec S16x16x256 32) (b e : Fin 16) (s : Fin 256) (k : Fin 1024) :
    val_main_v14 (F := Ideal) x0 x3 (ix4 b e s k)
      = x0 (ix3 b (tok (Scalar.select (IntOp.cmpi .slt (x3 (ix3 b e s)) 0#32) (IntOp.addi (x3 (ix3 b e s)) 2048#32) (x3 (ix3 b e s)))) k) := by
  unfold val_main_v14
  rw [gather_rows]
  pointwise [val_main_v7, val_main_v8, val_main_v9, val_main_v10, val_main_v11, val_main_v12, val_main_v13, val_main_c_1, val_main_c_2]

theorem v6_apply (x2 : FVec Ideal S16x16x2048 .f32) (x3 : IVec S16x16x256 32) (b e : Fin 16) (s : Fin 256) :
    val_main_v6 (F := Ideal) x2 x3 (ix3 b e s)
      = x2 (ix3 b e (tok (Scalar.select (IntOp.cmpi .slt (x3 (ix3 b e s)) 0#32) (IntOp.addi (x3 (ix3 b e s)) 2048#32) (x3 (ix3 b e s))))) := by
  unfold val_main_v6
  rw [gather_gates]
  pointwise [val_main_v0, val_main_v1, val_main_v2, val_main_v3, val_main_v4, val_main_v5, val_main_c, val_main_c_0]

/-- The reference at an index, under the precondition: the feed-forward of the token that holds the slot, times its gate. -/
theorem ref_apply (x0 : FVec Ideal S16x2048x1024 .bf16) (x1 : IVec S16x16x2048 32) (x2 : FVec Ideal S16x16x2048 .f32) (x3 : IVec S16x16x256 32)
    (x4 x5 : FVec Ideal S16x1024x2048 .f32) (x6 : FVec Ideal S16x2048x1024 .f32) (b e : Fin 16) (s : Fin 256) (d : Fin 1024)
    (hi : (x3 (ix3 b e s)).toNat < 2048)
    (h : ∀ t : Fin 2048, IntOp.cmpi .eq (x1 (ix3 b e t)) (BitVec.ofNat 32 s.val) = IntOp.cmpi .eq (x3 (ix3 b e s)) (BitVec.ofNat 32 t.val)) :
    val_main_v26 (F := Ideal) x0 x2 x3 x4 x5 x6 (ix4 b e s d)
      = ffn (fun k => inSlot (fun t => x1 (ix3 b e t)) s.val (fun t => x0 (ix3 b t k)))
          (fun k f => x4 (ix3 e k f)) (fun k f => x5 (ix3 e k f)) (fun f => x6 (ix3 e f d))
        * inSlot (fun t => x1 (ix3 b e t)) s.val (fun t => x2 (ix3 b e t)) := by
  rw [inSlot_eq hi h, funext fun k => inSlot_eq hi h fun t => x0 (ix3 b t k)]
  pointwise [val_main_v26, val_main_v25, val_main_v24, val_main_v23, val_main_v22, val_main_v21, val_main_v20, val_main_v19, val_main_v18, val_main_v17, val_main_v16, val_main_v15, val_main_call0_v0, val_main_call0_v1, val_main_call0_v2, val_main_call0_v3, val_main_call0_v4, val_main_call0_v5, val_main_call0_cst, val_main_call0_cst_0]
  simp only [v14_apply, v6_apply]
  unfold ffn
  refine congrArg (· * _) (Finset.sum_congr rfl fun f _ => ?_)
  rw [mul_comm]
  simp only [mul_comm (x4 _), mul_comm (x5 _)]

end Cert.Exp

end
-- ==== Proof.Exp.lean ====
/- What one grid point of the expert call computes: for each of two samples and each slot of an expert, the feed-forward of the slot's token times its gate. -/
module

public import proofs.«01_k».proof.Proof.Gen.Kernel2Ideal.Frame
public import proofs.«01_k».proof.Proof.Gen.Kernel2Ideal.Value
public import proofs.«01_k».proof.Proof.Tok
public import Idealize.ShloMosaic.Lib.Pipeline.ValueKit
public import Idealize.ShloMosaic.Lib.Claim

@[expose] public section

set_option maxRecDepth 16384

noncomputable section

namespace Cert.Exp

open Idealize.ShloMosaic Idealize.ShloMosaic.TcCoe Idealize.SL.Sem
open Idealize.ShloMosaic.Pipeline (Dat)
open scoped BigOperators
open Cert.Kernel2Ideal Cert.Kernel2Ideal.Gen

/-- The staging buffer after the body, entry by entry, from the input blocks. -/
theorem block (X : Vec Ideal S2x2048x1024 .bf16) (SL : Vec Ideal S2x1x1x2048 .i32) (G : Vec Ideal S2x1x1x2048 .f32)
    (Wg Wu : Vec Ideal S1x1024x2048 .bf16) (Wd : Vec Ideal S1x2048x1024 .bf16) (y : S2x1x256x1024.Idx) :
    out0_6 X SL G Wg Wu Wd y
      = ffn (fun k => inSlot (fun t => SL (ix4 (y 0) 0 0 t)) (y 2).val (fun t => X (ix3 (y 0) t k)))
          (fun k f => Wg (ix3 0 k f)) (fun k f => Wu (ix3 0 k f)) (fun f => Wd (ix3 0 f (y 3)))
        * inSlot (fun t => SL (ix4 (y 0) 0 0 t)) (y 2).val (fun t => G (ix4 (y 0) 0 0 t)) := by
  canon_tiles x h
  all_goals
    open_payloads
    pointwise [k0_pay1, k0_pay2, k0_pay3, k0_pay4, k0_pay5, k0_pay6, k0_pay7, k0_pay8, k0_pay9, k0_pay10, ffn, inSlot]
    simp only [zero_sub]
    blk_point []
    exact h2.symm

variable (m : (ℓ : Loc nD τ sig) → Buf (Elt Ideal) ℓ)

/-- Which block of each array a grid point's windows hold. -/
theorem idx_val : ∀ t : Fin cfg0.N, win0_0.index t = ![t.val % 8, 0, 0]
    ∧ win0_1.index t = ![t.val % 8, t.val / 8, 0, 0]
    ∧ win0_2.index t = ![t.val % 8, t.val / 8, 0, 0]
    ∧ win0_3.index t = ![t.val / 8, 0, 0]
    ∧ win0_4.index t = ![t.val / 8, 0, 0]
    ∧ win0_5.index t = ![t.val / 8, 0, 0]
    ∧ win0_6.index t = ![t.val % 8, t.val / 8, 0, 0] :=
  (by decide +kernel : ∀ t : Fin grid0.N, _)

/-- The value at an index of the result, from the arguments. -/
def val (x0 : FVec Ideal S16x2048x1024 .bf16) (x1 : IVec S16x16x2048 32) (x2 : FVec Ideal S16x16x2048 .f32)
    (x4 x5 : FVec Ideal S16x1024x2048 .f32) (x6 : FVec Ideal S16x2048x1024 .f32) (y : S16x16x256x1024.Idx) : EReal :=
  ffn (fun k => inSlot (fun t => x1 (ix3 (y 0) (y 1) t)) (y 2).val (fun t => x0 (ix3 (y 0) t k)))
    (fun k f => x4 (ix3 (y 1) k f)) (fun k f => x5 (ix3 (y 1) k f)) (fun f => x6 (ix3 (y 1) f (y 3)))
  * inSlot (fun t => x1 (ix3 (y 0) (y 1) t)) (y 2).val (fun t => x2 (ix3 (y 0) (y 1) t))

/-- What the body stores at an index of a block is that value at the block's place in the array. -/
theorem point (c : Dev nD) (t : Fin cfg0.N) (y) :
    out0_6 (iblk m c 0 t) (iblk m c 1 t) (iblk m c 2 t) (iblk m c 3 t) (iblk m c 4 t) (iblk m c 5 t) y
      = val (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (((cfg0.win 6).blk t).view.emb y) := by
  rw [block]
  unfold val
  pointwise [ffn, inSlot]
  blk_point [iblk, V, idx_val t]

/-- The result array after the run. -/
theorem final (c : Dev nD) : (dats m 0 c).arrAt 6 (cfgs 0).N
    = val (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) := by
  refine (dats m 0 c).arrAt_eq_of_covers 6 _ (by decide +kernel) fun t hf y => ?_
  blk_simp
  rw [after0_6]
  exact point m c t y

end Cert.Exp

end
-- ==== Proof.ConvIn.lean ====
/- The convolution module's first projection with its gate: the array that the call leaves is the reference's. -/
module

public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.ConvIn

open Idealize.ShloMosaic Idealize.ShloMosaic.TcCoe Idealize.SL.Sem
open Idealize.ShloMosaic.Pipeline (Dat)
open scoped BigOperators
open Cert.Kernel3Ideal Cert.Kernel3Ideal.Gen

variable (m : (ℓ : Loc nD τ sig) → Buf (Elt Ideal) ℓ)

/-- Where each window's block sits at a grid point: the point runs over samples and row tiles. -/
theorem idx_val : ∀ t : Fin cfg0.N, win0_0.index t = ![t.val / 4, t.val % 4, 0]
    ∧ win0_1.index t = ![t.val / 4, 0, 0]
    ∧ win0_2.index t = ![t.val / 4, 0, 0]
    ∧ win0_3.index t = ![0, 0]
    ∧ win0_4.index t = ![0, 1]
    ∧ win0_5.index t = ![0, 0]
    ∧ win0_6.index t = ![0, 1]
    ∧ win0_7.index t = ![t.val / 4, t.val % 4, 0] :=
  (by decide +kernel : ∀ t : Fin grid0.N, _)

open Cert.Reference3Ideal.Read in
/-- What the body stores at an index of a block is the reference at that block's place in the array. -/
theorem point (c : Dev nD) (t : Fin cfg0.N) (y) :
    k0_pay1 (k0_pay3 (iblk m c 0 t) (iblk m c 1 t) (iblk m c 2 t) (iblk m c 3 t) (iblk m c 5 t)) (k0_pay4 (iblk m c 0
      t) (iblk m c 1 t) (iblk m c 2 t) (iblk m c 4 t) (iblk m c 6 t)) y
      = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, k0_pay2, k0_pay3, k0_pay4, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18]
  simp only [zero_sub]
  blk_point [iblk, V, idx_val t]

/-- The result array after the run is the reference's. -/
theorem final (c : Dev nD) : (dats m 0 c).arrAt 7 (cfgs 0).N
    = Cert.Reference3Ideal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  exact point m c t y

end Cert.ConvIn

end
-- ==== Proof.Qkv.lean ====
/- The query, key and value projection: the array that the call leaves is the reference's. -/
module

public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Qkv

open Idealize.ShloMosaic Idealize.ShloMosaic.TcCoe Idealize.SL.Sem
open Idealize.ShloMosaic.Pipeline (Dat)
open scoped BigOperators
open Cert.Kernel4Ideal Cert.Kernel4Ideal.Gen

variable (m : (ℓ : Loc nD τ sig) → Buf (Elt Ideal) ℓ)

/-- Where each window's block sits at a grid point: the point runs over thirds of the result's columns, samples and row tiles. -/
theorem idx_val : ∀ t : Fin cfg0.N, win0_0.index t = ![t.val / 4 % 16, t.val % 4, 0]
    ∧ win0_1.index t = ![t.val / 4 % 16, 0, 0]
    ∧ win0_2.index t = ![t.val / 4 % 16, 0, 0]
    ∧ win0_3.index t = ![0, t.val / 64]
    ∧ win0_4.index t = ![t.val / 4 % 16, t.val % 4, t.val / 64] :=
  (by decide +kernel : ∀ t : Fin grid0.N, _)

open Cert.Reference4Ideal.Read in
/-- What the body stores at an index of a block is the reference at that block's place in the array. -/
theorem point (c : Dev nD) (t : Fin cfg0.N) (y) :
    k0_pay1 (iblk m c 0 t) (iblk m c 1 t) (iblk m c 2 t) (iblk m c 3 t) y
      = val_main_v7 (F := Ideal) (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, val_main_cst, val_main_v0, val_main_v1, val_main_v2, val_main_v3, val_main_v4, val_main_v5, val_main_v6, val_main_v7]
  blk_point [iblk, V, idx_val t]

/-- The result array after the run is the reference's. -/
theorem final (c : Dev nD) : (dats m 0 c).arrAt 4 (cfgs 0).N
    = Cert.Reference4Ideal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point m c t y

end Cert.Qkv

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.BitsFrame
public import proofs.«01_k».proof.Proof.IdealFrame
public import proofs.«01_k».proof.Proof.IdealValue
public import proofs.«01_k».proof.Proof.Point
public import proofs.«01_k».proof.Proof.Tok
public import proofs.«01_k».proof.Proof.Exp
public import proofs.«01_k».proof.Proof.ConvIn
public import proofs.«01_k».proof.Proof.Qkv
public import Idealize.ShloMosaic.Lib.Quiescent
public import Idealize.ShloMosaic.Lib.Claim

@[expose] public section

noncomputable section

namespace Cert.Proof

open Idealize.ShloMosaic Idealize.SL.Sem

/-- The reference runs, keeps its arguments and has no semaphore. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) _⟩) (Cert.ReferenceIdeal.Value.run m g)

/-- On real-valued arguments both idealized programs end with the reference's result. -/
theorem value : @Cert.algebraic_KernelIdeal_ReferenceIdeal_pre_finite Cert.KernelIdeal.Gen.facts Cert.ReferenceIdeal.Gen.facts Cert.NA.pre_facts := by
  intro m g m' g' hpre hagree
  refine ⟨fun c => Cert.ReferenceIdeal.Read.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ⟨(h c).1.trans ?_, (h c).2⟩) (Cert.KernelIdeal.HandValue.run_blocks m g)
    obtain ⟨h0, h1, h2⟩ := @Cert.NA.pre_re Cert.NA.pre_facts _ _ _ (hpre c)
    exact Cert.NA.final m c h0 h1 h2
  · refine (θ_run _ _ _).mono (fun r h c => ⟨(h c).1.trans ?_, (h c).2⟩) (Cert.ReferenceIdeal.Value.run m' g')
    obtain ⟨e0, e1, e2⟩ := hagree c
    rw [Cert.ReferenceIdeal.Read.val_main_v107_eq, e0, e1, e2]

/-- The reference of the experts' feed-forward runs, keeps its arguments and has no semaphore. -/
theorem frame_ref2 : @Cert.quiescent_Reference2Ideal Cert.Reference2Ideal.Gen.facts :=
  fun m g _ => (θ_run _ _ _).mono (fun r h => ⟨fun c => (h c).2, sem_eq_zero_of_no_sems (by decide) _⟩) (Cert.Reference2Ideal.Value.run m g)

/-- The reference of the convolution layers' input map runs, keeps its arguments and has no semaphore. -/
theorem frame_ref3 : @Cert.quiescent_Reference3Ideal Cert.Reference3Ideal.Gen.facts :=
  fun m g _ => (θ_run _ _ _).mono (fun r h => ⟨fun c => (h c).2, sem_eq_zero_of_no_sems (by decide) _⟩) (Cert.Reference3Ideal.Value.run m g)

/-- The reference of the query-key-value map runs, keeps its arguments and has no semaphore. -/
theorem frame_ref4 : @Cert.quiescent_Reference4Ideal Cert.Reference4Ideal.Gen.facts :=
  fun m g _ => (θ_run _ _ _).mono (fun r h => ⟨fun c => (h c).2, sem_eq_zero_of_no_sems (by decide) _⟩) (Cert.Reference4Ideal.Value.run m g)

/-- The same under the precondition. -/
theorem frame_ref2_pre : @Cert.quiescent_Reference2Ideal_pre_routed Cert.Reference2Ideal.Gen.facts Cert.Exp.routed_facts :=
  fun m g _ => (θ_run _ _ _).mono (fun r h => ⟨fun c => (h c).2, sem_eq_zero_of_no_sems (by decide) _⟩) (Cert.Reference2Ideal.Value.run m g)

/-- Where slots and listed tokens agree, both idealized programs of the experts' feed-forward end with the reference's result. -/
theorem value2 : @Cert.algebraic_Kernel2Ideal_Reference2Ideal_pre_routed Cert.Kernel2Ideal.Gen.facts Cert.Reference2Ideal.Gen.facts Cert.Exp.routed_facts := by
  intro m g m' g' hpre hagree
  refine ⟨fun c => Cert.Reference2Ideal.Read.val_main_v26 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)), ?_, ?_⟩
  · refine (θ_run _ _ _).mono (fun r h c => ⟨(h c).1.trans ?_, (h c).2⟩) (Cert.Kernel2Ideal.Value.run_blocks m g)
    refine (Cert.Exp.final m c).trans ?_
    funext y
    obtain ⟨b, e, s, d, rfl⟩ : ∃ (b e : Fin 16) (s : Fin 256) (d : Fin 1024), y = ix4 b e s d :=
      ⟨y 0, y 1, y 2, y 3, by funext a; match a with | ⟨0, _⟩ => rfl | ⟨1, _⟩ => rfl | ⟨2, _⟩ => rfl | ⟨3, _⟩ => rfl⟩
    obtain ⟨hi, ht⟩ := @Cert.Exp.routed Cert.Exp.routed_facts _ _ _ _ _ _ _ (hpre c) b e s
    exact (Cert.Exp.ref_apply _ _ _ _ _ _ _ b e s d hi ht).symm
  · refine (θ_run _ _ _).mono (fun r h c => ⟨(h c).1.trans ?_, (h c).2⟩) (Cert.Reference2Ideal.Value.run m' g')
    obtain ⟨e0, e1, e2, e3, e4, e5, e6⟩ := hagree c
    rw [Cert.Reference2Ideal.Read.val_main_v26_eq, e0, e2, e3, e4, e5, e6]

/-- Both idealized programs of the convolution layers' input map end with the reference's result. -/
theorem value3 : @Cert.algebraic_Kernel3Ideal_Reference3Ideal Cert.Kernel3Ideal.Gen.facts Cert.Reference3Ideal.Gen.facts := by
  intro m g m' g' _ hagree
  refine ⟨fun c => Cert.Reference3Ideal.Read.val_main_v18 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run _ _ _).mono (fun r h c => ⟨(h c).1.trans ?_, (h c).2⟩) (Cert.Kernel3Ideal.Value.run_blocks m g)
    exact Cert.ConvIn.final m c
  · refine (θ_run _ _ _).mono (fun r h c => ⟨(h c).1.trans ?_, (h c).2⟩) (Cert.Reference3Ideal.Value.run m' g')
    obtain ⟨e0, e1, e2, e3, e4⟩ := hagree c
    rw [Cert.Reference3Ideal.Read.val_main_v18_eq, e0, e1, e2, e3, e4]

/-- Both idealized programs of the query-key-value map end with the reference's result. -/
theorem value4 : @Cert.algebraic_Kernel4Ideal_Reference4Ideal Cert.Kernel4Ideal.Gen.facts Cert.Reference4Ideal.Gen.facts := by
  intro m g m' g' _ hagree
  refine ⟨fun c => Cert.Reference4Ideal.Read.val_main_v7 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run _ _ _).mono (fun r h c => ⟨(h c).1.trans ?_, (h c).2⟩) (Cert.Kernel4Ideal.Value.run_blocks m g)
    exact Cert.Qkv.final m c
  · refine (θ_run _ _ _).mono (fun r h c => ⟨(h c).1.trans ?_, (h c).2⟩) (Cert.Reference4Ideal.Value.run m' g')
    obtain ⟨e0, e1, e2, e3⟩ := hagree c
    rw [Cert.Reference4Ideal.Read.val_main_v7_eq, e0, e1, e2, e3]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.NA.pre_facts, Cert.Exp.routed_facts,
    fun m g _ => Cert.Kernel.Hand.frame m g,
    fun m g _ => Cert.KernelIdeal.Hand.frame m g,
    fun m g _ => Cert.KernelIdeal.Hand.frame m g,
    fun m g _ => frame_ref m g,
    fun m g _ => frame_ref m g,
    fun m g _ => Cert.Kernel2.Gen.frame m g,
    fun m g _ => Cert.Kernel2Ideal.Gen.frame m g,
    fun m g _ => Cert.Kernel2Ideal.Gen.frame m g,
    frame_ref2,
    frame_ref2_pre,
    fun m g _ => Cert.Kernel3.Gen.frame m g,
    fun m g _ => Cert.Kernel3Ideal.Gen.frame m g,
    frame_ref3,
    fun m g _ => Cert.Kernel4.Gen.frame m g,
    fun m g _ => Cert.Kernel4Ideal.Gen.frame m g,
    frame_ref4,
    trivial,
    value,
    trivial,
    value2,
    trivial,
    value3,
    trivial,
    value4⟩

end Cert.Proof

end
